-- ==== Defs.lean ====
def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Lookup [hPre_rows : Cert.Pre_rows.Facts] (m : (ℓ : Loc Cert.Lookup.nD Cert.Lookup.τ Cert.Lookup.sig) → Buf (Elt Bits) ℓ) : Prop :=
  ∀ c : Dev Cert.Lookup.nD,
    (Cert.Pre_rows.fn (F := Bits) (m ((c.tc : Thread Cert.Lookup.nD Cert.Lookup.τ).loc Cert.Lookup.main_arg0)) (m ((c.tc : Thread Cert.Lookup.nD Cert.Lookup.τ).loc Cert.Lookup.main_arg1)) (m ((c.tc : Thread Cert.Lookup.nD Cert.Lookup.τ).loc Cert.Lookup.main_arg2))) = (fun _ => 1#1)

def Pre_LookupIdeal [hPre_rows : Cert.Pre_rows.Facts] (m : (ℓ : Loc Cert.LookupIdeal.nD Cert.LookupIdeal.τ Cert.LookupIdeal.sig) → Buf (Elt Ideal) ℓ) : Prop :=
  ∀ c : Dev Cert.LookupIdeal.nD,
    (Cert.Pre_rows.fn (F := Ideal) (m ((c.tc : Thread Cert.LookupIdeal.nD Cert.LookupIdeal.τ).loc Cert.LookupIdeal.main_arg0)) (m ((c.tc : Thread Cert.LookupIdeal.nD Cert.LookupIdeal.τ).loc Cert.LookupIdeal.main_arg1)) (m ((c.tc : Thread Cert.LookupIdeal.nD Cert.LookupIdeal.τ).loc Cert.LookupIdeal.main_arg2))) = (fun _ => 1#1)

def Pre_LookupReferenceIdeal (m : (ℓ : Loc Cert.LookupReferenceIdeal.nD Cert.LookupReferenceIdeal.τ Cert.LookupReferenceIdeal.sig) → Buf (Elt Ideal) ℓ) : Prop :=
  True

def Pre_LookupReferenceIdeal_rows [hPre_rows : Cert.Pre_rows.Facts] (m : (ℓ : Loc Cert.LookupReferenceIdeal.nD Cert.LookupReferenceIdeal.τ Cert.LookupReferenceIdeal.sig) → Buf (Elt Ideal) ℓ) : Prop :=
  ∀ c : Dev Cert.LookupReferenceIdeal.nD,
    (Cert.Pre_rows.fn (F := Ideal) (m ((c.tc : Thread Cert.LookupReferenceIdeal.nD Cert.LookupReferenceIdeal.τ).loc Cert.LookupReferenceIdeal.main_arg0)) (m ((c.tc : Thread Cert.LookupReferenceIdeal.nD Cert.LookupReferenceIdeal.τ).loc Cert.LookupReferenceIdeal.main_arg1)) (m ((c.tc : Thread Cert.LookupReferenceIdeal.nD Cert.LookupReferenceIdeal.τ).loc Cert.LookupReferenceIdeal.main_arg2))) = (fun _ => 1#1)

def Pre_LookupReference [hPre_rows : Cert.Pre_rows.Facts] (m : (ℓ : Loc Cert.LookupReference.nD Cert.LookupReference.τ Cert.LookupReference.sig) → Buf (Elt Bits) ℓ) : Prop :=
  ∀ c : Dev Cert.LookupReference.nD,
    (Cert.Pre_rows.fn (F := Bits) (m ((c.tc : Thread Cert.LookupReference.nD Cert.LookupReference.τ).loc Cert.LookupReference.main_arg0)) (m ((c.tc : Thread Cert.LookupReference.nD Cert.LookupReference.τ).loc Cert.LookupReference.main_arg1)) (m ((c.tc : Thread Cert.LookupReference.nD Cert.LookupReference.τ).loc Cert.LookupReference.main_arg2))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Lookup [hLookup : Cert.Lookup.Facts] [hPre_rows : Cert.Pre_rows.Facts] : Prop :=
  ∀ (m : (ℓ : Loc Cert.Lookup.nD Cert.Lookup.τ Cert.Lookup.sig) → Buf (Elt Bits) ℓ) (g : Dev Cert.Lookup.nD → PrngReg), Pre_Lookup m →
    θ_run (Cert.Lookup.defs (F := Bits)) (Cert.Lookup.threads (F := Bits)) ⟨m, fun _ => 0, g⟩ (fun r => (∀ c : Dev Cert.Lookup.nD,
      r.2.mem ((c.tc : Thread Cert.Lookup.nD Cert.Lookup.τ).loc Cert.Lookup.main_arg0) = m ((c.tc : Thread Cert.Lookup.nD Cert.Lookup.τ).loc Cert.Lookup.main_arg0)
      ∧ r.2.mem ((c.tc : Thread Cert.Lookup.nD Cert.Lookup.τ).loc Cert.Lookup.main_arg1) = m ((c.tc : Thread Cert.Lookup.nD Cert.Lookup.τ).loc Cert.Lookup.main_arg1)
      ∧ r.2.mem ((c.tc : Thread Cert.Lookup.nD Cert.Lookup.τ).loc Cert.Lookup.main_arg2) = m ((c.tc : Thread Cert.Lookup.nD Cert.Lookup.τ).loc Cert.Lookup.main_arg2))
      ∧ r.2.sem = fun _ => 0)

def quiescent_LookupIdeal [hLookupIdeal : Cert.LookupIdeal.Facts] [hPre_rows : Cert.Pre_rows.Facts] : Prop :=
  ∀ (m : (ℓ : Loc Cert.LookupIdeal.nD Cert.LookupIdeal.τ Cert.LookupIdeal.sig) → Buf (Elt Ideal) ℓ) (g : Dev Cert.LookupIdeal.nD → PrngReg), Pre_LookupIdeal m →
    θ_run (Cert.LookupIdeal.defs (F := Ideal)) (Cert.LookupIdeal.threads (F := Ideal)) ⟨m, fun _ => 0, g⟩ (fun r => (∀ c : Dev Cert.LookupIdeal.nD,
      r.2.mem ((c.tc : Thread Cert.LookupIdeal.nD Cert.LookupIdeal.τ).loc Cert.LookupIdeal.main_arg0) = m ((c.tc : Thread Cert.LookupIdeal.nD Cert.LookupIdeal.τ).loc Cert.LookupIdeal.main_arg0)
      ∧ r.2.mem ((c.tc : Thread Cert.LookupIdeal.nD Cert.LookupIdeal.τ).loc Cert.LookupIdeal.main_arg1) = m ((c.tc : Thread Cert.LookupIdeal.nD Cert.LookupIdeal.τ).loc Cert.LookupIdeal.main_arg1)
      ∧ r.2.mem ((c.tc : Thread Cert.LookupIdeal.nD Cert.LookupIdeal.τ).loc Cert.LookupIdeal.main_arg2) = m ((c.tc : Thread Cert.LookupIdeal.nD Cert.LookupIdeal.τ).loc Cert.LookupIdeal.main_arg2))
      ∧ r.2.sem = fun _ => 0)

def quiescent_LookupReferenceIdeal [hLookupReferenceIdeal : Cert.LookupReferenceIdeal.Facts] : Prop :=
  ∀ (m : (ℓ : Loc Cert.LookupReferenceIdeal.nD Cert.LookupReferenceIdeal.τ Cert.LookupReferenceIdeal.sig) → Buf (Elt Ideal) ℓ) (g : Dev Cert.LookupReferenceIdeal.nD → PrngReg), Pre_LookupReferenceIdeal m →
    θ_run (Cert.LookupReferenceIdeal.defs (F := Ideal)) (onTc (τ := Cert.LookupReferenceIdeal.τ) (Cert.LookupReferenceIdeal.main (F := Ideal))) ⟨m, fun _ => 0, g⟩ (fun r => (∀ c : Dev Cert.LookupReferenceIdeal.nD,
      r.2.mem ((c.tc : Thread Cert.LookupReferenceIdeal.nD Cert.LookupReferenceIdeal.τ).loc Cert.LookupReferenceIdeal.main_arg0) = m ((c.tc : Thread Cert.LookupReferenceIdeal.nD Cert.LookupReferenceIdeal.τ).loc Cert.LookupReferenceIdeal.main_arg0)
      ∧ r.2.mem ((c.tc : Thread Cert.LookupReferenceIdeal.nD Cert.LookupReferenceIdeal.τ).loc Cert.LookupReferenceIdeal.main_arg1) = m ((c.tc : Thread Cert.LookupReferenceIdeal.nD Cert.LookupReferenceIdeal.τ).loc Cert.LookupReferenceIdeal.main_arg1)
      ∧ r.2.mem ((c.tc : Thread Cert.LookupReferenceIdeal.nD Cert.LookupReferenceIdeal.τ).loc Cert.LookupReferenceIdeal.main_arg2) = m ((c.tc : Thread Cert.LookupReferenceIdeal.nD Cert.LookupReferenceIdeal.τ).loc Cert.LookupReferenceIdeal.main_arg2))
      ∧ r.2.sem = fun _ => 0)

def quiescent_LookupReferenceIdeal_pre_rows [hLookupReferenceIdeal : Cert.LookupReferenceIdeal.Facts] [hPre_rows : Cert.Pre_rows.Facts] : Prop :=
  ∀ (m : (ℓ : Loc Cert.LookupReferenceIdeal.nD Cert.LookupReferenceIdeal.τ Cert.LookupReferenceIdeal.sig) → Buf (Elt Ideal) ℓ) (g : Dev Cert.LookupReferenceIdeal.nD → PrngReg), Pre_LookupReferenceIdeal_rows m →
    θ_run (Cert.LookupReferenceIdeal.defs (F := Ideal)) (onTc (τ := Cert.LookupReferenceIdeal.τ) (Cert.LookupReferenceIdeal.main (F := Ideal))) ⟨m, fun _ => 0, g⟩ (fun r => (∀ c : Dev Cert.LookupReferenceIdeal.nD,
      r.2.mem ((c.tc : Thread Cert.LookupReferenceIdeal.nD Cert.LookupReferenceIdeal.τ).loc Cert.LookupReferenceIdeal.main_arg0) = m ((c.tc : Thread Cert.LookupReferenceIdeal.nD Cert.LookupReferenceIdeal.τ).loc Cert.LookupReferenceIdeal.main_arg0)
      ∧ r.2.mem ((c.tc : Thread Cert.LookupReferenceIdeal.nD Cert.LookupReferenceIdeal.τ).loc Cert.LookupReferenceIdeal.main_arg1) = m ((c.tc : Thread Cert.LookupReferenceIdeal.nD Cert.LookupReferenceIdeal.τ).loc Cert.LookupReferenceIdeal.main_arg1)
      ∧ r.2.mem ((c.tc : Thread Cert.LookupReferenceIdeal.nD Cert.LookupReferenceIdeal.τ).loc Cert.LookupReferenceIdeal.main_arg2) = m ((c.tc : Thread Cert.LookupReferenceIdeal.nD Cert.LookupReferenceIdeal.τ).loc Cert.LookupReferenceIdeal.main_arg2))
      ∧ r.2.sem = fun _ => 0)

def quiescent_LookupReference [hLookupReference : Cert.LookupReference.Facts] [hPre_rows : Cert.Pre_rows.Facts] : Prop :=
  ∀ (m : (ℓ : Loc Cert.LookupReference.nD Cert.LookupReference.τ Cert.LookupReference.sig) → Buf (Elt Bits) ℓ) (g : Dev Cert.LookupReference.nD → PrngReg), Pre_LookupReference m →
    θ_run (Cert.LookupReference.defs (F := Bits)) (onTc (τ := Cert.LookupReference.τ) (Cert.LookupReference.main (F := Bits))) ⟨m, fun _ => 0, g⟩ (fun r => (∀ c : Dev Cert.LookupReference.nD,
      r.2.mem ((c.tc : Thread Cert.LookupReference.nD Cert.LookupReference.τ).loc Cert.LookupReference.main_arg0) = m ((c.tc : Thread Cert.LookupReference.nD Cert.LookupReference.τ).loc Cert.LookupReference.main_arg0)
      ∧ r.2.mem ((c.tc : Thread Cert.LookupReference.nD Cert.LookupReference.τ).loc Cert.LookupReference.main_arg1) = m ((c.tc : Thread Cert.LookupReference.nD Cert.LookupReference.τ).loc Cert.LookupReference.main_arg1)
      ∧ r.2.mem ((c.tc : Thread Cert.LookupReference.nD Cert.LookupReference.τ).loc Cert.LookupReference.main_arg2) = m ((c.tc : Thread Cert.LookupReference.nD Cert.LookupReference.τ).loc Cert.LookupReference.main_arg2))
      ∧ r.2.sem = fun _ => 0)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v21) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Lookup_LookupIdeal : Prop :=
  True

def bitexact_Lookup_LookupReference [hLookup : Cert.Lookup.Facts] [hLookupReference : Cert.LookupReference.Facts] [hPre_rows : Cert.Pre_rows.Facts] : Prop :=
  ∀ (m : (ℓ : Loc Cert.Lookup.nD Cert.Lookup.τ Cert.Lookup.sig) → Buf (Elt Bits) ℓ) (g : Dev Cert.Lookup.nD → PrngReg)
    (m' : (ℓ : Loc Cert.LookupReference.nD Cert.LookupReference.τ Cert.LookupReference.sig) → Buf (Elt Bits) ℓ) (g' : Dev Cert.LookupReference.nD → PrngReg), Pre_Lookup m →
    (∀ c : Dev Cert.Lookup.nD,
      m' ((c.tc : Thread Cert.LookupReference.nD Cert.LookupReference.τ).loc Cert.LookupReference.main_arg0) = m ((c.tc : Thread Cert.Lookup.nD Cert.Lookup.τ).loc Cert.Lookup.main_arg0)
      ∧ m' ((c.tc : Thread Cert.LookupReference.nD Cert.LookupReference.τ).loc Cert.LookupReference.main_arg1) = m ((c.tc : Thread Cert.Lookup.nD Cert.Lookup.τ).loc Cert.Lookup.main_arg1)
      ∧ m' ((c.tc : Thread Cert.LookupReference.nD Cert.LookupReference.τ).loc Cert.LookupReference.main_arg2) = m ((c.tc : Thread Cert.Lookup.nD Cert.Lookup.τ).loc Cert.Lookup.main_arg2)) →
    ∃ (v0 : (c : Dev Cert.Lookup.nD) → Buf (Elt Bits) ((c.tc : Thread Cert.Lookup.nD Cert.Lookup.τ).loc Cert.Lookup.main_v6)),
      θ_run (Cert.Lookup.defs (F := Bits)) (Cert.Lookup.threads (F := Bits)) ⟨m, fun _ => 0, g⟩ (fun r => ∀ c : Dev Cert.Lookup.nD,
          r.2.mem ((c.tc : Thread Cert.Lookup.nD Cert.Lookup.τ).loc Cert.Lookup.main_v6) = v0 c
          ∧ r.2.mem ((c.tc : Thread Cert.Lookup.nD Cert.Lookup.τ).loc Cert.Lookup.main_arg0) = m ((c.tc : Thread Cert.Lookup.nD Cert.Lookup.τ).loc Cert.Lookup.main_arg0)
          ∧ r.2.mem ((c.tc : Thread Cert.Lookup.nD Cert.Lookup.τ).loc Cert.Lookup.main_arg1) = m ((c.tc : Thread Cert.Lookup.nD Cert.Lookup.τ).loc Cert.Lookup.main_arg1)
          ∧ r.2.mem ((c.tc : Thread Cert.Lookup.nD Cert.Lookup.τ).loc Cert.Lookup.main_arg2) = m ((c.tc : Thread Cert.Lookup.nD Cert.Lookup.τ).loc Cert.Lookup.main_arg2))
      ∧ θ_run (Cert.LookupReference.defs (F := Bits)) (onTc (τ := Cert.LookupReference.τ) (Cert.LookupReference.main (F := Bits))) ⟨m', fun _ => 0, g'⟩ (fun r => ∀ c : Dev Cert.LookupReference.nD,
          r.2.mem ((c.tc : Thread Cert.LookupReference.nD Cert.LookupReference.τ).loc Cert.LookupReference.main_v3) = v0 c
          ∧ r.2.mem ((c.tc : Thread Cert.LookupReference.nD Cert.LookupReference.τ).loc Cert.LookupReference.main_arg0) = m' ((c.tc : Thread Cert.LookupReference.nD Cert.LookupReference.τ).loc Cert.LookupReference.main_arg0)
          ∧ r.2.mem ((c.tc : Thread Cert.LookupReference.nD Cert.LookupReference.τ).loc Cert.LookupReference.main_arg1) = m' ((c.tc : Thread Cert.LookupReference.nD Cert.LookupReference.τ).loc Cert.LookupReference.main_arg1)
          ∧ r.2.mem ((c.tc : Thread Cert.LookupReference.nD Cert.LookupReference.τ).loc Cert.LookupReference.main_arg2) = m' ((c.tc : Thread Cert.LookupReference.nD Cert.LookupReference.τ).loc Cert.LookupReference.main_arg2))

def algebraic_LookupIdeal_LookupReferenceIdeal [hLookupIdeal : Cert.LookupIdeal.Facts] [hLookupReferenceIdeal : Cert.LookupReferenceIdeal.Facts] [hPre_rows : Cert.Pre_rows.Facts] : Prop :=
  ∀ (m : (ℓ : Loc Cert.LookupIdeal.nD Cert.LookupIdeal.τ Cert.LookupIdeal.sig) → Buf (Elt Ideal) ℓ) (g : Dev Cert.LookupIdeal.nD → PrngReg)
    (m' : (ℓ : Loc Cert.LookupReferenceIdeal.nD Cert.LookupReferenceIdeal.τ Cert.LookupReferenceIdeal.sig) → Buf (Elt Ideal) ℓ) (g' : Dev Cert.LookupReferenceIdeal.nD → PrngReg), Pre_LookupIdeal m →
    (∀ c : Dev Cert.LookupIdeal.nD,
      m' ((c.tc : Thread Cert.LookupReferenceIdeal.nD Cert.LookupReferenceIdeal.τ).loc Cert.LookupReferenceIdeal.main_arg0) = m ((c.tc : Thread Cert.LookupIdeal.nD Cert.LookupIdeal.τ).loc Cert.LookupIdeal.main_arg0)
      ∧ m' ((c.tc : Thread Cert.LookupReferenceIdeal.nD Cert.LookupReferenceIdeal.τ).loc Cert.LookupReferenceIdeal.main_arg1) = m ((c.tc : Thread Cert.LookupIdeal.nD Cert.LookupIdeal.τ).loc Cert.LookupIdeal.main_arg1)
      ∧ m' ((c.tc : Thread Cert.LookupReferenceIdeal.nD Cert.LookupReferenceIdeal.τ).loc Cert.LookupReferenceIdeal.main_arg2) = m ((c.tc : Thread Cert.LookupIdeal.nD Cert.LookupIdeal.τ).loc Cert.LookupIdeal.main_arg2)) →
    ∃ (v0 : (c : Dev Cert.LookupIdeal.nD) → Buf (Elt Ideal) ((c.tc : Thread Cert.LookupIdeal.nD Cert.LookupIdeal.τ).loc Cert.LookupIdeal.main_v6)),
      θ_run (Cert.LookupIdeal.defs (F := Ideal)) (Cert.LookupIdeal.threads (F := Ideal)) ⟨m, fun _ => 0, g⟩ (fun r => ∀ c : Dev Cert.LookupIdeal.nD,
          r.2.mem ((c.tc : Thread Cert.LookupIdeal.nD Cert.LookupIdeal.τ).loc Cert.LookupIdeal.main_v6) = v0 c
          ∧ r.2.mem ((c.tc : Thread Cert.LookupIdeal.nD Cert.LookupIdeal.τ).loc Cert.LookupIdeal.main_arg0) = m ((c.tc : Thread Cert.LookupIdeal.nD Cert.LookupIdeal.τ).loc Cert.LookupIdeal.main_arg0)
          ∧ r.2.mem ((c.tc : Thread Cert.LookupIdeal.nD Cert.LookupIdeal.τ).loc Cert.LookupIdeal.main_arg1) = m ((c.tc : Thread Cert.LookupIdeal.nD Cert.LookupIdeal.τ).loc Cert.LookupIdeal.main_arg1)
          ∧ r.2.mem ((c.tc : Thread Cert.LookupIdeal.nD Cert.LookupIdeal.τ).loc Cert.LookupIdeal.main_arg2) = m ((c.tc : Thread Cert.LookupIdeal.nD Cert.LookupIdeal.τ).loc Cert.LookupIdeal.main_arg2))
      ∧ θ_run (Cert.LookupReferenceIdeal.defs (F := Ideal)) (onTc (τ := Cert.LookupReferenceIdeal.τ) (Cert.LookupReferenceIdeal.main (F := Ideal))) ⟨m', fun _ => 0, g'⟩ (fun r => ∀ c : Dev Cert.LookupReferenceIdeal.nD,
          r.2.mem ((c.tc : Thread Cert.LookupReferenceIdeal.nD Cert.LookupReferenceIdeal.τ).loc Cert.LookupReferenceIdeal.main_v3) = v0 c
          ∧ r.2.mem ((c.tc : Thread Cert.LookupReferenceIdeal.nD Cert.LookupReferenceIdeal.τ).loc Cert.LookupReferenceIdeal.main_arg0) = m' ((c.tc : Thread Cert.LookupReferenceIdeal.nD Cert.LookupReferenceIdeal.τ).loc Cert.LookupReferenceIdeal.main_arg0)
          ∧ r.2.mem ((c.tc : Thread Cert.LookupReferenceIdeal.nD Cert.LookupReferenceIdeal.τ).loc Cert.LookupReferenceIdeal.main_arg1) = m' ((c.tc : Thread Cert.LookupReferenceIdeal.nD Cert.LookupReferenceIdeal.τ).loc Cert.LookupReferenceIdeal.main_arg1)
          ∧ r.2.mem ((c.tc : Thread Cert.LookupReferenceIdeal.nD Cert.LookupReferenceIdeal.τ).loc Cert.LookupReferenceIdeal.main_arg2) = m' ((c.tc : Thread Cert.LookupReferenceIdeal.nD Cert.LookupReferenceIdeal.τ).loc Cert.LookupReferenceIdeal.main_arg2))

def Claim : Prop :=
  ∃ (hKernelIdeal : Cert.KernelIdeal.Facts) (hReferenceIdeal : Cert.ReferenceIdeal.Facts) (hLookup : Cert.Lookup.Facts) (hLookupIdeal : Cert.LookupIdeal.Facts) (hLookupReferenceIdeal : Cert.LookupReferenceIdeal.Facts) (hLookupReference : Cert.LookupReference.Facts) (hPre_finite : Cert.Pre_finite.Facts) (hPre_rows : Cert.Pre_rows.Facts),
    quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Lookup (hLookup := hLookup) (hPre_rows := hPre_rows)
    ∧ quiescent_LookupIdeal (hLookupIdeal := hLookupIdeal) (hPre_rows := hPre_rows)
    ∧ quiescent_LookupReferenceIdeal (hLookupReferenceIdeal := hLookupReferenceIdeal)
    ∧ quiescent_LookupReferenceIdeal_pre_rows (hLookupReferenceIdeal := hLookupReferenceIdeal) (hPre_rows := hPre_rows)
    ∧ quiescent_LookupReference (hLookupReference := hLookupReference) (hPre_rows := hPre_rows)
    ∧ algebraic_KernelIdeal_ReferenceIdeal_pre_finite (hKernelIdeal := hKernelIdeal) (hReferenceIdeal := hReferenceIdeal) (hPre_finite := hPre_finite)
    ∧ preserves_Lookup_LookupIdeal
    ∧ bitexact_Lookup_LookupReference (hLookup := hLookup) (hLookupReference := hLookupReference) (hPre_rows := hPre_rows)
    ∧ algebraic_LookupIdeal_LookupReferenceIdeal (hLookupIdeal := hLookupIdeal) (hLookupReferenceIdeal := hLookupReferenceIdeal) (hPre_rows := hPre_rows)
-- ==== Pre_finite.lean ====
abbrev S4x16384x4 : Shape := ⟨3, ![4, 16384, 4]⟩
abbrev S4096x4 : Shape := ⟨2, ![4096, 4]⟩
abbrev S_ : Shape := ⟨0, ![]⟩

class Facts : Prop where
  bcast_S_S4x16384x4 : S_.BroadcastsInDim S4x16384x4 (![] : Fin 0 → Fin S4x16384x4.rank)
  reducesTo_S4x16384x4_S_d0_1_2 : S4x16384x4.ReducesTo [0, 1, 2] S_
  h_S_ : 0 < S_.numel
  bcast_S_S4096x4 : S_.BroadcastsInDim S4096x4 (![] : Fin 0 → Fin S4096x4.rank)
  reducesTo_S4096x4_S_d0_1 : S4096x4.ReducesTo [0, 1] S_

variable [Facts]

def fn {F : FTy → Type} [FloatOps F] (main_arg0 : FVec F S4x16384x4 .f32) (main_arg1 : FVec F S4096x4 .f32) : IVec S_ 1 :=
  let main_v0 : FVec F S4x16384x4 .f32 := Host.absf main_arg0
  let main_cst : FVec F S_ .f32 := constant S_ .f32 0x7F800000#32
  let main_v1 : FVec F S4x16384x4 .f32 := broadcastInDim S4x16384x4 ![] bcast_S_S4x16384x4 main_cst
  let main_v2 : IVec S4x16384x4 1 := cmpf .olt main_v0 main_v1
  let main_c : IVec S_ 1 := constantI S_ 1 1#1
  let main_v3 : IVec S_ 1 := (fun x v => Host.reduce IntOp.andi x v reducesTo_S4x16384x4_S_d0_1_2 h_S_) main_v2 main_c
  let main_v4 : FVec F S4096x4 .f32 := Host.absf main_arg1
  let main_cst_0 : FVec F S_ .f32 := constant S_ .f32 0x7F800000#32
  let main_v5 : FVec F S4096x4 .f32 := broadcastInDim S4096x4 ![] bcast_S_S4096x4 main_cst_0
  let main_v6 : IVec S4096x4 1 := cmpf .olt main_v4 main_v5
  let main_c_1 : IVec S_ 1 := constantI S_ 1 1#1
  let main_v7 : IVec S_ 1 := (fun x v => Host.reduce IntOp.andi x v reducesTo_S4096x4_S_d0_1 h_S_) main_v6 main_c_1
  let main_v8 : IVec S_ 1 := andi main_v3 main_v7
  main_v8
-- ==== Pre_rows.lean ====
abbrev S4x16384x4 : Shape := ⟨3, ![4, 16384, 4]⟩
abbrev S4096x4 : Shape := ⟨2, ![4096, 4]⟩
abbrev S65536 : Shape := ⟨1, ![65536]⟩
abbrev S_ : Shape := ⟨0, ![]⟩

class Facts : Prop where
  bcast_S_S65536 : S_.BroadcastsInDim S65536 (![] : Fin 0 → Fin S65536.rank)
  reducesTo_S65536_S_d0 : S65536.ReducesTo [0] S_
  h_S_ : 0 < S_.numel

variable [Facts]

def fn {F : FTy → Type} [FloatOps F] (main_arg0 : FVec F S4x16384x4 .f32) (main_arg1 : FVec F S4096x4 .f32) (main_arg2 : IVec S65536 32) : IVec S_ 1 :=
  let main_c : IVec S_ 32 := constantI S_ 32 0#32
  let main_v0 : IVec S65536 32 := broadcastInDim S65536 ![] bcast_S_S65536 main_c
  let main_v1 : IVec S65536 1 := cmpi .sge main_arg2 main_v0
  let main_c_0 : IVec S_ 32 := constantI S_ 32 4096#32
  let main_v2 : IVec S65536 32 := broadcastInDim S65536 ![] bcast_S_S65536 main_c_0
  let main_v3 : IVec S65536 1 := cmpi .slt main_arg2 main_v2
  let main_v4 : IVec S65536 1 := andi main_v1 main_v3
  let main_c_1 : IVec S_ 1 := constantI S_ 1 1#1
  let main_v5 : IVec S_ 1 := (fun x v => Host.reduce IntOp.andi x v reducesTo_S65536_S_d0 h_S_) main_v4 main_c_1
  main_v5
-- ==== KernelIdeal.lean ====
abbrev S4x16384x4 : Shape := ⟨3, ![4, 16384, 4]⟩
abbrev S4096x4 : Shape := ⟨2, ![4096, 4]⟩
abbrev S65536x4 : Shape := ⟨2, ![65536, 4]⟩
abbrev S_ : Shape := ⟨0, ![]⟩
abbrev S4096 : Shape := ⟨1, ![4096]⟩
abbrev S1x4096 : Shape := ⟨2, ![1, 4096]⟩
abbrev S4x4096 : Shape := ⟨2, ![4, 4096]⟩
abbrev S64x1x1024 : Shape := ⟨3, ![64, 1, 1024]⟩
abbrev S1x1 : Shape := ⟨2, ![1, 1]⟩
abbrev S1024x4 : Shape := ⟨2, ![1024, 4]⟩
abbrev S1x1x1024 : Shape := ⟨3, ![1, 1, 1024]⟩
abbrev S1024x1 : Shape := ⟨2, ![1024, 1]⟩
abbrev S1024x4096 : Shape := ⟨2, ![1024, 4096]⟩
abbrev S256x128 : Shape := ⟨2, ![256, 128]⟩
abbrev S256x1 : Shape := ⟨2, ![256, 1]⟩
abbrev S1x128 : Shape := ⟨2, ![1, 128]⟩
abbrev S256 : Shape := ⟨1, ![256]⟩
abbrev S1x256 : Shape := ⟨2, ![1, 256]⟩
abbrev S1x256x1 : Shape := ⟨3, ![1, 256, 1]⟩
abbrev S1 : Shape := ⟨1, ![1]⟩
abbrev S1x1x1 : Shape := ⟨3, ![1, 1, 1]⟩
abbrev S1x1024 : Shape := ⟨2, ![1, 1024]⟩
abbrev S65536 : Shape := ⟨1, ![65536]⟩
abbrev S16384 : Shape := ⟨1, ![16384]⟩
abbrev S262144 : Shape := ⟨1, ![262144]⟩
abbrev S2048 : Shape := ⟨1, ![2048]⟩
abbrev S8192 : Shape := ⟨1, ![8192]⟩
abbrev S16 : Shape := ⟨1, ![16]⟩
abbrev S4x4x16384 : Shape := ⟨3, ![4, 4, 16384]⟩
abbrev S4x16384 : Shape := ⟨2, ![4, 16384]⟩

abbrev nBuf : Table → Nat
  | .hbm => 22
  | .local .tc .vmem => 7
  | .local .scVector .vmem => 3
  | _ => 0

abbrev bufTy : (tb : Table) → Fin (nBuf tb) → BufTy
  | .hbm, ⟨0, _⟩ => ⟨S4x16384x4, .f32⟩
  | .hbm, ⟨1, _⟩ => ⟨S4096x4, .f32⟩
  | .hbm, ⟨2, _⟩ => ⟨S65536x4, .f32⟩
  | .hbm, ⟨3, _⟩ => ⟨S4096x4, .f32⟩
  | .hbm, ⟨4, _⟩ => ⟨S_, .f32⟩
  | .hbm, ⟨5, _⟩ => ⟨S4096, .f32⟩
  | .hbm, ⟨6, _⟩ => ⟨S1x4096, .f32⟩
  | .hbm, ⟨7, _⟩ => ⟨S4x4096, .f32⟩
  | .hbm, ⟨8, _⟩ => ⟨S64x1x1024, .i32⟩
  | .hbm, ⟨9, _⟩ => ⟨S1x1, .f32⟩
  | .hbm, ⟨10, _⟩ => ⟨S65536, .i32⟩
  | .hbm, ⟨11, _⟩ => ⟨S16384, .f32⟩
  | .hbm, ⟨12, _⟩ => ⟨S262144, .f32⟩
  | .hbm, ⟨13, _⟩ => ⟨S4x4x16384, .f32⟩
  | .hbm, ⟨14, _⟩ => ⟨S4x4x16384, .f32⟩
  | .hbm, ⟨15, _⟩ => ⟨S4x4x16384, .f32⟩
  | .hbm, ⟨16, _⟩ => ⟨S4x4x16384, .f32⟩
  | .hbm, ⟨17, _⟩ => ⟨S4x16384x4, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S4x16384, .i32⟩
  | .local .tc .vmem, ⟨0, _⟩ => ⟨S1024x4, .f32⟩
  | .local .tc .vmem, ⟨1, _⟩ => ⟨S1024x4, .f32⟩
  | .local .tc .vmem, ⟨2, _⟩ => ⟨S4x4096, .f32⟩
  | .local .tc .vmem, ⟨3, _⟩ => ⟨S1x4096, .f32⟩
  | .local .tc .vmem, ⟨4, _⟩ => ⟨S1x1x1024, .i32⟩
  | .local .tc .vmem, ⟨5, _⟩ => ⟨S1x1x1024, .i32⟩
  | .local .tc .vmem, ⟨6, _⟩ => ⟨S1x1, .f32⟩
  | .local .scVector .vmem, ⟨0, _⟩ => ⟨S16384, .f32⟩
  | .local .scVector .vmem, ⟨1, _⟩ => ⟨S2048, .i32⟩
  | .local .scVector .vmem, ⟨2, _⟩ => ⟨S8192, .f32⟩
  | _, _ => ⟨S4x16384x4, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | ⟨8, _⟩ => false
  | ⟨9, _⟩ => false
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v7_scv : Ref sig .scVector := ⟨.hbm, 11, rfl⟩
abbrev main_v6_scv : Ref sig .scVector := ⟨.hbm, 10, rfl⟩
abbrev main_v8_scv : Ref sig .scVector := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  ![v2.toNat]
@[reducible] def k1_t1_loop : Scf.Loop 32 :=
  let c0_i32 : BitVec 32 := 0#32
  let c128_i32 : BitVec 32 := 128#32
  let v3 : BitVec 32 := Scalar.addi c0_i32 c128_i32
  let c1_i32 : BitVec 32 := 1#32
  ⟨c0_i32, v3, c1_i32⟩
def k1_off2 (k1_t1 : Fin k1_t1_loop.trips) : Fin 1 → Nat :=
  let c0_i32 : BitVec 32 := 0#32
  let c1_i32 : BitVec 32 := 1#32
  let arg8 : BitVec 32 := Scf.iv c0_i32 c1_i32 k1_t1
  let c16_i32 : BitVec 32 := 16#32
  let v39 : BitVec 32 := Scalar.muli arg8 c16_i32
  let v40 : Index := Scalar.indexCast v39
  ![v40.toNat]

def k1_chk1 (v45 : IVec S16 32) : Prop :=
  (∀ a x, ((![v45] : Fin 1 → IVec S16 32) a x).toNat < S16384.size a)
theorem k1_idx1_inb : ∀ (v45 : IVec S16 32) (k1_hw1 : k1_chk1 v45), ∀ a x, ((![v45] : Fin 1 → IVec S16 32) a x).toNat < S16384.size a := fun v45 k1_hw1 => k1_hw1
def k1_off3 (k1_t1 : Fin k1_t1_loop.trips) : Fin 1 → Nat :=
  let c0_i32_21 : BitVec 32 := 0#32
  let c0_i32 : BitVec 32 := 0#32
  let c1_i32 : BitVec 32 := 1#32
  let arg8 : BitVec 32 := Scf.iv c0_i32 c1_i32 k1_t1
  let c16_i32_20 : BitVec 32 := 16#32
  let v47 : BitVec 32 := Scalar.muli arg8 c16_i32_20
  let v48 : BitVec 32 := Scalar.addi c0_i32_21 v47
  let v49 : Index := Scalar.indexCast v48
  ![v49.toNat]

def k1_chk2 (v52 : IVec S16 32) : Prop :=
  (∀ a x, ((![v52] : Fin 1 → IVec S16 32) a x).toNat < S16384.size a)
theorem k1_idx2_inb : ∀ (v52 : IVec S16 32) (k1_hw2 : k1_chk2 v52), ∀ a x, ((![v52] : Fin 1 → IVec S16 32) a x).toNat < S16384.size a := fun v52 k1_hw2 => k1_hw2
def k1_off4 (k1_t1 : Fin k1_t1_loop.trips) : Fin 1 → Nat :=
  let c2048_i32_24 : BitVec 32 := 2048#32
  let c0_i32 : BitVec 32 := 0#32
  let c1_i32 : BitVec 32 := 1#32
  let arg8 : BitVec 32 := Scf.iv c0_i32 c1_i32 k1_t1
  let c16_i32_23 : BitVec 32 := 16#32
  let v54 : BitVec 32 := Scalar.muli arg8 c16_i32_23
  let v55 : BitVec 32 := Scalar.addi c2048_i32_24 v54
  let v56 : Index := Scalar.indexCast v55
  ![v56.toNat]

def k1_chk3 (v59 : IVec S16 32) : Prop :=
  (∀ a x, ((![v59] : Fin 1 → IVec S16 32) a x).toNat < S16384.size a)
theorem k1_idx3_inb : ∀ (v59 : IVec S16 32) (k1_hw3 : k1_chk3 v59), ∀ a x, ((![v59] : Fin 1 → IVec S16 32) a x).toNat < S16384.size a := fun v59 k1_hw3 => k1_hw3
def k1_off5 (k1_t1 : Fin k1_t1_loop.trips) : Fin 1 → Nat :=
  let c4096_i32 : BitVec 32 := 4096#32
  let c0_i32 : BitVec 32 := 0#32
  let c1_i32 : BitVec 32 := 1#32
  let arg8 : BitVec 32 := Scf.iv c0_i32 c1_i32 k1_t1
  let c16_i32_26 : BitVec 32 := 16#32
  let v61 : BitVec 32 := Scalar.muli arg8 c16_i32_26
  let v62 : BitVec 32 := Scalar.addi c4096_i32 v61
  let v63 : Index := Scalar.indexCast v62
  ![v63.toNat]

def k1_chk4 (v66 : IVec S16 32) : Prop :=
  (∀ a x, ((![v66] : Fin 1 → IVec S16 32) a x).toNat < S16384.size a)
theorem k1_idx4_inb : ∀ (v66 : IVec S16 32) (k1_hw4 : k1_chk4 v66), ∀ a x, ((![v66] : Fin 1 → IVec S16 32) a x).toNat < S16384.size a := fun v66 k1_hw4 => k1_hw4
def k1_off6 (k1_t1 : Fin k1_t1_loop.trips) : Fin 1 → Nat :=
  let c6144_i32 : BitVec 32 := 6144#32
  let c0_i32 : BitVec 32 := 0#32
  let c1_i32 : BitVec 32 := 1#32
  let arg8 : BitVec 32 := Scf.iv c0_i32 c1_i32 k1_t1
  let c16_i32_28 : BitVec 32 := 16#32
  let v68 : BitVec 32 := Scalar.muli arg8 c16_i32_28
  let v69 : BitVec 32 := Scalar.addi c6144_i32 v68
  let v70 : Index := Scalar.indexCast v69
  ![v70.toNat]
def k1_off7 (i : grid1.Coords) (c0_i32_8 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_1 : BitVec 32 := 0#32
  let v5 : BitVec 1 := Scalar.cmpi .sgt v2 c0_i32_1
  let v6 : BitVec 32 := Scalar.extui v5
  let c0_i32_2 : BitVec 32 := 0#32
  let v7 : BitVec 1 := Scalar.cmpi .slt v2 c0_i32_2
  let v8 : BitVec 32 := Scalar.extui v7
  let v9 : BitVec 32 := Scalar.subi v6 v8
  let c16384_i32 : BitVec 32 := 16384#32
  let c0_i32_3 : BitVec 32 := 0#32
  let v10 : BitVec 1 := Scalar.cmpi .sgt c16384_i32 c0_i32_3
  let v11 : BitVec 32 := Scalar.extui v10
  let c0_i32_4 : BitVec 32 := 0#32
  let v12 : BitVec 1 := Scalar.cmpi .slt c16384_i32 c0_i32_4
  let v13 : BitVec 32 := Scalar.extui v12
  let v14 : BitVec 32 := Scalar.subi v11 v13
  let v15 : BitVec 1 := Scalar.cmpi .ne v9 v14
  let v16 : BitVec 32 := Scalar.remsi v2 c16384_i32
  let c0_i32_5 : BitVec 32 := 0#32
  let v17 : BitVec 1 := Scalar.cmpi .ne v16 c0_i32_5
  let v18 : BitVec 1 := Scalar.andi v15 v17
  let v4 : BitVec 32 := Scalar.divsi v2 c16384_i32
  let c1_i32_6 : BitVec 32 := 1#32
  let v19 : BitVec 32 := Scalar.subi v4 c1_i32_6
  let v20 : BitVec 32 := Scalar.select v18 v19 v4
  let c4_i32 : BitVec 32 := 4#32
  let v23 : BitVec 32 := Scalar.muli v20 c4_i32
  let v24 : BitVec 32 := Scalar.addi v23 c0_i32_8
  let c16384_i32_9 : BitVec 32 := 16384#32
  let v25 : BitVec 32 := Scalar.muli v24 c16384_i32_9
  let c16384_i32_7 : BitVec 32 := 16384#32
  let v21 : BitVec 32 := Scalar.muli v20 c16384_i32_7
  let v22 : BitVec 32 := Scalar.subi v2 v21
  let v26 : BitVec 32 := Scalar.addi v25 v22
  ![v26.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x16384x4 : Shape := ⟨3, ![4, 16384, 4]⟩
abbrev S4096x4 : Shape := ⟨2, ![4096, 4]⟩
abbrev S65536x4 : Shape := ⟨2, ![65536, 4]⟩
abbrev S_ : Shape := ⟨0, ![]⟩
abbrev S65536 : Shape := ⟨1, ![65536]⟩
abbrev S65536x1 : Shape := ⟨2, ![65536, 1]⟩
abbrev S4x4096 : Shape := ⟨2, ![4, 4096]⟩
abbrev S65536x4096 : Shape := ⟨2, ![65536, 4096]⟩
abbrev S4096 : Shape := ⟨1, ![4096]⟩
abbrev S1x4096 : Shape := ⟨2, ![1, 4096]⟩
abbrev S1 : Shape := ⟨1, ![1]⟩
abbrev S1x1 : Shape := ⟨2, ![1, 1]⟩
abbrev S4x16384 : Shape := ⟨2, ![4, 16384]⟩

abbrev nBuf : Space → Nat
  | .hbm => 58
  | .vmem => 0
  | .smem => 0
  | _ => 0

abbrev bufTy : (tb : Table) → Fin (tcTables nBuf tb) → BufTy
  | .hbm, ⟨0, _⟩ => ⟨S4x16384x4, .f32⟩
  | .hbm, ⟨1, _⟩ => ⟨S4096x4, .f32⟩
  | .hbm, ⟨2, _⟩ => ⟨S65536x4, .f32⟩
  | .hbm, ⟨3, _⟩ => ⟨S65536x4, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S_, .f32⟩
  | .hbm, ⟨8, _⟩ => ⟨S65536x4, .f32⟩
  | .hbm, ⟨9, _⟩ => ⟨S65536x4, .f32⟩
  | .hbm, ⟨10, _⟩ => ⟨S4x4096, .f32⟩
  | .hbm, ⟨11, _⟩ => ⟨S65536x4096, .f32⟩
  | .hbm, ⟨12, _⟩ => ⟨S65536x4096, .f32⟩
  | .hbm, ⟨13, _⟩ => ⟨S65536x4096, .f32⟩
  | .hbm, ⟨14, _⟩ => ⟨S4096x4, .f32⟩
  | .hbm, ⟨15, _⟩ => ⟨S_, .f32⟩
  | .hbm, ⟨16, _⟩ => ⟨S4096, .f32⟩
  | .hbm, ⟨17, _⟩ => ⟨S1x4096, .f32⟩
  | .hbm, ⟨18, _⟩ => ⟨S65536x4096, .f32⟩
  | .hbm, ⟨19, _⟩ => ⟨S65536x4096, .f32⟩
  | .hbm, ⟨20, _⟩ => ⟨S65536x4096, .i32⟩
  | .hbm, ⟨21, _⟩ => ⟨S_, .f32⟩
  | .hbm, ⟨22, _⟩ => ⟨S_, .i32⟩
  | .hbm, ⟨23, _⟩ => ⟨S65536, .f32⟩
  | .hbm, ⟨24, _⟩ => ⟨S65536, .i32⟩
  | .hbm, ⟨25, _⟩ => ⟨S_, .i32⟩
  | .hbm, ⟨26, _⟩ => ⟨S65536, .i32⟩
  | .hbm, ⟨27, _⟩ => ⟨S65536, .i1⟩
  | .hbm, ⟨28, _⟩ => ⟨S_, .i32⟩
  | .hbm, ⟨29, _⟩ => ⟨S65536, .i32⟩
  | .hbm, ⟨30, _⟩ => ⟨S65536, .i32⟩
  | .hbm, ⟨31, _⟩ => ⟨S65536, .i32⟩
  | .hbm, ⟨32, _⟩ => ⟨S65536x1, .i32⟩
  | .hbm, ⟨33, _⟩ => ⟨S1, .i32⟩
  | .hbm, ⟨34, _⟩ => ⟨S_, .i32⟩
  | .hbm, ⟨35, _⟩ => ⟨S65536x1, .i32⟩
  | .hbm, ⟨36, _⟩ => ⟨S65536x1, .i1⟩
  | .hbm, ⟨37, _⟩ => ⟨S1x1, .i32⟩
  | .hbm, ⟨38, _⟩ => ⟨S65536x1, .i32⟩
  | .hbm, ⟨39, _⟩ => ⟨S65536x1, .i1⟩
  | .hbm, ⟨40, _⟩ => ⟨S65536x1, .i1⟩
  | .hbm, ⟨41, _⟩ => ⟨S_, .i1⟩
  | .hbm, ⟨42, _⟩ => ⟨S65536, .i1⟩
  | .hbm, ⟨43, _⟩ => ⟨S65536x4, .f32⟩
  | .hbm, ⟨44, _⟩ => ⟨S65536x4, .i1⟩
  | .hbm, ⟨45, _⟩ => ⟨S_, .f32⟩
  | .hbm, ⟨46, _⟩ => ⟨S65536x4, .f32⟩
  | .hbm, ⟨47, _⟩ => ⟨S65536x4, .f32⟩
  | .hbm, ⟨48, _⟩ => ⟨S4x16384x4, .f32⟩
  | .hbm, ⟨49, _⟩ => ⟨S4x16384x4, .f32⟩
  | .hbm, ⟨50, _⟩ => ⟨S4x16384x4, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S4x16384x4, .f32⟩
  | .hbm, ⟨56, _⟩ => ⟨S4x16384x4, .f32⟩
  | .hbm, ⟨57, _⟩ => ⟨S4x16384, .i32⟩
  | _, _ => ⟨S4x16384x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v15 : Ref sig .tc := ⟨.hbm, 24, rfl⟩
abbrev main_call1_c : Ref sig .tc := ⟨.hbm, 25, rfl⟩
abbrev main_call1_v0 : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_c_1 : Ref sig .tc := ⟨.hbm, 33, rfl⟩
abbrev main_call1_c_2 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_3 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_call1_cst : Ref sig .tc := ⟨.hbm, 45, rfl⟩
abbrev main_call1_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_cst_2 : Ref sig .tc := ⟨.hbm, 51, rfl⟩
abbrev main_v20 : Ref sig .tc := ⟨.hbm, 52, rfl⟩
abbrev main_cst_3 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩

abbrev nD : Nat := 1
abbrev τ : Topo := Topo.v7x

variable {F : FTy → Type} [FloatOps F]
-- ==== Lookup.lean ====
abbrev S4x16384x4 : Shape := ⟨3, ![4, 16384, 4]⟩
abbrev S4096x4 : Shape := ⟨2, ![4096, 4]⟩
abbrev S65536 : Shape := ⟨1, ![65536]⟩
abbrev S16384 : Shape := ⟨1, ![16384]⟩
abbrev S262144 : Shape := ⟨1, ![262144]⟩
abbrev S2048 : Shape := ⟨1, ![2048]⟩
abbrev S8192 : Shape := ⟨1, ![8192]⟩
abbrev S_ : Shape := ⟨0, ![]⟩
abbrev S16 : Shape := ⟨1, ![16]⟩
abbrev S4x4x16384 : Shape := ⟨3, ![4, 4, 16384]⟩

abbrev nBuf : Table → Nat
  | .hbm => 10
  | .local .scVector .vmem => 3
  | _ => 0

abbrev bufTy : (tb : Table) → Fin (nBuf tb) → BufTy
  | .hbm, ⟨0, _⟩ => ⟨S4x16384x4, .f32⟩
  | .hbm, ⟨1, _⟩ => ⟨S4096x4, .f32⟩
  | .hbm, ⟨2, _⟩ => ⟨S65536, .i32⟩
  | .hbm, ⟨3, _⟩ => ⟨S16384, .f32⟩
  | .hbm, ⟨4, _⟩ => ⟨S262144, .f32⟩
  | .hbm, ⟨5, _⟩ => ⟨S4x4x16384, .f32⟩
  | .hbm, ⟨6, _⟩ => ⟨S4x4x16384, .f32⟩
  | .hbm, ⟨7, _⟩ => ⟨S4x4x16384, .f32⟩
  | .hbm, ⟨8, _⟩ => ⟨S4x4x16384, .f32⟩
  | .hbm, ⟨9, _⟩ => ⟨S4x16384x4, .f32⟩
  | .local .scVector .vmem, ⟨0, _⟩ => ⟨S16384, .f32⟩
  | .local .scVector .vmem, ⟨1, _⟩ => ⟨S2048, .i32⟩
  | .local .scVector .vmem, ⟨2, _⟩ => ⟨S8192, .f32⟩
  | _, _ => ⟨S4x16384x4, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v0_scv : Ref sig .scVector := ⟨.hbm, 3, rfl⟩
abbrev main_arg2_scv : Ref sig .scVector := ⟨.hbm, 2, rfl⟩
abbrev main_v1_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  ![v2.toNat]
@[reducible] def k0_t1_loop : Scf.Loop 32 :=
  let c0_i32 : BitVec 32 := 0#32
  let c128_i32 : BitVec 32 := 128#32
  let v3 : BitVec 32 := Scalar.addi c0_i32 c128_i32
  let c1_i32 : BitVec 32 := 1#32
  ⟨c0_i32, v3, c1_i32⟩
def k0_off2 (k0_t1 : Fin k0_t1_loop.trips) : Fin 1 → Nat :=
  let c0_i32 : BitVec 32 := 0#32
  let c1_i32 : BitVec 32 := 1#32
  let arg8 : BitVec 32 := Scf.iv c0_i32 c1_i32 k0_t1
  let c16_i32 : BitVec 32 := 16#32
  let v39 : BitVec 32 := Scalar.muli arg8 c16_i32
  let v40 : Index := Scalar.indexCast v39
  ![v40.toNat]

def k0_chk1 (v45 : IVec S16 32) : Prop :=
  (∀ a x, ((![v45] : Fin 1 → IVec S16 32) a x).toNat < S16384.size a)
theorem k0_idx1_inb : ∀ (v45 : IVec S16 32) (k0_hw1 : k0_chk1 v45), ∀ a x, ((![v45] : Fin 1 → IVec S16 32) a x).toNat < S16384.size a := fun v45 k0_hw1 => k0_hw1
def k0_off3 (k0_t1 : Fin k0_t1_loop.trips) : Fin 1 → Nat :=
  let c0_i32_21 : BitVec 32 := 0#32
  let c0_i32 : BitVec 32 := 0#32
  let c1_i32 : BitVec 32 := 1#32
  let arg8 : BitVec 32 := Scf.iv c0_i32 c1_i32 k0_t1
  let c16_i32_20 : BitVec 32 := 16#32
  let v47 : BitVec 32 := Scalar.muli arg8 c16_i32_20
  let v48 : BitVec 32 := Scalar.addi c0_i32_21 v47
  let v49 : Index := Scalar.indexCast v48
  ![v49.toNat]

def k0_chk2 (v52 : IVec S16 32) : Prop :=
  (∀ a x, ((![v52] : Fin 1 → IVec S16 32) a x).toNat < S16384.size a)
theorem k0_idx2_inb : ∀ (v52 : IVec S16 32) (k0_hw2 : k0_chk2 v52), ∀ a x, ((![v52] : Fin 1 → IVec S16 32) a x).toNat < S16384.size a := fun v52 k0_hw2 => k0_hw2
def k0_off4 (k0_t1 : Fin k0_t1_loop.trips) : Fin 1 → Nat :=
  let c2048_i32_24 : BitVec 32 := 2048#32
  let c0_i32 : BitVec 32 := 0#32
  let c1_i32 : BitVec 32 := 1#32
  let arg8 : BitVec 32 := Scf.iv c0_i32 c1_i32 k0_t1
  let c16_i32_23 : BitVec 32 := 16#32
  let v54 : BitVec 32 := Scalar.muli arg8 c16_i32_23
  let v55 : BitVec 32 := Scalar.addi c2048_i32_24 v54
  let v56 : Index := Scalar.indexCast v55
  ![v56.toNat]

def k0_chk3 (v59 : IVec S16 32) : Prop :=
  (∀ a x, ((![v59] : Fin 1 → IVec S16 32) a x).toNat < S16384.size a)
theorem k0_idx3_inb : ∀ (v59 : IVec S16 32) (k0_hw3 : k0_chk3 v59), ∀ a x, ((![v59] : Fin 1 → IVec S16 32) a x).toNat < S16384.size a := fun v59 k0_hw3 => k0_hw3
def k0_off5 (k0_t1 : Fin k0_t1_loop.trips) : Fin 1 → Nat :=
  let c4096_i32 : BitVec 32 := 4096#32
  let c0_i32 : BitVec 32 := 0#32
  let c1_i32 : BitVec 32 := 1#32
  let arg8 : BitVec 32 := Scf.iv c0_i32 c1_i32 k0_t1
  let c16_i32_26 : BitVec 32 := 16#32
  let v61 : BitVec 32 := Scalar.muli arg8 c16_i32_26
  let v62 : BitVec 32 := Scalar.addi c4096_i32 v61
  let v63 : Index := Scalar.indexCast v62
  ![v63.toNat]

def k0_chk4 (v66 : IVec S16 32) : Prop :=
  (∀ a x, ((![v66] : Fin 1 → IVec S16 32) a x).toNat < S16384.size a)
theorem k0_idx4_inb : ∀ (v66 : IVec S16 32) (k0_hw4 : k0_chk4 v66), ∀ a x, ((![v66] : Fin 1 → IVec S16 32) a x).toNat < S16384.size a := fun v66 k0_hw4 => k0_hw4
def k0_off6 (k0_t1 : Fin k0_t1_loop.trips) : Fin 1 → Nat :=
  let c6144_i32 : BitVec 32 := 6144#32
  let c0_i32 : BitVec 32 := 0#32
  let c1_i32 : BitVec 32 := 1#32
  let arg8 : BitVec 32 := Scf.iv c0_i32 c1_i32 k0_t1
  let c16_i32_28 : BitVec 32 := 16#32
  let v68 : BitVec 32 := Scalar.muli arg8 c16_i32_28
  let v69 : BitVec 32 := Scalar.addi c6144_i32 v68
  let v70 : Index := Scalar.indexCast v69
  ![v70.toNat]
def k0_off7 (i : grid0.Coords) (c0_i32_8 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_1 : BitVec 32 := 0#32
  let v5 : BitVec 1 := Scalar.cmpi .sgt v2 c0_i32_1
  let v6 : BitVec 32 := Scalar.extui v5
  let c0_i32_2 : BitVec 32 := 0#32
  let v7 : BitVec 1 := Scalar.cmpi .slt v2 c0_i32_2
  let v8 : BitVec 32 := Scalar.extui v7
  let v9 : BitVec 32 := Scalar.subi v6 v8
  let c16384_i32 : BitVec 32 := 16384#32
  let c0_i32_3 : BitVec 32 := 0#32
  let v10 : BitVec 1 := Scalar.cmpi .sgt c16384_i32 c0_i32_3
  let v11 : BitVec 32 := Scalar.extui v10
  let c0_i32_4 : BitVec 32 := 0#32
  let v12 : BitVec 1 := Scalar.cmpi .slt c16384_i32 c0_i32_4
  let v13 : BitVec 32 := Scalar.extui v12
  let v14 : BitVec 32 := Scalar.subi v11 v13
  let v15 : BitVec 1 := Scalar.cmpi .ne v9 v14
  let v16 : BitVec 32 := Scalar.remsi v2 c16384_i32
  let c0_i32_5 : BitVec 32 := 0#32
  let v17 : BitVec 1 := Scalar.cmpi .ne v16 c0_i32_5
  let v18 : BitVec 1 := Scalar.andi v15 v17
  let v4 : BitVec 32 := Scalar.divsi v2 c16384_i32
  let c1_i32_6 : BitVec 32 := 1#32
  let v19 : BitVec 32 := Scalar.subi v4 c1_i32_6
  let v20 : BitVec 32 := Scalar.select v18 v19 v4
  let c4_i32 : BitVec 32 := 4#32
  let v23 : BitVec 32 := Scalar.muli v20 c4_i32
  let v24 : BitVec 32 := Scalar.addi v23 c0_i32_8
  let c16384_i32_9 : BitVec 32 := 16384#32
  let v25 : BitVec 32 := Scalar.muli v24 c16384_i32_9
  let c16384_i32_7 : BitVec 32 := 16384#32
  let v21 : BitVec 32 := Scalar.muli v20 c16384_i32_7
  let v22 : BitVec 32 := Scalar.subi v2 v21
  let v26 : BitVec 32 := Scalar.addi v25 v22
  ![v26.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== LookupReference.lean ====
abbrev S4x16384x4 : Shape := ⟨3, ![4, 16384, 4]⟩
abbrev S4096x4 : Shape := ⟨2, ![4096, 4]⟩
abbrev S65536 : Shape := ⟨1, ![65536]⟩
abbrev S_ : Shape := ⟨0, ![]⟩
abbrev S65536x1 : Shape := ⟨2, ![65536, 1]⟩
abbrev S1 : Shape := ⟨1, ![1]⟩
abbrev S1x1 : Shape := ⟨2, ![1, 1]⟩
abbrev S65536x4 : Shape := ⟨2, ![65536, 4]⟩

abbrev nBuf : Space → Nat
  | .hbm => 29
  | .vmem => 0
  | .smem => 0
  | _ => 0

abbrev bufTy : (tb : Table) → Fin (tcTables nBuf tb) → BufTy
  | .hbm, ⟨0, _⟩ => ⟨S4x16384x4, .f32⟩
  | .hbm, ⟨1, _⟩ => ⟨S4096x4, .f32⟩
  | .hbm, ⟨2, _⟩ => ⟨S65536, .i32⟩
  | .hbm, ⟨3, _⟩ => ⟨S_, .i32⟩
  | .hbm, ⟨4, _⟩ => ⟨S65536, .i32⟩
  | .hbm, ⟨5, _⟩ => ⟨S65536, .i1⟩
  | .hbm, ⟨6, _⟩ => ⟨S_, .i32⟩
  | .hbm, ⟨7, _⟩ => ⟨S65536, .i32⟩
  | .hbm, ⟨8, _⟩ => ⟨S65536, .i32⟩
  | .hbm, ⟨9, _⟩ => ⟨S65536, .i32⟩
  | .hbm, ⟨10, _⟩ => ⟨S65536x1, .i32⟩
  | .hbm, ⟨11, _⟩ => ⟨S1, .i32⟩
  | .hbm, ⟨12, _⟩ => ⟨S_, .i32⟩
  | .hbm, ⟨13, _⟩ => ⟨S65536x1, .i32⟩
  | .hbm, ⟨14, _⟩ => ⟨S65536x1, .i1⟩
  | .hbm, ⟨15, _⟩ => ⟨S1x1, .i32⟩
  | .hbm, ⟨16, _⟩ => ⟨S65536x1, .i32⟩
  | .hbm, ⟨17, _⟩ => ⟨S65536x1, .i1⟩
  | .hbm, ⟨18, _⟩ => ⟨S65536x1, .i1⟩
  | .hbm, ⟨19, _⟩ => ⟨S_, .i1⟩
  | .hbm, ⟨20, _⟩ => ⟨S65536, .i1⟩
  | .hbm, ⟨21, _⟩ => ⟨S65536x4, .f32⟩
  | .hbm, ⟨22, _⟩ => ⟨S65536x4, .i1⟩
  | .hbm, ⟨23, _⟩ => ⟨S_, .f32⟩
  | .hbm, ⟨24, _⟩ => ⟨S65536x4, .f32⟩
  | .hbm, ⟨25, _⟩ => ⟨S65536x4, .f32⟩
  | .hbm, ⟨26, _⟩ => ⟨S4x16384x4, .f32⟩
  | .hbm, ⟨27, _⟩ => ⟨S4x16384x4, .f32⟩
  | .hbm, ⟨28, _⟩ => ⟨S4x16384x4, .f32⟩
  | _, _ => ⟨S4x16384x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩

abbrev nD : Nat := 1
abbrev τ : Topo := Topo.v7x

variable {F : FTy → Type} [FloatOps F]
-- ==== Proof.Tile.lean ====
/-
  One SparseCore tile's part of the kernel: it copies the flat codebook and its 2048 indices into its own memory, gathers the four components
  of each indexed row, and copies the four resulting rows of 2048 words out. Proved once, at a symbolic tile, for any float values `F`, any table
  and any indices below 4096: the tile's four pieces of the output end at the gathered words.
-/
module

public import proofs.«01_k».proof.Defs
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.ShareLeaves
public import Idealize.ShloMosaic.Lib.Pipeline.Kit
public import Idealize.ShloMosaic.Lib.ValueIdx
public import Idealize.ShloMosaic.Lib.ValueIdxRank1
public import Idealize.ShloMosaic.Lib.Tactic

@[expose] public section

noncomputable section

namespace Cert.Proof.Sc

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the TensorCore pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The buffers -/

abbrev tLoc (d : Dev nD) : Loc nD τ sig := (SparseCore.T d).loc main_v7
abbrev iLoc (d : Dev nD) : Loc nD τ sig := (SparseCore.T d).loc main_v6
abbrev oLoc (d : Dev nD) : Loc nD τ sig := (SparseCore.T d).loc main_v8

local notation "tV" => (Memref.whole Cert.KernelIdeal.main_v7_scv : Memref Cert.KernelIdeal.sig Kind.scVector Space.hbm Cert.KernelIdeal.S16384 EltTy.f32)
local notation "iV" => (Memref.whole Cert.KernelIdeal.main_v6_scv : Memref Cert.KernelIdeal.sig Kind.scVector Space.hbm Cert.KernelIdeal.S65536 EltTy.i32)
local notation "oV" => (Memref.whole Cert.KernelIdeal.main_v8_scv : Memref Cert.KernelIdeal.sig Kind.scVector Space.hbm Cert.KernelIdeal.S262144 EltTy.f32)
local notation "aT" => (Memref.whole Cert.KernelIdeal.cc1_scratch0 : Memref Cert.KernelIdeal.sig Kind.scVector Space.vmem Cert.KernelIdeal.S16384 EltTy.f32)
local notation "aI" => (Memref.whole Cert.KernelIdeal.cc1_scratch1 : Memref Cert.KernelIdeal.sig Kind.scVector Space.vmem Cert.KernelIdeal.S2048 EltTy.i32)
local notation "aO" => (Memref.whole Cert.KernelIdeal.cc1_scratch2 : Memref Cert.KernelIdeal.sig Kind.scVector Space.vmem Cert.KernelIdeal.S8192 EltTy.f32)

/-- Element `n` (below the extent) of a flat array. -/
def at1 {N : Nat} [NeZero N] (n : Nat) : (⟨1, ![N]⟩ : Shape).Idx := ix1 (Fin.ofNat N n)

theorem at1_val {N : Nat} [NeZero N] (n : Nat) (h : n < N) : ((at1 n : (⟨1, ![N]⟩ : Shape).Idx) 0).val = n := Nat.mod_eq_of_lt h

theorem at1_self {N : Nat} [NeZero N] (j : (⟨1, ![N]⟩ : Shape).Idx) : at1 (j 0).val = j := by
  rw [eq_ix1 j]; unfold at1; congr 1; exact Fin.ext (Nat.mod_eq_of_lt (j 0).isLt)

/-- What the SparseCore call leaves in its output, from the table and the indices: the word of row `b`, component `dd`, token `l` of the output
    (`(b * 4 + dd) * 16384 + l`) is the table's component `dd` of the row that token `(b, l)` indexes. -/
def gathered (tb : S16384.Idx → Elt F .f32) (ix : S65536.Idx → Elt F .i32) : S262144.Idx → Elt F .f32 :=
  fun j => tb (at1 ((ix (at1 ((j 0).val / 65536 * 16384 + (j 0).val % 16384))).toNat * 4 + (j 0).val / 16384 % 4))

section Operands

variable (tb : (d : Dev nD) → Buf (Elt F) (tLoc d)) (ix : (d : Dev nD) → Buf (Elt F) (iLoc d))

/-- The gathered words as the output's contents. -/
abbrev oG (d : Dev nD) : Buf (Elt F) (oLoc d) := gathered (tb d) (ix d)

variable (d : Dev nD) (L : grid1.Coords)

/-- The tile's coordinates. -/
abbrev cV (L : grid1.Coords) : Fin τ.nSC := (L 0).castLE hcore1
abbrev jV (L : grid1.Coords) : Fin τ.nSub := (L 1).castLE hsub1
/-- The tile's number among the 32. -/
theorem wid_lt : (L 1).val * 2 + (L 0).val < 2 ^ 5 := by
  have h0 : (L 0).val < 2 := (L 0).isLt
  have h1 : (L 1).val < 16 := (L 1).isLt
  omega
abbrev wid : Fin (2 ^ 5) := ⟨(L 1).val * 2 + (L 0).val, wid_lt L⟩
/-- The tile's share of the arrays every tile reads. -/
abbrev rq : PosShare TreeShare := ShareLeaves.leaf 5 fullShare (wid L)

/-- Piece `dd` of the output, as the tile addresses it. -/
abbrev oRect (dd : Fin 4) : Rect S262144 := Rect.unit (s := S262144) (k1_off7 L (BitVec.ofNat 32 dd.val)) S2048.size (k1_off7_inb L dd)
abbrev oPc (dd : Fin 4) : Memref sig .scVector .hbm S2048 .f32 := (oV).slice (oRect L dd) (fun _ => rfl)
abbrev oSet (dd : Fin 4) : Finset S262144.Idx := (oPc L dd).view.set
/-- The tile's indices, as the tile addresses them. -/
abbrev iPc : Memref sig .scVector .hbm S2048 .i32 := (iV).slice (Rect.unit (s := S65536) (k1_off1 L) S2048.size (k1_off1_inb L)) (fun _ => rfl)

abbrev tPts : sProp 𝕄 := tLoc d ↦{rq L} tb d
abbrev iPts : sProp 𝕄 := iLoc d ↦{rq L} ix d
abbrev oAny (dd : Fin 4) : sProp 𝕄 := iprop(∃ f : Buf (Elt F) (oLoc d), oLoc d ↦[oSet L dd]{fullShare} f)
abbrev oPts (dd : Fin 4) : sProp 𝕄 := oLoc d ↦[oSet L dd]{fullShare} oG tb ix d

theorem k1_off7_eq : ∀ (i : grid1.Coords) (r : Fin 4), k1_off7 i (BitVec.ofNat 32 r.val)
    = ![(((i 1).val * 2 + (i 0).val) / 8 * 4 + r.val) * 16384 + ((i 1).val * 2 + (i 0).val) % 8 * 2048] := by decide +kernel

/-! ## The tile's own buffers -/

abbrev thrV : Thread nD τ := V d (cV L) (jV L)

/-- The tile's copies of its indices: index `p` of the tile is index `2048 * (2 * subcore + core) + p` of the array. -/
def ixT : S2048.Idx → Elt F .i32 := fun p => ix d (at1 (2048 * (wid L).val + (p 0).val))

/-- What the tile's loop leaves in its output scratch: component `p / 2048` of the row its index `p % 2048` names. -/
def gathT : S8192.Idx → Elt F .f32 :=
  fun p => tb d (at1 ((ixT ix d L (at1 ((p 0).val % 2048))).toNat * 4 + (p 0).val / 2048))

/-- The tile's indices of trip `t`, as the loop loads them. -/
abbrev lanes (t : Fin k1_t1_loop.trips) : Vec F S16 .i32 :=
  (aI).view.readAt (Elt F) (Rect.unit (s := S2048) (k1_off2 t) S16.size (k1_off2_inb t)).toLoadRect (ixT ix d L : S2048.Idx → Elt F .i32)

theorem trips_lt (t : Fin k1_t1_loop.trips) : t.val < 128 := lt_of_lt_of_le t.isLt k1_t1_abs.2.1

theorem lanes_apply (t : Fin k1_t1_loop.trips) (x : S16.Idx) : lanes ix d L t x = ixT ix d L (at1 (16 * t.val + (x 0).val)) := by
  have ht := trips_lt t
  have hx : (x 0).val < 16 := (x 0).isLt
  show ixT ix d L _ = _
  congr 1
  funext a
  match a with
  | ⟨0, _⟩ =>
    refine Fin.ext ?_
    rw [show (⟨0, _⟩ : Fin S2048.rank) = 0 from rfl, at1_val _ (by omega)]
    show k1_off2 t 0 + 1 * (x 0).val = _
    rw [k1_off2_eq]; simp

theorem lanes_lt (hix : ∀ d j, (ix d j).toNat < 4096) (t : Fin k1_t1_loop.trips) (x : S16.Idx) : (lanes ix d L t x).toNat < 4096 := by
  rw [lanes_apply]; exact hix _ _

/-- Four times an index below 4096, and a component: no wrap-around. -/
theorem word_toNat (w : BitVec 32) (hw : w.toNat < 4096) (k : Nat) (hk : k < 4) : (w * 4#32 + BitVec.ofNat 32 k).toNat = w.toNat * 4 + k := by
  simp only [BitVec.toNat_add, BitVec.toNat_mul, BitVec.toNat_ofNat]; omega

section Words
variable (hix : ∀ d j, (ix d j).toNat < 4096) (t : Fin k1_t1_loop.trips) (x : S16.Idx)
include hix
theorem pay2_toNat : (k1_pay2 (lanes ix d L t) x).toNat = (lanes ix d L t x).toNat * 4 + 0 := word_toNat _ (lanes_lt ix d L hix t x) 0 (by omega)
theorem pay3_toNat : (k1_pay3 (lanes ix d L t) x).toNat = (lanes ix d L t x).toNat * 4 + 1 := word_toNat _ (lanes_lt ix d L hix t x) 1 (by omega)
theorem pay4_toNat : (k1_pay4 (lanes ix d L t) x).toNat = (lanes ix d L t x).toNat * 4 + 2 := word_toNat _ (lanes_lt ix d L hix t x) 2 (by omega)
theorem pay5_toNat : (k1_pay5 (lanes ix d L t) x).toNat = (lanes ix d L t x).toNat * 4 + 3 := word_toNat _ (lanes_lt ix d L hix t x) 3 (by omega)
end Words

/-- An indexed load at in-range words reads the elements they name. -/
theorem loadIdx_val (f : S16384.Idx → Elt F .f32) (v : IVec S16 32) (n : S16.Idx → Nat) (hv : ∀ x, (v x).toNat = n x)
    (h : ∀ a x, ((![v] : Fin 1 → IVec S16 32) a x).toNat < S16384.size a) : loadIdx f (![v] : Fin 1 → IVec S16 32) h = fun x => f (at1 (n x)) := by
  funext x
  show f _ = f _
  congr 1
  funext a
  match a with
  | ⟨0, _⟩ =>
    have := h 0 x
    refine Fin.ext ?_
    rw [show (⟨0, _⟩ : Fin S16384.rank) = 0 from rfl, at1_val _ (by rw [← hv]; exact this)]
    exact hv x

theorem chk_of (v : IVec S16 32) (n : S16.Idx → Nat) (hv : ∀ x, (v x).toNat = n x) (hn : ∀ x, n x < 16384) :
    ∀ a x, ((![v] : Fin 1 → IVec S16 32) a x).toNat < S16384.size a := by
  intro a x
  match a with
  | ⟨0, _⟩ => show (v x).toNat < 16384; rw [hv]; exact hn x

/-- The loop's state before trip `t`: the table and the indices in place, and the first `16 * t` tokens of each component gathered. -/
def inv (t : ℕ) (_ : Unit) : sProp 𝕄 :=
  iprop(((aT).view.loc (thrV d L) ↦{fullShare} (tb d : S16384.Idx → Elt F .f32))
    ∗ ((aI).view.loc (thrV d L) ↦{fullShare} (ixT ix d L : S2048.Idx → Elt F .i32))
    ∗ ∃ f : S8192.Idx → Elt F .f32, ⌜∀ p : S8192.Idx, (p 0).val % 2048 < 16 * t → f p = gathT tb ix d L p⌝
        ∗ ((aO).view.loc (thrV d L) ↦{fullShare} f))

/-- Four blocks of sixteen words, block `k` at `16 * t + 2048 * k`, all taken from `G`: the first `16 * (t + 1)` tokens of each component are `G`'s if
    the first `16 * t` were. -/
theorem writes4 (t : Fin k1_t1_loop.trips) (f G : S8192.Idx → Elt F .f32) (w0 w1 w2 w3 : S16.Idx → Elt F .f32)
    (hf : ∀ p : S8192.Idx, (p 0).val % 2048 < 16 * t.val → f p = G p)
    (h0 : ∀ x : S16.Idx, w0 x = G (at1 (16 * t.val + 2048 * 0 + (x 0).val))) (h1 : ∀ x : S16.Idx, w1 x = G (at1 (16 * t.val + 2048 * 1 + (x 0).val)))
    (h2 : ∀ x : S16.Idx, w2 x = G (at1 (16 * t.val + 2048 * 2 + (x 0).val))) (h3 : ∀ x : S16.Idx, w3 x = G (at1 (16 * t.val + 2048 * 3 + (x 0).val)))
    (p : S8192.Idx) (hp : (p 0).val % 2048 < 16 * (t.val + 1)) :
    (aO).view.read (Elt F) ((aO).view.writes (Elt F) f
      [⟨Rect.unit (s := S8192) (k1_off6 t) S16.size (k1_off6_inb t), w3⟩, ⟨Rect.unit (s := S8192) (k1_off5 t) S16.size (k1_off5_inb t), w2⟩,
        ⟨Rect.unit (s := S8192) (k1_off4 t) S16.size (k1_off4_inb t), w1⟩, ⟨Rect.unit (s := S8192) (k1_off3 t) S16.size (k1_off3_inb t), w0⟩]) p = G p := by
  have ht := trips_lt t
  have hp0 : (p 0).val < 8192 := (p 0).isLt
  have key : ∀ (off : Fin 1 → Nat) (inb : ∀ a, off a + S16.size a ≤ S8192.size a) (b : Nat), off = ![b] →
      (p ∈ (Rect.unit (s := S8192) off S16.size inb).set ↔ b ≤ (p 0).val ∧ (p 0).val < b + 16) := by
    intro off inb b hb
    subst hb
    refine (Rect.unit (s := S8192) ![b] S16.size inb).mem_set.trans ?_
    constructor
    · intro h
      obtain ⟨j, hj, e⟩ := h 0
      have e' : (p 0).val = b + 1 * j := e
      have hj' : j < 16 := hj
      omega
    · rintro ⟨ha, hb⟩ a
      match a with
      | ⟨0, _⟩ => exact ⟨(p 0).val - b, show _ < 16 by omega, show (p 0).val = b + 1 * ((p 0).val - b) by omega⟩
  have k3 := key _ (k1_off3_inb t) _ (k1_off3_eq t)
  have k4 := key _ (k1_off4_inb t) _ (k1_off4_eq t)
  have k5 := key _ (k1_off5_inb t) _ (k1_off5_eq t)
  have k6 := key _ (k1_off6_inb t) _ (k1_off6_eq t)
  have emb : ∀ (off : Fin 1 → Nat) (inb : ∀ a, off a + S16.size a ≤ S8192.size a) (b : Nat), off = ![b] → b + 16 ≤ 8192 →
      ∀ x : S16.Idx, (at1 (b + (x 0).val) : S8192.Idx) = (Rect.unit (s := S8192) off S16.size inb).emb x := by
    intro off inb b hb hb' x
    subst hb
    have hx : (x 0).val < 16 := (x 0).isLt
    refine ((Rect.unit (s := S8192) ![b] S16.size inb).emb_eq_of_coords x _ fun a => ?_).symm
    match a with
    | ⟨0, _⟩ => rw [show (⟨0, _⟩ : Fin S8192.rank) = 0 from rfl, at1_val _ (by omega)]; show _ = b + 1 * (x 0).val; omega
  by_cases hin : (p 0).val % 2048 < 16 * t.val
  · refine (View.read_writes_apply_of_forall_not_mem (v := (aO).view) (f := f) p _ ?_).trans (hf p hin)
    intro q hq
    simp only [List.mem_cons, List.not_mem_nil, or_false] at hq
    rcases hq with rfl | rfl | rfl | rfl
    · rw [k6]; omega
    · rw [k5]; omega
    · rw [k4]; omega
    · rw [k3]; omega
  · refine View.read_writes_apply_of_pieces (v := (aO).view) (f := f) G _ ?_ p ?_
    · intro q hq x
      simp only [List.mem_cons, List.not_mem_nil, or_false] at hq
      rcases hq with rfl | rfl | rfl | rfl
      · exact (h3 x).trans (congrArg G (emb _ (k1_off6_inb t) _ (k1_off6_eq t) (by omega) x))
      · exact (h2 x).trans (congrArg G (emb _ (k1_off5_inb t) _ (k1_off5_eq t) (by omega) x))
      · exact (h1 x).trans (congrArg G (emb _ (k1_off4_inb t) _ (k1_off4_eq t) (by omega) x))
      · exact (h0 x).trans (congrArg G (emb _ (k1_off3_inb t) _ (k1_off3_eq t) (by omega) x))
    · have hc : (p 0).val / 2048 = 0 ∨ (p 0).val / 2048 = 1 ∨ (p 0).val / 2048 = 2 ∨ (p 0).val / 2048 = 3 := by omega
      rcases hc with hc | hc | hc | hc
      · exact ⟨_, List.mem_cons_of_mem _ (List.mem_cons_of_mem _ (List.mem_cons_of_mem _ List.mem_cons_self)), k3.mpr (by omega)⟩
      · exact ⟨_, List.mem_cons_of_mem _ (List.mem_cons_of_mem _ List.mem_cons_self), k4.mpr (by omega)⟩
      · exact ⟨_, List.mem_cons_of_mem _ List.mem_cons_self, k5.mpr (by omega)⟩
      · exact ⟨_, List.mem_cons_self, k6.mpr (by omega)⟩

/-- What trip `t` stores for component `k` is the gathered words'. -/
theorem piece (hix : ∀ d j, (ix d j).toNat < 4096) (t : Fin k1_t1_loop.trips) (k : Nat) (hk : k < 4) (v : IVec S16 32)
    (hv : ∀ x, (v x).toNat = (lanes ix d L t x).toNat * 4 + k) (T : S16384.Idx → Elt F .f32) (hT : T = tb d)
    (h : ∀ a x, ((![v] : Fin 1 → IVec S16 32) a x).toNat < S16384.size a) (x : S16.Idx) :
    loadIdx T (![v] : Fin 1 → IVec S16 32) h x = gathT tb ix d L (at1 (16 * t.val + 2048 * k + (x 0).val)) := by
  have ht := trips_lt t
  have hx : (x 0).val < 16 := (x 0).isLt
  subst hT
  rw [loadIdx_val _ _ _ hv]
  show tb d _ = _
  rw [show (lanes ix d L t x) = _ from lanes_apply ix d L t x]
  unfold gathT
  rw [at1_val _ (by omega), show (16 * t.val + 2048 * k + (x 0).val) % 2048 = 16 * t.val + (x 0).val by omega,
    show (16 * t.val + 2048 * k + (x 0).val) / 2048 = k by omega]

variable [FloatOps F]

set_option maxHeartbeats 4000000 in
theorem trip (hix : ∀ d j, (ix d j).toNat < 4096) (t : Fin k1_t1_loop.trips) (u : Unit) :
    inv tb ix d L t.val u
      ⊢ wp frame (wpE (defs₀ (F := F)) 𝒱₀ (thrV d L) none) Set.univ
          (k1_t1_body L tV (Memref.isWhole_whole _) iV (Memref.isWhole_whole _) oV (Memref.isWhole_whole _)
            aT (Memref.isWhole_whole _) aI (Memref.isWhole_whole _) aO (Memref.isWhole_whole _)
            cc1_scoped0 cc1_scoped1 cc1_scoped2 cc1_scoped3 cc1_scoped4 cc1_scoped5 t u)
          (fun u' => inv tb ix d L (t.val + 1) u') := by
  have hl := lanes_lt ix d L hix t
  have hc1 : k1_chk1 (k1_pay2 (lanes ix d L t)) := chk_of _ _ (pay2_toNat ix d L hix t) fun x => by have := hl x; omega
  have hc2 : k1_chk2 (k1_pay3 (lanes ix d L t)) := chk_of _ _ (pay3_toNat ix d L hix t) fun x => by have := hl x; omega
  have hc3 : k1_chk3 (k1_pay4 (lanes ix d L t)) := chk_of _ _ (pay4_toNat ix d L hix t) fun x => by have := hl x; omega
  have hc4 : k1_chk4 (k1_pay5 (lanes ix d L t)) := chk_of _ _ (pay5_toNat ix d L hix t) fun x => by have := hl x; omega
  unfold inv k1_t1_body
  iintro ⟨HT, HI, %f, %hf, HO⟩
  sl_exec
  iapply (SparseCore.wp_vectorLoadIdx 𝒱₀ (thrV d L) none Set.univ (base := aT) (S := Finset.univ) (q := fullShare) (Finset.subset_univ _)) $$ HT; iintro HT
  sl_exec
  iapply (SparseCore.wp_vectorLoadIdx 𝒱₀ (thrV d L) none Set.univ (base := aT) (S := Finset.univ) (q := fullShare) (Finset.subset_univ _)) $$ HT; iintro HT
  sl_exec
  iapply (SparseCore.wp_vectorLoadIdx 𝒱₀ (thrV d L) none Set.univ (base := aT) (S := Finset.univ) (q := fullShare) (Finset.subset_univ _)) $$ HT; iintro HT
  sl_exec
  iapply (SparseCore.wp_vectorLoadIdx 𝒱₀ (thrV d L) none Set.univ (base := aT) (S := Finset.univ) (q := fullShare) (Finset.subset_univ _)) $$ HT; iintro HT
  sl_exec
  sl_step
  isplitl [HT]; · iexact HT
  isplitl [HI]; · iexact HI
  iexists _; isplitr
  swap; · iexact HO
  ipureintro
  have hT : View.read (Elt F) ((aT).access (Rect.whole cc1_scratch0.ty.shape)) (tb d) = tb d := Memref.read_access_whole _ _ _
  intro p hp
  refine (congrFun (View.read_whole (Val := Elt F) (b := cc1_scratch2) _) p).symm.trans ?_
  exact writes4 t f (gathT tb ix d L) _ _ _ _ hf (piece tb ix d L hix t 0 (by omega) _ (pay2_toNat ix d L hix t) _ hT _)
    (piece tb ix d L hix t 1 (by omega) _ (pay3_toNat ix d L hix t) _ hT _) (piece tb ix d L hix t 2 (by omega) _ (pay4_toNat ix d L hix t) _ hT _)
    (piece tb ix d L hix t 3 (by omega) _ (pay5_toNat ix d L hix t) _ hT _) p hp

abbrev cell0 (d : Dev nD) (L : grid1.Coords) : GSem nD τ sig := (thrV d L, .dma cc1_scoped0.sem)
abbrev cell1 (d : Dev nD) (L : grid1.Coords) : GSem nD τ sig := (thrV d L, .dma cc1_scoped1.sem)
abbrev cell2 (d : Dev nD) (L : grid1.Coords) : GSem nD τ sig := (thrV d L, .dma cc1_scoped2.sem)
abbrev cell3 (d : Dev nD) (L : grid1.Coords) : GSem nD τ sig := (thrV d L, .dma cc1_scoped3.sem)
abbrev cell4 (d : Dev nD) (L : grid1.Coords) : GSem nD τ sig := (thrV d L, .dma cc1_scoped4.sem)
abbrev cell5 (d : Dev nD) (L : grid1.Coords) : GSem nD τ sig := (thrV d L, .dma cc1_scoped5.sem)

omit [FloatOps F] in
/-- The tile's six semaphores at zero, and its others. -/
theorem ownSems0_V :
    (ownSems0 (thrV d L) : sProp 𝕄)
      = iprop(semVal (cell0 d L) 0 ∗ semVal (cell1 d L) 0 ∗ semVal (cell2 d L) 0 ∗ semVal (cell3 d L) 0 ∗ semVal (cell4 d L) 0 ∗ semVal (cell5 d L) 0
          ∗ bigSep ((((((((ownCells (thrV d L))).erase (cell0 d L)).erase (cell1 d L)).erase (cell2 d L)).erase (cell3 d L)).erase (cell4 d L)).erase (cell5 d L)) fun g => semVal g 0) := by
  unfold SparseCore.Cfg.ownSems0
  rw [SparseCore.bigSep_erase' ((mem_ownCells (g := cell0 d L)).mpr ⟨rfl, show (SemLoc.dma cc1_scoped0.sem : SemLoc sig).isScoped .scVector = true by decide⟩),
    SparseCore.bigSep_erase' (Finset.mem_erase.mpr ⟨by simp [cell0, cell1]; decide, (mem_ownCells (g := cell1 d L)).mpr ⟨rfl, show (SemLoc.dma cc1_scoped1.sem : SemLoc sig).isScoped .scVector = true by decide⟩⟩),
    SparseCore.bigSep_erase' (Finset.mem_erase.mpr ⟨by simp [cell1, cell2]; decide, Finset.mem_erase.mpr ⟨by simp [cell0, cell2]; decide, (mem_ownCells (g := cell2 d L)).mpr ⟨rfl, show (SemLoc.dma cc1_scoped2.sem : SemLoc sig).isScoped .scVector = true by decide⟩⟩⟩),
    SparseCore.bigSep_erase' (Finset.mem_erase.mpr ⟨by simp [cell2, cell3]; decide, Finset.mem_erase.mpr ⟨by simp [cell1, cell3]; decide, Finset.mem_erase.mpr ⟨by simp [cell0, cell3]; decide, (mem_ownCells (g := cell3 d L)).mpr ⟨rfl, show (SemLoc.dma cc1_scoped3.sem : SemLoc sig).isScoped .scVector = true by decide⟩⟩⟩⟩),
    SparseCore.bigSep_erase' (Finset.mem_erase.mpr ⟨by simp [cell3, cell4]; decide, Finset.mem_erase.mpr ⟨by simp [cell2, cell4]; decide, Finset.mem_erase.mpr ⟨by simp [cell1, cell4]; decide, Finset.mem_erase.mpr ⟨by simp [cell0, cell4]; decide, (mem_ownCells (g := cell4 d L)).mpr ⟨rfl, show (SemLoc.dma cc1_scoped4.sem : SemLoc sig).isScoped .scVector = true by decide⟩⟩⟩⟩⟩),
    SparseCore.bigSep_erase' (Finset.mem_erase.mpr ⟨by simp [cell4, cell5]; decide, Finset.mem_erase.mpr ⟨by simp [cell3, cell5]; decide, Finset.mem_erase.mpr ⟨by simp [cell2, cell5]; decide, Finset.mem_erase.mpr ⟨by simp [cell1, cell5]; decide, Finset.mem_erase.mpr ⟨by simp [cell0, cell5]; decide, (mem_ownCells (g := cell5 d L)).mpr ⟨rfl, show (SemLoc.dma cc1_scoped5.sem : SemLoc sig).isScoped .scVector = true by decide⟩⟩⟩⟩⟩⟩)]

omit [FloatOps F] in
/-- The tile's three scratch buffers, and its others. -/
theorem ownBufs_V :
    (ownBufs (thrV d L) : sProp 𝕄)
      = iprop((∃ f, (thrV d L).loc cc1_scratch0 ↦{fullShare} f) ∗ (∃ f, (thrV d L).loc cc1_scratch1 ↦{fullShare} f) ∗ (∃ f, (thrV d L).loc cc1_scratch2 ↦{fullShare} f)
          ∗ bigSep (((((ownRefs (τ := τ) (.scVector (cV L) (jV L)))).erase ((Proc.scVector (cV L) (jV L)).devRef cc1_scratch0)).erase ((Proc.scVector (cV L) (jV L)).devRef cc1_scratch1)).erase ((Proc.scVector (cV L) (jV L)).devRef cc1_scratch2)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide), SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide), Finset.mem_erase.mpr ⟨fun e => absurd (Proc.devRef_injective _ e) (show (cc1_scratch2 : Ref sig .scVector) ≠ cc1_scratch0 by decide), SparseCore.Cfg.mem_ownRefs_of_owner (p := Proc.scVector (cV L) (jV L)) (b := (Proc.scVector (cV L) (jV L)).devRef cc1_scratch2) rfl⟩⟩)]

omit [FloatOps F] in
/-- The tile's fetched indices are its part of the index array. -/
theorem ixT_eq : (iPc L).view.read (Elt F) (ix d) = (ixT ix d L : S2048.Idx → Elt F .i32) := by
  funext p
  refine (View.read_apply _ _).trans ((cast_eq _ _).trans ?_)
  unfold ixT
  congr 1
  have hw := wid_lt L
  have hp : (p 0).val < 2048 := (p 0).isLt
  refine (Rect.unit (s := S65536) (k1_off1 L) S2048.size (k1_off1_inb L)).emb_eq_of_coords p _ fun a => ?_
  match a with
  | ⟨0, _⟩ =>
    rw [show (⟨0, _⟩ : Fin S65536.rank) = 0 from rfl, at1_val _ (by show 2048 * ((L 1).val * 2 + (L 0).val) + (p 0).val < 65536; omega)]
    show _ = k1_off1 L 0 + 1 * (p 0).val
    rw [k1_off1_eq]
    show 2048 * ((L 1).val * 2 + (L 0).val) + (p 0).val = 4096 * (L 1).val + 2048 * (L 0).val + 1 * (p 0).val
    omega

omit [FloatOps F] in
/-- A piece of the output written with block `k` of the gathered scratch holds the output's gathered words. -/
theorem out_piece (k : Fin 4) (f : Buf (Elt F) (oLoc d)) (pay : S2048.Idx → Elt F .f32)
    (hpay : ∀ x : S2048.Idx, pay x = gathT tb ix d L (at1 (2048 * k.val + (x 0).val))) :
    ((oPc L k).view.loc (thrV d L) ↦[(oPc L k).view.set]{fullShare} (oPc L k).view.writes (Elt F) f [⟨Rect.whole S2048, pay⟩] : sProp 𝕄)
      = oPts tb ix d L k := by
  rw [← View.write_univ_eq_writes_whole (oPc L k).view f [] pay]
  refine pointsTo_congr fun i hi => ?_
  obtain ⟨x, -, rfl⟩ := Finset.mem_map.mp hi
  rw [View.write_emb_of_mem _ _ (Finset.mem_univ _)]
  refine (cast_eq _ _).trans ((hpay x).trans ?_)
  have hw := wid_lt L
  have hk := k.isLt
  have hx : (x 0).val < 2048 := (x 0).isLt
  have he : ((oPc L k).view.emb x 0).val = ((wid L).val / 8 * 4 + k.val) * 16384 + (wid L).val % 8 * 2048 + (x 0).val := by
    show k1_off7 L (BitVec.ofNat 32 k.val) 0 + 1 * (x 0).val = _
    rw [k1_off7_eq]
    show (((L 1).val * 2 + (L 0).val) / 8 * 4 + k.val) * 16384 + ((L 1).val * 2 + (L 0).val) % 8 * 2048 + 1 * (x 0).val = _
    rw [Nat.one_mul]
  show _ = gathered (tb d) (ix d) ((oPc L k).view.emb x)
  unfold gathT gathered ixT
  rw [at1_val (N := 8192) (2048 * k.val + (x 0).val) (by omega), he]
  have hw' : (wid L).val < 32 := hw
  have e0 : (at1 ((2048 * k.val + (x 0).val) % 2048) : S2048.Idx) = at1 (x 0).val := by congr 1; omega
  rw [e0, at1_val _ hx]
  generalize (wid L).val = w at hw' ⊢
  have e1 : (2048 * k.val + (x 0).val) / 2048 = k.val := by omega
  have e2 : ((w / 8 * 4 + k.val) * 16384 + w % 8 * 2048 + (x 0).val) / 65536 = w / 8 := by omega
  have e3 : ((w / 8 * 4 + k.val) * 16384 + w % 8 * 2048 + (x 0).val) % 16384 = w % 8 * 2048 + (x 0).val := by omega
  have e4 : ((w / 8 * 4 + k.val) * 16384 + w % 8 * 2048 + (x 0).val) / 16384 % 4 = k.val := by omega
  have e5 : w / 8 * 16384 + (w % 8 * 2048 + (x 0).val) = 2048 * w + (x 0).val := by omega
  rw [e1, e2, e3, e4, e5]

omit [FloatOps F] in
/-- Block `b` of the tile's scratch, as the write-outs read it. -/
theorem scratch_block (b : Nat) (inb : ∀ a, (![b] : Fin 1 → Nat) a + S2048.size a ≤ S8192.size a) (k : Fin 4) (hb : b = 2048 * k.val)
    (hst : ∀ a, (Rect.unit (s := S8192) ![b] S2048.size inb).stride a = 1)
    (f : S8192.Idx → Elt F .f32) (hf : ∀ p : S8192.Idx, f p = gathT tb ix d L p) (x : S2048.Idx) :
    ((aO).slice (Rect.unit (s := S8192) ![b] S2048.size inb) hst).view.read (Elt F) f x = gathT tb ix d L (at1 (2048 * k.val + (x 0).val)) := by
  refine (View.read_apply _ _).trans ((cast_eq _ _).trans ((hf _).trans ?_))
  have hx : (x 0).val < 2048 := (x 0).isLt
  have hk := k.isLt
  congr 1
  refine (Rect.unit (s := S8192) ![b] S2048.size inb).emb_eq_of_coords x _ fun a => ?_
  match a with
  | ⟨0, _⟩ =>
    rw [show (⟨0, _⟩ : Fin S8192.rank) = 0 from rfl, at1_val _ (by omega)]
    show _ = b + 1 * (x 0).val
    omega

/-- A piece of the output at a literal component word. -/
abbrev oPw (w : BitVec 32) (h : ∀ a, k1_off7 L w a + S2048.size a ≤ S262144.size a) : Memref sig .scVector .hbm S2048 .f32 :=
  (oV).slice (Rect.unit (s := S262144) (k1_off7 L w) S2048.size h) (fun _ => rfl)

/-- What a tile takes: its shares of the table and of the indices, its four pieces of the output. -/
abbrev goV : sProp 𝕄 := iprop(tPts tb d L ∗ iPts ix d L ∗ oAny d L 0 ∗ oAny d L 1 ∗ oAny d L 2 ∗ oAny d L 3)
/-- What it brings back: the same, its pieces at the gathered words. -/
abbrev tdV : sProp 𝕄 := iprop(tPts tb d L ∗ iPts ix d L ∗ oPts tb ix d L 0 ∗ oPts tb ix d L 1 ∗ oPts tb ix d L 2 ∗ oPts tb ix d L 3)

set_option maxHeartbeats 4000000 in
theorem tile_body (hF : (K (F := F)).Facts) (hix : ∀ d j, (ix d j).toNat < 4096) (O : CellTallies nD τ sig (HIx 1)) (W : Waits sig (HIx 1)) (hO : ∀ g, O g none = 0) :
    iprop(levAts (K (F := F)).L (K (F := F)).lev ∗ emp ∗ goV tb ix d L
        ∗ scopedBufs (thrV d L) ∗ scopedSems0 (thrV d L) ∗ owes (thrV d L) O W)
      ⊢ wp frame (wpE (defs₀ (F := F)) 𝒱₀ (thrV d L) none) Set.univ
          (cc1_k L tV (Memref.isWhole_whole _) iV (Memref.isWhole_whole _) oV (Memref.isWhole_whole _)
            aT (Memref.isWhole_whole _) aI (Memref.isWhole_whole _) aO (Memref.isWhole_whole _)
            cc1_scoped0 cc1_scoped1 cc1_scoped2 cc1_scoped3 cc1_scoped4 cc1_scoped5)
          fun _ => iprop(tdV tb ix d L ∗ scopedBufs (thrV d L) ∗ scopedSems0 (thrV d L)
            ∗ ∃ W', ⌜∀ p ∈ W', p ∈ W ∨ p.2 = none⌝ ∗ owes (thrV d L) O W') := by
  simp only [cc1_k_eq_skeleton]; unfold cc1_k_skel
  simp only [k1_part1_eq_skeleton, k1_part2_eq_skeleton]; unfold k1_part1_skel k1_part2_skel
  rw [(K (F := F)).scopedBufs_V hF d (cV L) (jV L), SparseCore.Cfg.scopedSems0_V (Val := Elt F) d (cV L) (jV L), ownSems0_V, ownBufs_V]
  iintro ⟨#Hlv, -, ⟨Ht, Hi, ⟨%o0, Ho0⟩, ⟨%o1, Ho1⟩, ⟨%o2, Ho2⟩, ⟨%o3, Ho3⟩⟩, ⟨⟨%fT, HT⟩, ⟨%fI, HI⟩, ⟨%fO, HO'⟩, Hbufs⟩, ⟨Hs0, Hs1, Hs2, Hs3, Hs4, Hs5, Hsems⟩, HO⟩
  ihave Hmw := (show levAts (K (F := F)).L (K (F := F)).lev ⊢ Transfers.MayWaits (thrV d L) (default : HIx 1) O from
    (K (F := F)).mayWaits_none (thr := thrV d L) hO) $$ Hlv
  ihave Ht' := (show _ ⊢ ((tV).view.loc (thrV d L) ↦{rq L} tb d : sProp 𝕄) from Entails.of_eq rfl) $$ Ht
  ihave Hi' := (show _ ⊢ ((iV).view.loc (thrV d L) ↦{rq L} ix d : sProp 𝕄) from Entails.of_eq rfl) $$ Hi
  ihave HT' := (show _ ⊢ ((aT).view.loc (thrV d L) ↦{fullShare} fT : sProp 𝕄) from Entails.of_eq rfl) $$ HT
  ihave HI' := (show _ ⊢ ((aI).view.loc (thrV d L) ↦{fullShare} fI : sProp 𝕄) from Entails.of_eq rfl) $$ HI
  ihave HO'' := (show _ ⊢ ((aO).view.loc (thrV d L) ↦{fullShare} fO : sProp 𝕄) from Entails.of_eq rfl) $$ HO'
  ihave Ho0' := (show (oLoc d ↦[oSet L 0]{fullShare} o0 : sProp 𝕄) ⊢ ((oPw L 0#32 (k1_off7_inb L 0)).view.loc (thrV d L) ↦[(oPw L 0#32 (k1_off7_inb L 0)).view.set]{fullShare} o0 : sProp 𝕄) from Entails.of_eq rfl) $$ Ho0
  ihave Ho1' := (show (oLoc d ↦[oSet L 1]{fullShare} o1 : sProp 𝕄) ⊢ ((oPw L 1#32 (k1_off7_inb L 1)).view.loc (thrV d L) ↦[(oPw L 1#32 (k1_off7_inb L 1)).view.set]{fullShare} o1 : sProp 𝕄) from Entails.of_eq rfl) $$ Ho1
  ihave Ho2' := (show (oLoc d ↦[oSet L 2]{fullShare} o2 : sProp 𝕄) ⊢ ((oPw L 2#32 (k1_off7_inb L 2)).view.loc (thrV d L) ↦[(oPw L 2#32 (k1_off7_inb L 2)).view.set]{fullShare} o2 : sProp 𝕄) from Entails.of_eq rfl) $$ Ho2
  ihave Ho3' := (show (oLoc d ↦[oSet L 3]{fullShare} o3 : sProp 𝕄) ⊢ ((oPw L 3#32 (k1_off7_inb L 3)).view.loc (thrV d L) ↦[(oPw L 3#32 (k1_off7_inb L 3)).view.set]{fullShare} o3 : sProp 𝕄) from Entails.of_eq rfl) $$ Ho3
  sl_exec
  ihave HT2 := (show _ ⊢ ((aT).view.loc (thrV d L) ↦{fullShare} (tb d : S16384.Idx → Elt F .f32) : sProp 𝕄) from
    Entails.of_eq (by rw [View.write_whole_univ]; rfl)) $$ HT'
  ihave HI2 := (show _ ⊢ ((aI).view.loc (thrV d L) ↦{fullShare} (ixT ix d L : S2048.Idx → Elt F .i32) : sProp 𝕄) from
    Entails.of_eq (by rw [View.write_whole_univ, ← ixT_eq]; rfl)) $$ HI'
  rw [bind_assoc]
  sl_for (inv tb ix d L) $$ [HT2 HI2 HO'']
  case region => intro t u; exact trip tb ix d L hix t u
  · unfold inv
    isplitl [HT2]; · iexact HT2
    isplitl [HI2]; · iexact HI2
    iexists _; isplitr
    swap; · iexact HO''
    ipureintro; intro p hp; omega
  iintro %_ HL
  unfold inv
  icases HL with ⟨HT2, HI2, %f, %hf, HO2⟩
  have hf' : ∀ p : S8192.Idx, f p = gathT tb ix d L p := fun p => hf p (by
    have : k1_t1_loop.trips = 128 := by decide
    show _ < 16 * k1_t1_loop.trips
    rw [this]; omega)
  sl_exec
  sl_step
  isplitl [Ht' Hi' Ho0' Ho1' Ho2' Ho3']
  · isplitl [Ht']; · iexact Ht'
    isplitl [Hi']; · iexact Hi'
    isplitl [Ho0']; · iapply (Entails.of_eq (out_piece tb ix d L 0 o0 _ (scratch_block tb ix d L 0 inb_S8192_S2048_0 0 rfl (fun _ => rfl) f hf'))); iexact Ho0'
    isplitl [Ho1']; · iapply (Entails.of_eq (out_piece tb ix d L 1 o1 _ (scratch_block tb ix d L 2048 inb_S8192_S2048_2048 1 rfl (fun _ => rfl) f hf'))); iexact Ho1'
    isplitl [Ho2']; · iapply (Entails.of_eq (out_piece tb ix d L 2 o2 _ (scratch_block tb ix d L 4096 inb_S8192_S2048_4096 2 rfl (fun _ => rfl) f hf'))); iexact Ho2'
    iapply (Entails.of_eq (out_piece tb ix d L 3 o3 _ (scratch_block tb ix d L 6144 inb_S8192_S2048_6144 3 rfl (fun _ => rfl) f hf'))); iexact Ho3'
  isplitl [HT2 HI2 HO2 Hbufs]
  · isplitl [HT2]; · iexists _; iexact HT2
    isplitl [HI2]; · iexists _; iexact HI2
    isplitl [HO2]; · iexists _; iexact HO2
    iexact Hbufs
  isplitl [Hs0 Hs1 Hs2 Hs3 Hs4 Hs5 Hsems]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Operands

/-! ## What the handshakes carry, and the tiles' obligation -/

def coordsV (c : Fin (grid1.bound 0)) (s : Fin (grid1.bound 1)) : grid1.Coords :=
  fun | 0 => c | 1 => s | ⟨_ + 2, h⟩ => absurd h (Nat.not_lt.2 (Nat.le_add_left _ _))

abbrev cN (c : Fin ((K (F := F)).nCore 0)) : Fin (grid1.bound 0) := ⟨c.val, c.isLt⟩
abbrev iN (i : Fin ((K (F := F)).nSub 0)) : Fin (grid1.bound 1) := ⟨i.val, i.isLt⟩

section Pays

variable (tb : (d : Dev nD) → Buf (Elt F) (tLoc d)) (ix : (d : Dev nD) → Buf (Elt F) (iLoc d))

/-- Each SparseCore takes what its sixteen tiles take and brings back what they bring back. -/
def P : (K (F := F)).Pay (nD := nD) (Val := Elt F) (Name := ℕ) (U := UU) where
  st := fun q d c => match q with | 0 => bigSep Finset.univ fun i : Fin ((K (F := F)).nSub 0) => goV tb ix d (coordsV (cN c) (iN i))
  dn := fun q d c => match q with | 0 => bigSep Finset.univ fun i : Fin ((K (F := F)).nSub 0) => tdV tb ix d (coordsV (cN c) (iN i))
  go := fun q d c i => match q with | 0 => goV tb ix d (coordsV (cN c) (iN i))
  td := fun q d c i => match q with | 0 => tdV tb ix d (coordsV (cN c) (iN i))
  x := fun _ _ => iprop(emp)

instance P_storable : (P tb ix).IsStorable where
  st q d c := match q with
    | 0 => (inferInstance : BI.Storable (upEmb : UEmb _ 𝕄) (bigSep Finset.univ fun i : Fin ((K (F := F)).nSub 0) => goV tb ix d (coordsV (cN c) (iN i))))
  dn q d c := match q with
    | 0 => (inferInstance : BI.Storable (upEmb : UEmb _ 𝕄) (bigSep Finset.univ fun i : Fin ((K (F := F)).nSub 0) => tdV tb ix d (coordsV (cN c) (iN i))))
  go q d c i := match q with
    | 0 => (inferInstance : BI.Storable (upEmb : UEmb _ 𝕄) (goV tb ix d (coordsV (cN c) (iN i))))
  td q d c i := match q with
    | 0 => (inferInstance : BI.Storable (upEmb : UEmb _ 𝕄) (tdV tb ix d (coordsV (cN c) (iN i))))

variable [FloatOps F]

theorem defs₀_vector (c : Fin τ.nSC) (s : Fin τ.nSub) :
    defs₀ (F := F) (.scVector c s) 1 ()
      = SparseCore.onTile hcore1 hsub1 (fun c s => cc1_k (coordsV c s) tV (Memref.isWhole_whole _) iV (Memref.isWhole_whole _) oV (Memref.isWhole_whole _)
            aT (Memref.isWhole_whole _) aI (Memref.isWhole_whole _) aO (Memref.isWhole_whole _)
            cc1_scoped0 cc1_scoped1 cc1_scoped2 cc1_scoped3 cc1_scoped4 cc1_scoped5) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hix : ∀ d j, (ix d j).toNat < 4096) : (K (F := F)).TileObl (D (F := F)) 𝒱 (P tb ix) v₀ 0 := by
  intro d c i O W hO _ _
  simp only [show (P tb ix).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body tb ix d (coordsV ⟨_, hci.1⟩ ⟨_, hci.2⟩) hF hix O W hO).trans (wp_mono frame _ _ fun _ => obl_post)

theorem vecSplit : (K (F := F)).VecSplit' (P tb ix) 0 := by
  intro d c
  iintro H
  imodintro
  isplitl [H]
  · iapply (Entails.of_eq (show (P tb ix).st 0 d c = (bigSep Finset.univ fun i => (P tb ix).go 0 d c i) from rfl)); iexact H
  · iintro H
    iapply (Entails.of_eq (show (bigSep Finset.univ fun i => (P tb ix).td 0 d c i) = (P tb ix).dn 0 d c from rfl)); iexact H

end Pays

end Cert.Proof.Sc

end
-- ==== Proof.Split.lean ====
/-
  The SparseCore call's operands: the table and the indices, held whole, are the 32 tiles' read shares at once, and the output is its 128 pieces of
  2048 words, four a tile.
-/
module

public import proofs.«01_k».proof.Proof.Tile

@[expose] public section

noncomputable section

namespace Cert.Proof.Sc

open Cert.KernelIdeal Cert.KernelIdeal.Gen

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- Tile `(c, i)` is number `2 * i + c`. -/
def tileEquiv : Fin 2 × Fin 16 ≃ Fin (2 ^ 5) where
  toFun p := ⟨p.2.val * 2 + p.1.val, by omega⟩
  invFun w := (⟨w.val % 2, Nat.mod_lt _ (by omega)⟩, ⟨w.val / 2, by omega⟩)
  left_inv p := by
    refine Prod.ext (Fin.ext ?_) (Fin.ext ?_)
    · show (p.2.val * 2 + p.1.val) % 2 = p.1.val; omega
    · show (p.2.val * 2 + p.1.val) / 2 = p.2.val; omega
  right_inv w := Fin.ext (show w.val / 2 * 2 + w.val % 2 = w.val by omega)

/-- The tile of SparseCore `c` and subcore `i`. -/
abbrev tileC (p : Fin 2 × Fin 16) : grid1.Coords := coordsV (show Fin (grid1.bound 0) from p.1) (show Fin (grid1.bound 1) from p.2)

theorem bigSep_tiles (Φ : grid1.Coords → sProp 𝕄) :
    (bigSep Finset.univ fun c : Fin ((K (F := F)).nCore 0) => bigSep Finset.univ fun i : Fin ((K (F := F)).nSub 0) => Φ (coordsV (cN c) (iN i)))
      = bigSep Finset.univ fun p : Fin 2 × Fin 16 => Φ (tileC p) := by
  exact (bigSep_univ_prod (fun p : Fin 2 × Fin 16 => Φ (tileC p))).symm

/-- A points-to at the full share is the tiles' shares at once. -/
theorem shares {ℓ : Loc nD τ sig} (f : Buf (Elt F) ℓ) :
    (ℓ ↦{fullShare} f : sProp 𝕄) = bigSep Finset.univ fun p : Fin 2 × Fin 16 => ℓ ↦{rq (tileC p)} f := by
  rw [ShareLeaves.pointsTo_leaves Finset.univ f 5 fullShare, bigSep_univ_equiv tileEquiv]
  exact bigSep_congr fun p _ => rfl

/-- Where the output's pieces lie. -/
theorem mem_oSet (p : Fin 2 × Fin 16) (k : Fin 4) (j : S262144.Idx) :
    j ∈ oSet (tileC p) k ↔ (j 0).val / 2048 = ((p.2.val * 2 + p.1.val) / 8 * 4 + k.val) * 8 + (p.2.val * 2 + p.1.val) % 8 := by
  have h1 : oSet (tileC p) k = (oRect (tileC p) k).set := by
    show ((View.whole (main_v8_scv : Ref sig .scVector)).slice (oRect (tileC p) k)).set = _
    rw [View.set_slice]; exact Finset.map_refl
  rw [h1]
  have e : k1_off7 (tileC p) (BitVec.ofNat 32 k.val) 0 = ((p.2.val * 2 + p.1.val) / 8 * 4 + k.val) * 16384 + (p.2.val * 2 + p.1.val) % 8 * 2048 := by
    rw [k1_off7_eq]; rfl
  refine (oRect (tileC p) k).mem_set.trans ⟨fun h => ?_, fun h a => ?_⟩
  · obtain ⟨x, hx, hj⟩ := h 0
    have hx' : x < 2048 := hx
    have hj' : (j 0).val = k1_off7 (tileC p) (BitVec.ofNat 32 k.val) 0 + 1 * x := hj
    omega
  · match a with
    | ⟨0, _⟩ =>
      refine ⟨(j 0).val % 2048, Nat.mod_lt _ (by omega), ?_⟩
      show (j 0).val = k1_off7 (tileC p) (BitVec.ofNat 32 k.val) 0 + 1 * ((j 0).val % 2048)
      omega

theorem oSets_disjoint : ∀ a ∈ (Finset.univ : Finset ((Fin 2 × Fin 16) × Fin 4)), ∀ b ∈ (Finset.univ : Finset ((Fin 2 × Fin 16) × Fin 4)), a ≠ b →
    Disjoint (oSet (tileC a.1) a.2) (oSet (tileC b.1) b.2) := by
  rintro ⟨⟨c, i⟩, k⟩ - ⟨⟨c', i'⟩, k'⟩ - hne
  refine Finset.disjoint_left.mpr fun j hj hj' => hne ?_
  have h := (mem_oSet _ _ _).mp hj
  have h' := (mem_oSet _ _ _).mp hj'
  simp only at h h'
  have := k.isLt; have := k'.isLt; have := c.isLt; have := c'.isLt; have := i.isLt; have := i'.isLt
  have e1 : c = c' := Fin.ext (by omega)
  have e2 : i = i' := Fin.ext (by omega)
  have e3 : k = k' := Fin.ext (by omega)
  rw [e1, e2, e3]

theorem oSets_cover : ((Finset.univ : Finset ((Fin 2 × Fin 16) × Fin 4)).biUnion fun a => oSet (tileC a.1) a.2) = (Finset.univ : Finset S262144.Idx) := by
  refine Finset.eq_univ_of_forall fun j => Finset.mem_biUnion.mpr ?_
  have hj : (j 0).val < 262144 := (j 0).isLt
  refine ⟨((⟨((j 0).val / 65536 * 8 + (j 0).val / 2048 % 8) % 2, by omega⟩, ⟨((j 0).val / 65536 * 8 + (j 0).val / 2048 % 8) / 2, by omega⟩),
    ⟨(j 0).val / 16384 % 4, by omega⟩), Finset.mem_univ _, (mem_oSet _ _ _).mpr ?_⟩
  show (j 0).val / 2048 = ((((j 0).val / 65536 * 8 + (j 0).val / 2048 % 8) / 2 * 2 + ((j 0).val / 65536 * 8 + (j 0).val / 2048 % 8) % 2) / 8 * 4
    + (j 0).val / 16384 % 4) * 8 + (((j 0).val / 65536 * 8 + (j 0).val / 2048 % 8) / 2 * 2 + ((j 0).val / 65536 * 8 + (j 0).val / 2048 % 8) % 2) % 8
  omega

theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

/-- The output held whole is its pieces at once. -/
theorem pieces (d : Dev nD) (f : Buf (Elt F) (oLoc d)) :
    (oLoc d ↦{fullShare} f : sProp 𝕄) = bigSep Finset.univ fun p : Fin 2 × Fin 16 => bigSep Finset.univ fun k : Fin 4 => oLoc d ↦[oSet (tileC p) k]{fullShare} f := by
  rw [← bigSep_univ_prod (fun a : (Fin 2 × Fin 16) × Fin 4 => (oLoc d ↦[oSet (tileC a.1) a.2]{fullShare} f : sProp 𝕄)),
    ← pointsTo_biUnion Finset.univ (ℓ := oLoc d) (fun a : (Fin 2 × Fin 16) × Fin 4 => oSet (tileC a.1) a.2) oSets_disjoint, oSets_cover]

variable (tb : (d : Dev nD) → Buf (Elt F) (tLoc d)) (ix : (d : Dev nD) → Buf (Elt F) (iLoc d))

/-- The call's operands, handed out. -/
theorem st_all (d : Dev nD) : iprop((tLoc d ↦{fullShare} tb d) ∗ (iLoc d ↦{fullShare} ix d) ∗ ∃ f : Buf (Elt F) (oLoc d), oLoc d ↦{fullShare} f)
    ⊢ (bigSep Finset.univ fun c : Fin ((K (F := F)).nCore 0) => (P tb ix).st 0 d c : sProp 𝕄) := by
  rw [show (bigSep Finset.univ fun c : Fin ((K (F := F)).nCore 0) => (P tb ix).st 0 d c : sProp 𝕄)
    = bigSep Finset.univ fun p : Fin 2 × Fin 16 => goV tb ix d (tileC p) from bigSep_tiles (F := F) (fun L => goV tb ix d L), shares (tb d), shares (ix d)]
  iintro ⟨Ht, Hi, %f, Ho⟩
  ihave Ho' := (Entails.of_eq (pieces d f)) $$ Ho
  rw [bigSep_sep', bigSep_sep']
  isplitl [Ht]; · iexact Ht
  isplitl [Hi]; · iexact Hi
  have h : ∀ p ∈ (Finset.univ : Finset (Fin 2 × Fin 16)), (bigSep Finset.univ fun k : Fin 4 => (oLoc d ↦[oSet (tileC p) k]{fullShare} f : sProp 𝕄))
      ⊢ iprop(oAny d (tileC p) 0 ∗ oAny d (tileC p) 1 ∗ oAny d (tileC p) 2 ∗ oAny d (tileC p) 3) := by
    intro p _
    rw [bigSep_four]
    iintro ⟨H0, H1, H2, H3⟩
    isplitl [H0]; · iexists f; iexact H0
    isplitl [H1]; · iexists f; iexact H1
    isplitl [H2]; · iexists f; iexact H2
    iexists f; iexact H3
  iapply (show (bigSep Finset.univ fun p : Fin 2 × Fin 16 => bigSep Finset.univ fun k : Fin 4 => (oLoc d ↦[oSet (tileC p) k]{fullShare} f : sProp 𝕄))
      ⊢ bigSep Finset.univ fun p : Fin 2 × Fin 16 => iprop(oAny d (tileC p) 0 ∗ oAny d (tileC p) 1 ∗ oAny d (tileC p) 2 ∗ oAny d (tileC p) 3) from
    bigSep_mono h)
  iexact Ho'

/-- And brought back, the output at the gathered words. -/
theorem dn_all (d : Dev nD) : (bigSep Finset.univ fun c : Fin ((K (F := F)).nCore 0) => (P tb ix).dn 0 d c : sProp 𝕄)
    = iprop((tLoc d ↦{fullShare} tb d) ∗ (iLoc d ↦{fullShare} ix d) ∗ oLoc d ↦{fullShare} oG tb ix d) := by
  rw [show (bigSep Finset.univ fun c : Fin ((K (F := F)).nCore 0) => (P tb ix).dn 0 d c : sProp 𝕄)
    = bigSep Finset.univ fun p : Fin 2 × Fin 16 => tdV tb ix d (tileC p) from bigSep_tiles (F := F) (fun L => tdV tb ix d L), shares (tb d), shares (ix d),
    bigSep_sep', bigSep_sep', pieces d (oG tb ix d)]
  congr 3
  exact funext fun p => (bigSep_four (F := F) (fun k => oPts tb ix d (tileC p) k)).symm

end Cert.Proof.Sc

end
-- ==== Proof.Body.lean ====
/-
  What one grid point of the TensorCore call computes, written once over its sub-blocks and chunks: the printed body's 26 parts are these
  functions, by unfolding. Sub-block `s` of four has 256 rows; its running minimum goes over 32 chunks of 128 lanes.
-/
module

public import proofs.«01_k».proof.Proof.Gen.KernelIdeal
public import proofs.«01_k».proof.Proof.Gen.KernelIdeal.Skeleton

@[expose] public section

noncomputable section

namespace Cert.Proof.Body

open Cert.KernelIdeal Cert.KernelIdeal.Gen
open Idealize.ShloMosaic Idealize.SL.Sem

variable {F : FTy → Type} [FloatOps F]

theorem sl_m (s c : ℕ) : S1024x4096.Slices ![256 * (s % 4), 128 * (c % 32)] S256x128 :=
  ⟨rfl, Fin.forall_fin_two.mpr ⟨show 256 * (s % 4) + 256 ≤ 1024 by omega, show 128 * (c % 32) + 128 ≤ 4096 by omega⟩⟩
theorem sl_w (c : ℕ) : S1x4096.Slices ![0, 128 * (c % 32)] S1x128 :=
  ⟨rfl, Fin.forall_fin_two.mpr ⟨show 0 + 1 ≤ 1 by omega, show 128 * (c % 32) + 128 ≤ 4096 by omega⟩⟩
theorem sl_x (s : ℕ) : S1024x1.Slices ![256 * (s % 4), 0] S256x1 :=
  ⟨rfl, Fin.forall_fin_two.mpr ⟨show 256 * (s % 4) + 256 ≤ 1024 by omega, show 0 + 1 ≤ 1 by omega⟩⟩

/-- Sub-block `s` of the squared norms. -/
def xS (xq : FVec F S1024x1 .f32) (s : ℕ) : FVec F S256x1 .f32 := extractStridedSlice S256x1 ![256 * (s % 4), 0] xq (sl_x s)
/-- Chunk `c` of sub-block `s` of the products. -/
def sC (mm : FVec F S1024x4096 .f32) (s c : ℕ) : FVec F S256x128 .f32 := extractStridedSlice S256x128 ![256 * (s % 4), 128 * (c % 32)] mm (sl_m s c)
def wC (w : FVec F S1x4096 .f32) (c : ℕ) : FVec F S1x128 .f32 := extractStridedSlice S1x128 ![0, 128 * (c % 32)] w (sl_w c)
def bX (xs : FVec F S256x1 .f32) : FVec F S256x128 .f32 := broadcastTo S256x128 xs broadcasts_S256x1_S256x128
def bW (w : FVec F S1x4096 .f32) (c : ℕ) : FVec F S256x128 .f32 := broadcastTo S256x128 (wC w c) broadcasts_S1x128_S256x128
/-- The distances of chunk `c`. -/
def dC (mm : FVec F S1024x4096 .f32) (w : FVec F S1x4096 .f32) (xs : FVec F S256x1 .f32) (s c : ℕ) : FVec F S256x128 .f32 :=
  addf (subf (bX xs) (sC mm s c)) (bW w c)
/-- The running minimum after chunk `c`. -/
def mC (mm : FVec F S1024x4096 .f32) (w : FVec F S1x4096 .f32) (xs : FVec F S256x1 .f32) (s : ℕ) : ℕ → FVec F S256x128 .f32
  | 0 => dC mm w xs s 0
  | c + 1 => select (cmpf .olt (dC mm w xs s (c + 1)) (mC mm w xs s c)) (dC mm w xs s (c + 1)) (mC mm w xs s c)
/-- Where chunk `c` is below the minimum so far. -/
def fC (mm : FVec F S1024x4096 .f32) (w : FVec F S1x4096 .f32) (xs : FVec F S256x1 .f32) (s c : ℕ) : IVec S256x128 1 :=
  cmpf .olt (dC mm w xs s c) (mC mm w xs s (c - 1))
/-- The words of 0.0, 1.0, …, 31.0. -/
def cBits : List (BitVec 32) :=
  [0x00000000#32, 0x3F800000#32, 0x40000000#32, 0x40400000#32, 0x40800000#32, 0x40A00000#32, 0x40C00000#32, 0x40E00000#32,
   0x41000000#32, 0x41100000#32, 0x41200000#32, 0x41300000#32, 0x41400000#32, 0x41500000#32, 0x41600000#32, 0x41700000#32,
   0x41800000#32, 0x41880000#32, 0x41900000#32, 0x41980000#32, 0x41A00000#32, 0x41A80000#32, 0x41B00000#32, 0x41B80000#32,
   0x41C00000#32, 0x41C80000#32, 0x41D00000#32, 0x41D80000#32, 0x41E00000#32, 0x41E80000#32, 0x41F00000#32, 0x41F80000#32]
def cst (c : ℕ) : F .f32 := Scalar.ofBits .f32 (cBits.getD c 0#32)
/-- The chunk at which the running minimum was last taken. -/
def cC (mm : FVec F S1024x4096 .f32) (w : FVec F S1x4096 .f32) (xs : FVec F S256x1 .f32) (s : ℕ) : ℕ → FVec F S256x128 .f32
  | 0 => broadcast S256x128 (cst 0)
  | c + 1 => select (fC mm w xs s (c + 1)) (broadcast S256x128 (cst (c + 1))) (cC mm w xs s c)
def lane : FVec F S256x128 .f32 := k0_pay8
/-- Each token's minimum over the lanes. -/
def tokRed (mm : FVec F S1024x4096 .f32) (w : FVec F S1x4096 .f32) (xs : FVec F S256x1 .f32) (s : ℕ) : FVec F S256 .f32 :=
  multiReduction .minimumf [1] S256 (mC mm w xs s 31) 0x7F800000#32 reduces_S256x128_S256 (.inl rfl) rfl
def tok (mm : FVec F S1024x4096 .f32) (w : FVec F S1x4096 .f32) (xs : FVec F S256x1 .f32) (s : ℕ) : FVec F S256x1 .f32 :=
  shapeCast S256x1 (tokRed mm w xs s) shapeCasts_S256_S256x1
def jl0 (mm : FVec F S1024x4096 .f32) (w : FVec F S1x4096 .f32) (xs : FVec F S256x1 .f32) (s : ℕ) : FVec F S256x128 .f32 :=
  mulf (cC mm w xs s 31) (broadcast S256x128 (Scalar.ofBits .f32 0x43000000#32))
/-- Each token's lowest position among those at the minimum, as a float. -/
def candRed (mm : FVec F S1024x4096 .f32) (w : FVec F S1x4096 .f32) (xs : FVec F S256x1 .f32) (s : ℕ) : FVec F S256 .f32 :=
  multiReduction .minimumf [1] S256
    (select (cmpf .oeq (mC mm w xs s 31) (broadcastTo S256x128 (tok mm w xs s) broadcasts_S256x1_S256x128)) (addf (jl0 mm w xs s) lane)
      (broadcast S256x128 (Scalar.ofBits .f32 0x45800000#32))) 0x7F800000#32 reduces_S256x128_S256 (.inl rfl) rfl
def idxS (mm : FVec F S1024x4096 .f32) (w : FVec F S1x4096 .f32) (xs : FVec F S256x1 .f32) (s : ℕ) : IVec S1x256 32 :=
  shapeCast S1x256 (fptosi 32 (candRed mm w xs s)) shapeCasts_S256_S1x256
def lsRed (mm : FVec F S1024x4096 .f32) (w : FVec F S1x4096 .f32) (xs : FVec F S256x1 .f32) (s : ℕ) : FVec F S1 .f32 :=
  multiReduction .add [1, 2] S1 (shapeCast S1x256x1 (tok mm w xs s) shapeCasts_S256x1_S1x256x1) 0x00000000#32 reduces_S1x256x1_S1 (.inl rfl) rfl
/-- The sum of the tokens' minima over the sub-blocks up to `s`. -/
def lS (mm : FVec F S1024x4096 .f32) (w : FVec F S1x4096 .f32) (xq : FVec F S1024x1 .f32) : ℕ → FVec F S1x1 .f32
  | 0 => addf k0_pay7 (broadcast S1x1 (extractAt ![0, 0, 0] (shapeCast S1x1x1 (lsRed mm w (xS xq 0) 0) shapeCasts_S1_S1x1x1) inpos_S1x1x1_p0_0_0))
  | s + 1 => addf (lS mm w xq s)
      (broadcast S1x1 (extractAt ![0, 0, 0] (shapeCast S1x1x1 (lsRed mm w (xS xq (s + 1)) (s + 1)) shapeCasts_S1_S1x1x1) inpos_S1x1x1_p0_0_0))
/-- What the body stores as indices. -/
def idxOf (x : Vec F S1024x4 .f32) (t : Vec F S4x4096 .f32) (w : Vec F S1x4096 .f32) : IVec S1x1x1024 32 :=
  shapeCast S1x1x1024 (concatenate S1x1024 1
    [⟨S1x256, idxS (k0_pay5 x t) (k0_pay6 w) (xS (k0_pay4 x) 0) 0⟩, ⟨S1x256, idxS (k0_pay5 x t) (k0_pay6 w) (xS (k0_pay4 x) 1) 1⟩,
     ⟨S1x256, idxS (k0_pay5 x t) (k0_pay6 w) (xS (k0_pay4 x) 2) 2⟩, ⟨S1x256, idxS (k0_pay5 x t) (k0_pay6 w) (xS (k0_pay4 x) 3) 3⟩]
    concatenates_S1x256_S1x256_S1x256_S1x256_S1x1024_d1) shapeCasts_S1x1024_S1x1x1024
/-- What the body adds to the sum. -/
def lossOf (x : Vec F S1024x4 .f32) (t : Vec F S4x4096 .f32) (w : Vec F S1x4096 .f32) : FVec F S1x1 .f32 :=
  lS (k0_pay5 x t) (k0_pay6 w) (k0_pay4 x) 3

variable (i : grid0.Coords) (a1 : Memref sig .tc .vmem S1024x4 .f32) (h1 : a1.IsWhole) (a2 : Memref sig .tc .vmem S4x4096 .f32) (h2 : a2.IsWhole)
  (a3 : Memref sig .tc .vmem S1x4096 .f32) (h3 : a3.IsWhole) (a4 : Memref sig .tc .vmem S1x1x1024 .i32) (h4 : a4.IsWhole)
  (a5 : Memref sig .tc .vmem S1x1 .f32) (h5 : a5.IsWhole)

section parts

variable (mm : FVec F S1024x4096 .f32) (w : FVec F S1x4096 .f32) (xq : FVec F S1024x1 .f32)

theorem part2 : k0_part2 i a1 h1 a2 h2 a3 h3 a4 h4 a5 h5 mm w (xS xq 0) (mC mm w (xS xq 0) 0 1) (cC mm w (xS xq 0) 0 1) (sC mm 0 2) (bX (xS xq 0)) = pure ⟨(mC mm w (xS xq 0) 0 6), (cC mm w (xS xq 0) 0 6), (dC mm w (xS xq 0) 0 7), (fC mm w (xS xq 0) 0 7)⟩ := by
  rw [k0_part2_eq_skeleton]; rfl

theorem part3 : k0_part3 i a1 h1 a2 h2 a3 h3 a4 h4 a5 h5 mm w (xS xq 0) (mC mm w (xS xq 0) 0 6) (cC mm w (xS xq 0) 0 6) (dC mm w (xS xq 0) 0 7) (fC mm w (xS xq 0) 0 7) = pure ⟨(mC mm w (xS xq 0) 0 12), (cC mm w (xS xq 0) 0 12), (sC mm 0 13)⟩ := by
  rw [k0_part3_eq_skeleton]; rfl

theorem part4 : k0_part4 i a1 h1 a2 h2 a3 h3 a4 h4 a5 h5 mm w (xS xq 0) (mC mm w (xS xq 0) 0 12) (cC mm w (xS xq 0) 0 12) (sC mm 0 13) = pure ⟨(mC mm w (xS xq 0) 0 17), (cC mm w (xS xq 0) 0 17), (dC mm w (xS xq 0) 0 18)⟩ := by
  rw [k0_part4_eq_skeleton]; rfl

theorem part5 : k0_part5 i a1 h1 a2 h2 a3 h3 a4 h4 a5 h5 mm w (xS xq 0) (mC mm w (xS xq 0) 0 17) (cC mm w (xS xq 0) 0 17) (dC mm w (xS xq 0) 0 18) = pure ⟨(mC mm w (xS xq 0) 0 23), (cC mm w (xS xq 0) 0 23)⟩ := by
  rw [k0_part5_eq_skeleton]; rfl

theorem part6 : k0_part6 i a1 h1 a2 h2 a3 h3 a4 h4 a5 h5 mm w (xS xq 0) (mC mm w (xS xq 0) 0 23) (cC mm w (xS xq 0) 0 23) = pure ⟨(mC mm w (xS xq 0) 0 28), (cC mm w (xS xq 0) 0 28), (subf (bX (xS xq 0)) (sC mm 0 29)), (bW w 29)⟩ := by
  rw [k0_part6_eq_skeleton]; rfl

theorem part7 : k0_part7 i a1 h1 a2 h2 a3 h3 a4 h4 a5 h5 xq mm w (k0_pay7 (F := F)) (lane (F := F)) (xS xq 0) (mC mm w (xS xq 0) 0 28) (cC mm w (xS xq 0) 0 28) (subf (bX (xS xq 0)) (sC mm 0 29)) (bW w 29) = pure ⟨(idxS mm w (xS xq 0) 0), (lS mm w xq 0), (xS xq 1), (mC mm w (xS xq 1) 1 0), (cC mm w (xS xq 1) 1 0)⟩ := by
  rw [k0_part7_eq_skeleton]; rfl

theorem part8 : k0_part8 i a1 h1 a2 h2 a3 h3 a4 h4 a5 h5 mm w (xS xq 1) (mC mm w (xS xq 1) 1 0) (cC mm w (xS xq 1) 1 0) = pure ⟨(mC mm w (xS xq 1) 1 5), (cC mm w (xS xq 1) 1 5), (subf (bX (xS xq 1)) (sC mm 1 6)), (bW w 6)⟩ := by
  rw [k0_part8_eq_skeleton]; rfl

theorem part9 : k0_part9 i a1 h1 a2 h2 a3 h3 a4 h4 a5 h5 mm w (xS xq 1) (mC mm w (xS xq 1) 1 5) (cC mm w (xS xq 1) 1 5) (subf (bX (xS xq 1)) (sC mm 1 6)) (bW w 6) = pure ⟨(cC mm w (xS xq 1) 1 10), (fC mm w (xS xq 1) 1 11), (mC mm w (xS xq 1) 1 11), (broadcast S256x128 (cst (F := F) 11))⟩ := by
  rw [k0_part9_eq_skeleton]; rfl

theorem part10 : k0_part10 i a1 h1 a2 h2 a3 h3 a4 h4 a5 h5 mm w (xS xq 1) (cC mm w (xS xq 1) 1 10) (fC mm w (xS xq 1) 1 11) (mC mm w (xS xq 1) 1 11) (broadcast S256x128 (cst (F := F) 11)) = pure ⟨(mC mm w (xS xq 1) 1 16), (cC mm w (xS xq 1) 1 16), (subf (bX (xS xq 1)) (sC mm 1 17)), (wC w 17)⟩ := by
  rw [k0_part10_eq_skeleton]; rfl

theorem part11 : k0_part11 i a1 h1 a2 h2 a3 h3 a4 h4 a5 h5 mm w (xS xq 1) (mC mm w (xS xq 1) 1 16) (cC mm w (xS xq 1) 1 16) (subf (bX (xS xq 1)) (sC mm 1 17)) (wC w 17) = pure ⟨(cC mm w (xS xq 1) 1 21), (fC mm w (xS xq 1) 1 22), (mC mm w (xS xq 1) 1 22), cst 22⟩ := by
  rw [k0_part11_eq_skeleton]; rfl

theorem part12 : k0_part12 i a1 h1 a2 h2 a3 h3 a4 h4 a5 h5 mm w (xS xq 1) (cC mm w (xS xq 1) 1 21) (fC mm w (xS xq 1) 1 22) (mC mm w (xS xq 1) 1 22) (cst 22) = pure ⟨(mC mm w (xS xq 1) 1 27), (cC mm w (xS xq 1) 1 27), (subf (bX (xS xq 1)) (sC mm 1 28))⟩ := by
  rw [k0_part12_eq_skeleton]; rfl

theorem part13 : k0_part13 i a1 h1 a2 h2 a3 h3 a4 h4 a5 h5 mm w (lane (F := F)) (xS xq 1) (mC mm w (xS xq 1) 1 27) (cC mm w (xS xq 1) 1 27) (subf (bX (xS xq 1)) (sC mm 1 28)) = pure ⟨(idxS mm w (xS xq 1) 1), (lsRed mm w (xS xq 1) 1)⟩ := by
  rw [k0_part13_eq_skeleton]; rfl

theorem part14 : k0_part14 i a1 h1 a2 h2 a3 h3 a4 h4 a5 h5 xq mm w (lS mm w xq 0) (lsRed mm w (xS xq 1) 1) = pure ⟨(lS mm w xq 1), (xS xq 2), (mC mm w (xS xq 2) 2 4), (cC mm w (xS xq 2) 2 4), (subf (bX (xS xq 2)) (sC mm 2 5))⟩ := by
  rw [k0_part14_eq_skeleton]; rfl

theorem part15 : k0_part15 i a1 h1 a2 h2 a3 h3 a4 h4 a5 h5 mm w (xS xq 2) (mC mm w (xS xq 2) 2 4) (cC mm w (xS xq 2) 2 4) (subf (bX (xS xq 2)) (sC mm 2 5)) = pure ⟨(cC mm w (xS xq 2) 2 9), (fC mm w (xS xq 2) 2 10), (mC mm w (xS xq 2) 2 10)⟩ := by
  rw [k0_part15_eq_skeleton]; rfl

theorem part16 : k0_part16 i a1 h1 a2 h2 a3 h3 a4 h4 a5 h5 mm w (xS xq 2) (cC mm w (xS xq 2) 2 9) (fC mm w (xS xq 2) 2 10) (mC mm w (xS xq 2) 2 10) = pure ⟨(mC mm w (xS xq 2) 2 15), (cC mm w (xS xq 2) 2 15), (sC mm 2 16), (bX (xS xq 2))⟩ := by
  rw [k0_part16_eq_skeleton]; rfl

theorem part17 : k0_part17 i a1 h1 a2 h2 a3 h3 a4 h4 a5 h5 mm w (xS xq 2) (mC mm w (xS xq 2) 2 15) (cC mm w (xS xq 2) 2 15) (sC mm 2 16) (bX (xS xq 2)) = pure ⟨(mC mm w (xS xq 2) 2 20), (cC mm w (xS xq 2) 2 20), (dC mm w (xS xq 2) 2 21), (fC mm w (xS xq 2) 2 21)⟩ := by
  rw [k0_part17_eq_skeleton]; rfl

theorem part18 : k0_part18 i a1 h1 a2 h2 a3 h3 a4 h4 a5 h5 mm w (xS xq 2) (mC mm w (xS xq 2) 2 20) (cC mm w (xS xq 2) 2 20) (dC mm w (xS xq 2) 2 21) (fC mm w (xS xq 2) 2 21) = pure ⟨(mC mm w (xS xq 2) 2 26), (cC mm w (xS xq 2) 2 26), (sC mm 2 27)⟩ := by
  rw [k0_part18_eq_skeleton]; rfl

theorem part19 : k0_part19 i a1 h1 a2 h2 a3 h3 a4 h4 a5 h5 mm w (xS xq 2) (mC mm w (xS xq 2) 2 26) (cC mm w (xS xq 2) 2 26) (sC mm 2 27) = pure ⟨(mC mm w (xS xq 2) 2 31), (tok mm w (xS xq 2) 2), (jl0 mm w (xS xq 2) 2)⟩ := by
  rw [k0_part19_eq_skeleton]; rfl

theorem part20 : k0_part20 i a1 h1 a2 h2 a3 h3 a4 h4 a5 h5 xq mm w (lane (F := F)) (lS mm w xq 1) (mC mm w (xS xq 2) 2 31) (tok mm w (xS xq 2) 2) (jl0 mm w (xS xq 2) 2) = pure ⟨(idxS mm w (xS xq 2) 2), (lS mm w xq 2), (xS xq 3), (mC mm w (xS xq 3) 3 3), (cC mm w (xS xq 3) 3 3), (sC mm 3 4)⟩ := by
  rw [k0_part20_eq_skeleton]; rfl

theorem part21 : k0_part21 i a1 h1 a2 h2 a3 h3 a4 h4 a5 h5 mm w (xS xq 3) (mC mm w (xS xq 3) 3 3) (cC mm w (xS xq 3) 3 3) (sC mm 3 4) = pure ⟨(mC mm w (xS xq 3) 3 8), (cC mm w (xS xq 3) 3 8), (dC mm w (xS xq 3) 3 9)⟩ := by
  rw [k0_part21_eq_skeleton]; rfl

theorem part22 : k0_part22 i a1 h1 a2 h2 a3 h3 a4 h4 a5 h5 mm w (xS xq 3) (mC mm w (xS xq 3) 3 8) (cC mm w (xS xq 3) 3 8) (dC mm w (xS xq 3) 3 9) = pure ⟨(mC mm w (xS xq 3) 3 14), (cC mm w (xS xq 3) 3 14)⟩ := by
  rw [k0_part22_eq_skeleton]; rfl

theorem part23 : k0_part23 i a1 h1 a2 h2 a3 h3 a4 h4 a5 h5 mm w (xS xq 3) (mC mm w (xS xq 3) 3 14) (cC mm w (xS xq 3) 3 14) = pure ⟨(mC mm w (xS xq 3) 3 19), (cC mm w (xS xq 3) 3 19), (subf (bX (xS xq 3)) (sC mm 3 20)), (bW w 20)⟩ := by
  rw [k0_part23_eq_skeleton]; rfl

theorem part24 : k0_part24 i a1 h1 a2 h2 a3 h3 a4 h4 a5 h5 mm w (xS xq 3) (mC mm w (xS xq 3) 3 19) (cC mm w (xS xq 3) 3 19) (subf (bX (xS xq 3)) (sC mm 3 20)) (bW w 20) = pure ⟨(cC mm w (xS xq 3) 3 24), (fC mm w (xS xq 3) 3 25), (mC mm w (xS xq 3) 3 25), (broadcast S256x128 (cst (F := F) 25))⟩ := by
  rw [k0_part24_eq_skeleton]; rfl

theorem part25 : k0_part25 i a1 h1 a2 h2 a3 h3 a4 h4 a5 h5 mm w (xS xq 3) (cC mm w (xS xq 3) 3 24) (fC mm w (xS xq 3) 3 25) (mC mm w (xS xq 3) 3 25) (broadcast S256x128 (cst (F := F) 25)) = pure ⟨(mC mm w (xS xq 3) 3 30), (cC mm w (xS xq 3) 3 30), (subf (bX (xS xq 3)) (sC mm 3 31)), (wC w 31)⟩ := by
  rw [k0_part25_eq_skeleton]; rfl

end parts

/-- The first parts of the body: its three loads, and the two results of its arithmetic. -/
theorem part26 : k0_part26 (F := F) i a1 h1 a2 h2 a3 h3 a4 h4 a5 h5 = (do
    let v0 : Vec F S1024x4 .f32 ← Prog.lift (.load a1 (Rect.unit (s := S1024x4) ![0, 0] S1024x4.size inb_S1024x4_S1024x4_0_0).toLoadRect (View.loadsAt_vmem h_S1024x4))
    let v20 : Vec F S4x4096 .f32 ← Prog.lift (.load a2 (Rect.unit (s := S4x4096) ![0, 0] S4x4096.size inb_S4x4096_S4x4096_0_0).toLoadRect (View.loadsAt_vmem h_S4x4096))
    let v23 : Vec F S1x4096 .f32 ← Prog.lift (.load a3 (Rect.unit (s := S1x4096) ![0, 0] S1x4096.size inb_S1x4096_S1x4096_0_0).toLoadRect (View.loadsAt_vmem h_S1x4096))
    pure ⟨BitVec.ofNat 32 (i 0).val, lossOf v0 v20 v23, idxOf v0 v20 v23⟩) := by
  have hp : k0_part1 (F := F) i a1 h1 a2 h2 a3 h3 a4 h4 a5 h5 = (do
    let v0 : Vec F S1024x4 .f32 ← Prog.lift (.load a1 (Rect.unit (s := S1024x4) ![0, 0] S1024x4.size inb_S1024x4_S1024x4_0_0).toLoadRect (View.loadsAt_vmem h_S1024x4))
    let v20 : Vec F S4x4096 .f32 ← Prog.lift (.load a2 (Rect.unit (s := S4x4096) ![0, 0] S4x4096.size inb_S4x4096_S4x4096_0_0).toLoadRect (View.loadsAt_vmem h_S4x4096))
    let v23 : Vec F S1x4096 .f32 ← Prog.lift (.load a3 (Rect.unit (s := S1x4096) ![0, 0] S1x4096.size inb_S1x4096_S1x4096_0_0).toLoadRect (View.loadsAt_vmem h_S1x4096))
    pure ⟨BitVec.ofNat 32 (i 0).val, k0_pay4 v0, k0_pay5 v0 v20, k0_pay6 v23, k0_pay7, lane, xS (k0_pay4 v0) 0, mC (k0_pay5 v0 v20) (k0_pay6 v23) (xS (k0_pay4 v0) 0) 0 1,
      cC (k0_pay5 v0 v20) (k0_pay6 v23) (xS (k0_pay4 v0) 0) 0 1, sC (k0_pay5 v0 v20) 0 2, bX (xS (k0_pay4 v0) 0)⟩) := by
    rw [k0_part1_eq_skeleton]; rfl
  rw [k0_part26_eq_skeleton]
  unfold k0_part26_skel
  rw [hp]
  simp only [bind_assoc, pure_bind, part2, part3, part4, part5, part6, part7, part8, part9, part10, part11, part12, part13, part14, part15, part16,
    part17, part18, part19, part20, part21, part22, part23, part24, part25]
  rfl

end Cert.Proof.Body
-- ==== Proof.Region.lean ====
/-
  The TensorCore kernel inside the SparseCore program: one grid point's run, from any staged blocks, to the two results `Body.lean` names, and
  the pipeline's proof data and region record over the SparseCore launch's ghost state. For any float values `F`.
-/
module

public import proofs.«01_k».proof.Proof.Tile
public import proofs.«01_k».proof.Proof.Body
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Pipeline.RegionArraysS
public import Idealize.ShloMosaic.Lib.VecWindow
public import Idealize.ShloMosaic.Lib.Ring
public import Idealize.ShloMosaic.Lib.WordCmp

@[expose] public section

set_option maxRecDepth 16384

noncomputable section

namespace Cert.Proof.Sc

open Cert.KernelIdeal Cert.KernelIdeal.Gen

open Idealize.ShloMosaic Idealize.ShloMosaic.TcCoe
open Idealize.ShloMosaic.ValueIdx
open Idealize.ShloMosaic.SparseCore (S V T)
open Idealize.ShloMosaic.SparseCore.Cfg (HIx Pay)
open Idealize.ShloMosaic.Pipeline (Dat BodyObligation BodyObligationLoose RegionSeg)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## One grid point's run -/

/-- The condition under which a point zeroes the running sum. -/
abbrev cond0_0 (i : grid0.Coords) : Prop := (Scalar.cmpi .ne (Scalar.extui (Scalar.cmpi .eq (BitVec.ofNat 32 (i 0).val) 0#32)) 0#32) = 1#1

/-- It holds at the first point only. -/
theorem hcond0_0 (t : Fin grid0.N) : cond0_0 (grid0.coords t) ↔ t.val = 0 := by
  have ht : t.val < 64 := Nat.lt_of_lt_of_eq t.isLt N_0
  have e0 : (grid0.coords t 0).val = t.val / 1 % 64 := Pipeline.Grid.coords_val t 0 (by decide) rfl
  simp only [cond0_0, e0]
  word_cmp

theorem congr3 {α β γ δ : Type} (f : α → β → γ → δ) {a a' : α} {b b' : β} {c c' : γ} (ha : a = a') (hb : b = b') (hc : c = c') : f a b c = f a' b' c' := by
  rw [ha, hb, hc]

/-- A load of a whole memref's own sizes reads what it holds. -/
theorem load_whole {s : Shape} {e : EltTy} {arg : Memref sig .tc .vmem s e} (h : arg.IsWhole) (x : Vec F s e) {off : Fin s.rank → ℕ}
    (inb : ∀ a, off a + s.size a ≤ s.size a) :
    arg.view.readAt (Elt F) (Rect.unit off s.size inb).toLoadRect (h.unread x) = x :=
  (View.readAt_full _ _ _).trans (h.read_unread _)

set_option maxHeartbeats 1000000 in
/-- The first point: the running sum starts from zero. -/
theorem runA (c : Dev nD) (i : grid0.Coords) (arg1 : Memref sig .tc .vmem S1024x4 .f32) (harg1 : arg1.IsWhole) (arg2 : Memref sig .tc .vmem S4x4096 .f32)
    (harg2 : arg2.IsWhole) (arg3 : Memref sig .tc .vmem S1x4096 .f32) (harg3 : arg3.IsWhole) (arg4 : Memref sig .tc .vmem S1x1x1024 .i32)
    (harg4 : arg4.IsWhole) (arg5 : Memref sig .tc .vmem S1x1 .f32) (harg5 : arg5.IsWhole) (hc0 : cond0_0 i)
    (x0 : Vec F S1024x4 .f32) (x1 : Vec F S4x4096 .f32) (x2 : Vec F S1x4096 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (Body.idxOf x0 x1 x2)
            ∗ owns (c : Thread nD τ) arg5 fullShare (k0_pay2 (Body.lossOf x0 x1 x2) k0_pay1)) -∗ K ⟨⟩))
      ⊢ wp frame (wpE (defs₀ (F := F)) Variants.none c none) E (cc0__dist_argmin_body i arg1 harg1 arg2 harg2 arg3 harg3 arg4 harg4 arg5 harg5) K := by
  rw [cc0__dist_argmin_body_eq_skeleton]; unfold cc0__dist_argmin_body_skel
  rw [Body.part26]
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg1.eq_unread hf0; obtain rfl := harg2.eq_unread hf1; obtain rfl := harg3.eq_unread hf2
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    exact (View.read_writes_full _ _ _ _ _).trans (congr3 Body.idxOf (load_whole harg1 x0 _) (load_whole harg2 x1 _) (load_whole harg3 x2 _))
  iexists _; isplitr
  swap; · iexact H4
  ipureintro
  exact (View.read_writes_full _ _ _ _ _).trans (congrArg₂ k0_pay2
    (congr3 Body.lossOf (load_whole harg1 x0 _) (load_whole harg2 x1 _) (load_whole harg3 x2 _)) (View.readCov_full _ _ _ _ _))

set_option maxHeartbeats 1000000 in
/-- Every later point: the running sum goes on from what the point before left. -/
theorem runB (c : Dev nD) (i : grid0.Coords) (arg1 : Memref sig .tc .vmem S1024x4 .f32) (harg1 : arg1.IsWhole) (arg2 : Memref sig .tc .vmem S4x4096 .f32)
    (harg2 : arg2.IsWhole) (arg3 : Memref sig .tc .vmem S1x4096 .f32) (harg3 : arg3.IsWhole) (arg4 : Memref sig .tc .vmem S1x1x1024 .i32)
    (harg4 : arg4.IsWhole) (arg5 : Memref sig .tc .vmem S1x1 .f32) (harg5 : arg5.IsWhole) (hc0 : ¬cond0_0 i)
    (x0 : Vec F S1024x4 .f32) (x1 : Vec F S4x4096 .f32) (x2 : Vec F S1x4096 .f32) (xo : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xo
        ∗ (iprop(owns (c : Thread nD τ) arg1 fullShare x0 ∗ owns (c : Thread nD τ) arg2 fullShare x1 ∗ owns (c : Thread nD τ) arg3 fullShare x2
            ∗ owns (c : Thread nD τ) arg4 fullShare (Body.idxOf x0 x1 x2)
            ∗ owns (c : Thread nD τ) arg5 fullShare (k0_pay2 (Body.lossOf x0 x1 x2) xo)) -∗ K ⟨⟩))
      ⊢ wp frame (wpE (defs₀ (F := F)) Variants.none c none) E (cc0__dist_argmin_body i arg1 harg1 arg2 harg2 arg3 harg3 arg4 harg4 arg5 harg5) K := by
  rw [cc0__dist_argmin_body_eq_skeleton]; unfold cc0__dist_argmin_body_skel
  rw [Body.part26]
  unfold owns
  iintro ⟨⟨%f0, %hf0, H0⟩, ⟨%f1, %hf1, H1⟩, ⟨%f2, %hf2, H2⟩, ⟨%d3, %f3, -, H3⟩, ⟨%f4, %hf4, H4⟩, Hk⟩
  obtain rfl := harg1.eq_unread hf0; obtain rfl := harg2.eq_unread hf1; obtain rfl := harg3.eq_unread hf2; obtain rfl := harg5.eq_unread hf4
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    exact (View.read_writes_full _ _ _ _ _).trans (congr3 Body.idxOf (load_whole harg1 x0 _) (load_whole harg2 x1 _) (load_whole harg3 x2 _))
  iexists _; isplitr
  swap; · iexact H4
  ipureintro
  exact (View.read_writes_full _ _ _ _ _).trans (congrArg₂ k0_pay2
    (congr3 Body.lossOf (load_whole harg1 x0 _) (load_whole harg2 x1 _) (load_whole harg3 x2 _)) (load_whole harg5 xo _))

/-! ## The proof data -/

variable (V : Dev nD → Valuation τ sig (Elt F))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The indices point `t` leaves. -/
def idxAt (c : Dev nD) (t : Fin cfg0.N) : IVec S1x1x1024 32 := Body.idxOf (iblk V c 0 t) (iblk V c 1 t) (iblk V c 2 t)

/-- The sum of least distances of point `t`'s tokens. -/
def lossAt (c : Dev nD) (t : Fin cfg0.N) : FVec F S1x1 .f32 := Body.lossOf (iblk V c 0 t) (iblk V c 1 t) (iblk V c 2 t)

/-- The running sum after point `n`. -/
def sumAt (c : Dev nD) : (n : ℕ) → n < cfg0.N → FVec F S1x1 .f32
  | 0, hn => k0_pay2 (lossAt V c ⟨0, hn⟩) k0_pay1
  | n + 1, hn => k0_pay2 (lossAt V c ⟨n + 1, hn⟩) (sumAt c n (Nat.lt_of_succ_lt hn))

/-- The pairs at level 0: all the core has waited for before the SparseCore call. -/
def recs (c : Dev nD) : Set (SemLoc sig × HIx 1) := {p | (K (F := F)).lev (T c, p.1) p.2 ≤ 0}

/-- The pipeline's proof data over the SparseCore launch's indices: the arrays as the region finds them; the inputs' buffers at their blocks, the
    outputs' at `idxAt` and `sumAt`; what the core owes the later SparseCore call throughout. -/
def dats (_ : Fin 1) (c : Dev nD) : Dat τ (Elt F) (HIx 1) ℕ UU ℕ cfg0 c where
  A w := V c (Proc.devRef .tc (Pipeline.arrRef spec0 w))
  after w t := match w with
    | ⟨0, _⟩ => iblk V c 0 t
    | ⟨1, _⟩ => iblk V c 1 t
    | ⟨2, _⟩ => iblk V c 2 t
    | ⟨3, _⟩ => idxAt V c t
    | ⟨4, _⟩ => sumAt V c t.val t.isLt
  Φ _ := Pipeline.scopedRest (Ix := HIx 1) (Name := ℕ) (U := UU) (Lvl := ℕ) (Val := Elt F) spec0 c
  q _ := fullShare
  owed _ := (K (F := F)).Otc c 0
  recorded _ := recs (F := F) c

theorem A_eq (c : Dev nD) (w : Fin cfg0.W) : (dats V 0 c).A w = V c (Proc.devRef .tc (Pipeline.arrRef spec0 w)) := by
  dsimp only [dats]

theorem Φ_eq (c : Dev nD) (t : Fin (cfg0.N + 1)) : (dats V 0 c).Φ t
    = Pipeline.scopedRest (Ix := HIx 1) (Name := ℕ) (U := UU) (Lvl := ℕ) (Val := Elt F) spec0 c := by dsimp only [dats]

theorem after0_0 (c : Dev nD) (t : Fin cfg0.N) : (dats V 0 c).after 0 t = iblk V c 0 t := by dsimp only [dats]
theorem after0_1 (c : Dev nD) (t : Fin cfg0.N) : (dats V 0 c).after 1 t = iblk V c 1 t := by dsimp only [dats]
theorem after0_2 (c : Dev nD) (t : Fin cfg0.N) : (dats V 0 c).after 2 t = iblk V c 2 t := by dsimp only [dats]
theorem after0_3 (c : Dev nD) (t : Fin cfg0.N) : (dats V 0 c).after 3 t = idxAt V c t := by dsimp only [dats]
theorem after0_4 (c : Dev nD) (t : Fin cfg0.N) : (dats V 0 c).after 4 t = sumAt V c t.val t.isLt := by dsimp only [dats]

theorem before0_0 (c : Dev nD) (t : Fin cfg0.N) (d) : (dats V 0 c).before 0 t d = iblk V c 0 t :=
  ((dats V 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats V 0 c).before 1 t d = iblk V c 1 t :=
  ((dats V 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats V 0 c).before 2 t d = iblk V c 2 t :=
  ((dats V 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-- After the first point, the running sum's buffer still holds what the point before left. -/
theorem before0_4 (c : Dev nD) (t : Fin cfg0.N) (h0 : ¬t.val = 0) (d) :
    (dats V 0 c).before 4 t d = sumAt V c (t.val - 1) (Nat.lt_of_le_of_lt (Nat.sub_le _ _) t.isLt) := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dats]

theorem sumAt_first (c : Dev nD) (t : Fin cfg0.N) (h0 : t.val = 0) : sumAt V c t.val t.isLt = k0_pay2 (lossAt V c t) k0_pay1 := by
  obtain ⟨n, hn⟩ := t
  cases n with
  | zero => exact rfl
  | succ n => exact absurd h0 (Nat.succ_ne_zero n)

theorem sumAt_later (c : Dev nD) (t : Fin cfg0.N) (h0 : ¬t.val = 0) :
    sumAt V c t.val t.isLt = k0_pay2 (lossAt V c t) (sumAt V c (t.val - 1) (Nat.lt_of_le_of_lt (Nat.sub_le _ _) t.isLt)) := by
  obtain ⟨n, hn⟩ := t
  cases n with
  | zero => exact absurd rfl h0
  | succ n => exact rfl

abbrev ms0_0 (t : Fin cfg0.N) : Memref sig .tc .vmem S1024x4 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1024 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)

def bodyPre (c : Dev nD) (t : Fin cfg0.N) : sProp 𝕄 :=
  iprop((dats V 0 c).Φ t.castSucc ∗ (dats V 0 c).owesAt none t.castSucc
    ∗ (∃ d, owns (c : Thread nD τ) (ms0_0 t) fullShare ((dats V 0 c).before 0 t d))
    ∗ (∃ d, owns (c : Thread nD τ) (ms0_1 t) fullShare ((dats V 0 c).before 1 t d))
    ∗ (∃ d, owns (c : Thread nD τ) (ms0_2 t) fullShare ((dats V 0 c).before 2 t d))
    ∗ (∃ d, owns (c : Thread nD τ) (ms0_3 t) fullShare ((dats V 0 c).before 3 t d))
    ∗ (∃ d, owns (c : Thread nD τ) (ms0_4 t) fullShare ((dats V 0 c).before 4 t d)))

def bodyPost (c : Dev nD) (t : Fin cfg0.N) : sProp 𝕄 :=
  iprop((dats V 0 c).Φ t.succ ∗ (dats V 0 c).owesAt none t.succ
    ∗ owns (c : Thread nD τ) (ms0_0 t) fullShare ((dats V 0 c).after 0 t)
    ∗ owns (c : Thread nD τ) (ms0_1 t) fullShare ((dats V 0 c).after 1 t)
    ∗ owns (c : Thread nD τ) (ms0_2 t) fullShare ((dats V 0 c).after 2 t)
    ∗ owns (c : Thread nD τ) (ms0_3 t) fullShare ((dats V 0 c).after 3 t)
    ∗ owns (c : Thread nD τ) (ms0_4 t) fullShare ((dats V 0 c).after 4 t))

set_option maxHeartbeats 800000 in
/-- The body at any point. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2]
  rw [show (dats V 0 c).Φ t.succ = (dats V 0 c).Φ t.castSucc from rfl,
    show (dats V 0 c).owesAt none t.succ = (dats V 0 c).owesAt none t.castSucc from rfl,
    after0_0, after0_1, after0_2, after0_3, after0_4]
  by_cases h0 : t.val = 0
  · rw [sumAt_first V c t h0]
    unfold idxAt lossAt
    iintro ⟨HΦ, Ho, ⟨%d0, H0⟩, ⟨%d1, H1⟩, ⟨%d2, H2⟩, ⟨%d3, H3⟩, ⟨%d4, H4⟩⟩
    iapply (runA c (grid0.coords t) _ _ _ _ _ _ _ _ _ _ ((hcond0_0 t).mpr h0) (iblk V c 0 t) (iblk V c 1 t) (iblk V c 2 t) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [sumAt_later V c t h0]
    simp only [before0_4 V c t h0]
    unfold idxAt lossAt
    iintro ⟨HΦ, Ho, ⟨%d0, H0⟩, ⟨%d1, H1⟩, ⟨%d2, H2⟩, ⟨%d3, H3⟩, ⟨%d4, H4⟩⟩
    iapply (runB c (grid0.coords t) _ _ _ _ _ _ _ _ _ _ (fun h => h0 ((hcond0_0 t).mp h)) (iblk V c 0 t) (iblk V c 1 t) (iblk V c 2 t) _ Set.univ _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

theorem defs₀_row (t : Fin cfg0.N) : defs₀ (F := F) .tc cfg0.body (cfg0.bodyArgs t (cfg0.slots t)) = bodyAt0 t := rfl

theorem body_obligation (c : Dev nD) : BodyObligation (dats (F := F) V 0 c) (defs₀ (F := F)) Variants.none none Set.univ := fun t => by
  rw [bigSep_W0, bigSep_W0, defs₀_row]
  exact triple_restated (sound_body V c t) rfl .rfl fun _ => .rfl

/-! ## The region -/

abbrev padm : (p : Fin 1) → (pcfgs (F := F) p).Adm := fun p => (cfgs p).toPCfg_adm

theorem Otc_some {d : Dev nD} {g : GSem nD τ sig} {i : HIx 1} (h : 0 < (K (F := F)).Otc d 0 g i) : 0 < (K (F := F)).lev g i :=
  Nat.lt_of_lt_of_le (Nat.succ_pos _) (SparseCore.Cfg.lev_of_Otc_pos h)

/-- The region over all the core's unscoped buffers: entered at the contents `V c`, left at `Pipeline.afterRegion`, with what the core owes the
    SparseCore call kept and nothing waited for above level 0. -/
def region : RegionSeg (pcfgs (F := F)) padm (dats V) none (defs₀ (F := F)) Variants.none (K (F := F)).L (K (F := F)).lev 0 where
  win := launch0.win.to₀
  block_pos := launch0.block_pos
  stage_whole := launch0.stage_whole
  K := PEmpty
  osem k := k.elim
  ho := Pipeline.OwnSemFacts.none _
  hbody c := (body_obligation V c).loose
  hwaits c := Pipeline.cellsWaits_of_cut (Pipeline.pin pcfgs padm) (dats V) none 0 c 0 ((K (F := F)).Otc c 0) (fun _ => rfl)
    (fun _ _ => Finset.mem_univ _) (fun _ _ => le_rfl) (fun g i h => ⟨Finset.mem_univ _, Otc_some h⟩)
  pre c := iprop(StableHlo.held (c.tc : Thread nD τ) (Pipeline.ucRefs τ sig) (V c)
    ∗ ∃ W, ⌜(K (F := F)).WBelow (T c) W 0⌝ ∗ owes (T c) ((K (F := F)).Otc c 0) W)
  post c := iprop(StableHlo.held (c.tc : Thread nD τ) (Pipeline.ucRefs τ sig) (Pipeline.afterRegion (dats V 0 c) (V c))
    ∗ ∃ W, ⌜(K (F := F)).WBelow (T c) W 0⌝ ∗ owes (T c) ((K (F := F)).Otc c 0) W)
  X _ := iprop(emp)
  Y _ := iprop(emp)
  Z c := StableHlo.held (c.tc : Thread nD τ) (Pipeline.ucRefs τ sig \ Pipeline.arrRefs spec0) (V c)
  hentry c := by
    rw [Pipeline.ownSems0_none, Pipeline.prefHeld_of_none _ rfl,
      Pipeline.arrays_held pcfgs padm (dats V) 0 launch0.toP c (fun w => (dats V 0 c).share_full (fun _ => rfl) w)
        ((dats V 0 c).arrAt · 0) (V c) (fun w => A_eq V c w),
      StableHlo.held_sub_split (c.tc : Thread nD τ) (Pipeline.arrRefs_sub_ucRefs spec0 launch0.win.arr_unscoped) (V c)]
    iintro ⟨⟨⟨Ha, Hu⟩, HO⟩, -, -⟩
    imodintro
    isplitl [Ha]; · iexact Ha
    isplitr; · iempintro
    isplitl [HO]
    · unfold Dat.owesAt Pipeline.owesWithin Dat.bound
      icases HO with ⟨%W, %hW, HO⟩; iexists W; isplitr; · ipureintro; exact fun p hp => Or.inl (hW p hp)
      iexact HO
    isplitr; · iempintro
    iexact Hu
  hin c := (show _ ⊢ iprop(Pipeline.scopedRest (Ix := HIx 1) (Name := ℕ) (U := UU) (Lvl := ℕ) (Val := Elt F) spec0 c) from by
    iintro ⟨-, -, Hr⟩; iexact Hr).trans (Entails.of_eq (Φ_eq V c _).symm)
  hout c := (Entails.of_eq (Φ_eq V c _)).trans (by
    rw [Pipeline.ownSems0_none]
    iintro Hr
    isplitr; · iempintro
    isplitr; · iempintro
    iexact Hr)
  hexit c := by
    rw [Pipeline.arrays_held pcfgs padm (dats V) 0 launch0.toP c (fun w => (dats V 0 c).share_full (fun _ => rfl) w)
        ((dats V 0 c).arrAt · (Pipeline.pin (pcfgs (F := F)) padm 0).N) (Pipeline.afterRegion (dats V 0 c) (V c))
        (fun w => (Pipeline.afterRegion_arr (dats V 0 c) (V c) launch0.win.arr_inj w).symm),
      StableHlo.held_sub_split (c.tc : Thread nD τ) (Pipeline.arrRefs_sub_ucRefs spec0 launch0.win.arr_unscoped) (Pipeline.afterRegion (dats V 0 c) (V c)),
      StableHlo.held_congr (c.tc : Thread nD τ) (S := Pipeline.ucRefs τ sig \ Pipeline.arrRefs spec0) (V := Pipeline.afterRegion (dats V 0 c) (V c))
        (V' := V c) (Pipeline.afterRegion_off (dats V 0 c) (V c) (Pipeline.ucRefs τ sig))]
    iintro ⟨Ha, HO, -, Hu⟩
    imodintro
    isplitl [Ha Hu]
    · isplitl [Ha]; · iexact Ha
      iexact Hu
    unfold Dat.owesAt Pipeline.owesWithin Dat.bound
    icases HO with ⟨%W, %hW, HO⟩; iexists W; isplitr
    · ipureintro
      intro p hp
      rcases hW hp with h | ⟨w, s, rfl⟩
      · exact h
      · exact le_rfl
    iexact HO

end Cert.Proof.Sc

end
-- ==== Proof.Launch.lean ====
/-
  The launch of the SparseCore program: @main on the TensorCore, the matching kernel's region and the SparseCore call in it, and the run of the
  whole mesh, its final buffers named. For any float values `F`, of a launch memory whose computed indices are table rows.
-/
module

public import proofs.«01_k».proof.Proof.Split
public import proofs.«01_k».proof.Proof.Region

@[expose] public section

set_option maxRecDepth 16384

noncomputable section

namespace Cert.Proof.Sc

open Cert.KernelIdeal Cert.KernelIdeal.Gen

open Idealize.ShloMosaic Idealize.ShloMosaic.TcCoe
open Idealize.ShloMosaic.ValueIdx
open Idealize.ShloMosaic.SparseCore (S V T)
open Idealize.ShloMosaic.SparseCore.Cfg (HIx Pay)
open Idealize.ShloMosaic.Pipeline (Dat BodyObligation BodyObligationLoose RegionSeg)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The host stretches of @main -/

/-- Host stretch 0 of @main. -/
abbrev ops0 : List (HloOp τ sig (Elt F)) :=
  [ StableHlo.reshape main_arg0 main_v0 (rfl : (.f32 : EltTy) = .f32) shapeCasts_S4x16384x4_S65536x4,
    StableHlo.binary main_arg1 main_arg1 main_v1 (mulf : (⟨S4096x4, .f32⟩ : BufTy).Contents (Elt F) → (⟨S4096x4, .f32⟩ : BufTy).Contents (Elt F) → (⟨S4096x4, .f32⟩ : BufTy).Contents (Elt F)),
    StableHlo.nullary main_cst (constant S_ .f32 0x00000000#32),
    StableHlo.binary main_v1 main_cst main_v2 ((fun x v => Host.reduceAdd x v reducesTo_S4096x4_S4096_d1 h_S_) : (⟨S4096x4, .f32⟩ : BufTy).Contents (Elt F) → (⟨S_, .f32⟩ : BufTy).Contents (Elt F) → (⟨S4096, .f32⟩ : BufTy).Contents (Elt F)),
    StableHlo.reshape main_v2 main_v3 (rfl : (.f32 : EltTy) = .f32) shapeCasts_S4096_S1x4096,
    StableHlo.unary main_arg1 main_v4 ((transpose S4x4096 [1, 0] · transposes_S4096x4_S4x4096_1_0) : (⟨S4096x4, .f32⟩ : BufTy).Contents (Elt F) → (⟨S4x4096, .f32⟩ : BufTy).Contents (Elt F)) ]
theorem ops0_sub : (ops0 : List (HloOp τ sig (Elt F))).Forall fun op => op.bufs ⊆ StableHlo.tcRefs τ sig :=
  ⟨StableHlo.reshape_bufs_sub .., StableHlo.binary_bufs_sub .., StableHlo.nullary_bufs_sub .., StableHlo.binary_bufs_sub .., StableHlo.reshape_bufs_sub .., StableHlo.unary_bufs_sub ..⟩
theorem ops0_fresh : ∀ op ∈ (ops0 : List (HloOp τ sig (Elt F))), op.fresh = ∅ := by
  intro _ h; (repeat (cases h with | head => rfl | tail _ h => ?_)); exact nomatch h

/-- Host stretch 1 of @main. -/
abbrev ops1 : List (HloOp τ sig (Elt F)) :=
  [ StableHlo.reshape main_v5_0 main_v6 (rfl : (.i32 : EltTy) = .i32) shapeCasts_S64x1x1024_S65536,
    StableHlo.reshape main_arg1 main_v7 (rfl : (.f32 : EltTy) = .f32) shapeCasts_S4096x4_S16384 ]
theorem ops1_sub : (ops1 : List (HloOp τ sig (Elt F))).Forall fun op => op.bufs ⊆ StableHlo.tcRefs τ sig :=
  ⟨StableHlo.reshape_bufs_sub .., StableHlo.reshape_bufs_sub ..⟩
theorem ops1_fresh : ∀ op ∈ (ops1 : List (HloOp τ sig (Elt F))), op.fresh = ∅ := by
  intro _ h; (repeat (cases h with | head => rfl | tail _ h => ?_)); exact nomatch h

/-- Host stretch 2 of @main. -/
abbrev ops2 : List (HloOp τ sig (Elt F)) :=
  [ StableHlo.reshape main_v8 main_v9 (rfl : (.f32 : EltTy) = .f32) shapeCasts_S262144_S4x4x16384,
    StableHlo.unary main_arg0 main_v10 ((transpose S4x4x16384 [0, 2, 1] · transposes_S4x16384x4_S4x4x16384_0_2_1) : (⟨S4x16384x4, .f32⟩ : BufTy).Contents (Elt F) → (⟨S4x4x16384, .f32⟩ : BufTy).Contents (Elt F)),
    StableHlo.binary main_v9 main_v10 main_v11 (subf : (⟨S4x4x16384, .f32⟩ : BufTy).Contents (Elt F) → (⟨S4x4x16384, .f32⟩ : BufTy).Contents (Elt F) → (⟨S4x4x16384, .f32⟩ : BufTy).Contents (Elt F)),
    StableHlo.binary main_v10 main_v11 main_v12 (addf : (⟨S4x4x16384, .f32⟩ : BufTy).Contents (Elt F) → (⟨S4x4x16384, .f32⟩ : BufTy).Contents (Elt F) → (⟨S4x4x16384, .f32⟩ : BufTy).Contents (Elt F)),
    StableHlo.unary main_v12 main_v13 ((transpose S4x16384x4 [0, 2, 1] · transposes_S4x4x16384_S4x16384x4_0_2_1) : (⟨S4x4x16384, .f32⟩ : BufTy).Contents (Elt F) → (⟨S4x16384x4, .f32⟩ : BufTy).Contents (Elt F)),
    StableHlo.reshape main_v5_1 main_v14 (rfl : (.f32 : EltTy) = .f32) shapeCasts_S1x1_S_,
    StableHlo.nullary main_cst_0 (constant S_ .f32 0x48800000#32),
    StableHlo.binary main_v14 main_cst_0 main_v15 (Host.divf : (⟨S_, .f32⟩ : BufTy).Contents (Elt F) → (⟨S_, .f32⟩ : BufTy).Contents (Elt F) → (⟨S_, .f32⟩ : BufTy).Contents (Elt F)),
    StableHlo.reshape main_v5_0 main_v16 (rfl : (.i32 : EltTy) = .i32) shapeCasts_S64x1x1024_S4x16384 ]
theorem ops2_sub : (ops2 : List (HloOp τ sig (Elt F))).Forall fun op => op.bufs ⊆ StableHlo.tcRefs τ sig :=
  ⟨StableHlo.reshape_bufs_sub .., StableHlo.unary_bufs_sub .., StableHlo.binary_bufs_sub .., StableHlo.binary_bufs_sub .., StableHlo.unary_bufs_sub .., StableHlo.reshape_bufs_sub .., StableHlo.nullary_bufs_sub .., StableHlo.binary_bufs_sub .., StableHlo.reshape_bufs_sub ..⟩
theorem ops2_fresh : ∀ op ∈ (ops2 : List (HloOp τ sig (Elt F))), op.fresh = ∅ := by
  intro _ h; (repeat (cases h with | head => rfl | tail _ h => ?_)); exact nomatch h

/-- @main is its host stretches around the two calls. -/
theorem main_eq (d : Dev nD) : main (F := F) d = (StableHlo.seq ops0 >>= fun _ => SparseCore.liftProg (Prog.lift (.customCall (Pipeline.entry 0) ()))
    >>= fun _ => StableHlo.seq ops1 >>= fun _ => (K (F := F)).run d 0 >>= fun _ => StableHlo.seq ops2) := by
  rfl

/-! ## The contents along @main -/

section Run

variable (m : (ℓ : Loc nD τ sig) → Buf (Elt F) ℓ) (ρ : Dev nD → PrngReg)

/-- At launch; -/
def V0 (d : Dev nD) : Valuation τ sig (Elt F) := fun b => m (d, b)
/-- at the matching kernel's entry; -/
def V1 (d : Dev nD) : Valuation τ sig (Elt F) := StableHlo.after ops0 (V0 m d)
/-- at its exit; -/
def V2 (d : Dev nD) : Valuation τ sig (Elt F) := Pipeline.afterRegion (dats (V1 m) 0 d) (V1 m d)
/-- at the SparseCore call; -/
def V3 (d : Dev nD) : Valuation τ sig (Elt F) := StableHlo.after ops1 (V2 m d)
/-- the table and the indices it is passed; -/
def tbM (d : Dev nD) : Buf (Elt F) (tLoc d) := V3 m d (Proc.devRef .tc main_v7)
def ixM (d : Dev nD) : Buf (Elt F) (iLoc d) := V3 m d (Proc.devRef .tc main_v6)
/-- after it; -/
def V4 (d : Dev nD) : Valuation τ sig (Elt F) := Function.update (V3 m d) (Proc.devRef .tc main_v8) (oG (tbM m) (ixM m) d)
/-- at the return. -/
def V5 (d : Dev nD) : Valuation τ sig (Elt F) := StableHlo.after ops2 (V4 m d)

/-! ## The launch element of the ghost state -/

/-- The rounds algebra of the matching kernel's staging cells: the middle component. -/
def EP : Emb UP 𝕄 := (Emb.inl : Emb UP (UP × Counters)).trans embR

instance EP_landsIn : (EP : Emb UP 𝕄).LandsIn (upEmb : UEmb _ 𝕄) := by unfold EP embR; infer_instance

theorem phinj : Function.Injective (Pipeline.cellOf (nD := nD) (τ := τ) (Pipeline.pin (pcfgs (F := F)) padm)) := launch0.toP.cellOf_inj padm

def uP : UP := initOf (Pipeline.cells (Pipeline.pin (pcfgs (F := F)) padm) phinj) (Pipeline.launchToks (Pipeline.pin (pcfgs (F := F)) padm) phinj)

def u₀ : UU := (initOf (K (F := F)).hsCells (K (F := F)).hsToks, (uP (F := F), 1))

/-- What each TensorCore is dealt of it. -/
def G (d : Dev nD) : sProp 𝕄 := iprop(Pipeline.cellsGhost (Pipeline.pin (pcfgs (F := F)) padm) EP 0 d ∗ Pipeline.toksInit (Pipeline.pin (pcfgs (F := F)) padm) EP 0 d)

theorem bigSep_emp' {I : Type} (s : Finset I) : (bigSep s fun _ => iprop(emp)) = (iprop(emp) : sProp 𝕄) := bigSep_emp_const s

theorem bigSep_one (Φ : Fin 1 → sProp 𝕄) : bigSep Finset.univ Φ = Φ 0 := bigSep_univ_of_subsingleton (0 : Fin 1)

theorem hu₀ (tb : (d : Dev nD) → Buf (Elt F) (tLoc d)) (ix : (d : Dev nD) → Buf (Elt F) (iLoc d)) : (ownU (u₀ (F := F)) : sProp 𝕄)
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => (P tb ix).x q thr) := by
  unfold u₀
  iintro Hu
  ihave H := (ownU_pair (initOf (K (F := F)).hsCells (K (F := F)).hsToks) ((uP (F := F), 1) : UP × Counters)) $$ Hu
  icases H with ⟨HH, HP⟩
  ihave HP' := (Entails.of_eq (show (BI.own (embR ((uP (F := F), 1) : UP × Counters)) : sProp 𝕄)
    = BI.own (EP (initOf (Pipeline.cells (Pipeline.pin (pcfgs (F := F)) padm) phinj) (Pipeline.launchToks (Pipeline.pin (pcfgs (F := F)) padm) phinj))) from rfl)) $$ HP
  imod (Pipeline.fund_ghost (Pipeline.pin (pcfgs (F := F)) padm) EP phinj) $$ HP' with ⟨Hg, Ht⟩
  imodintro
  isplitl [HH]; · iexact HH
  isplitl [Hg Ht]
  · rw [show (bigSep Finset.univ (G (F := F)) : sProp 𝕄)
      = bigSep Finset.univ fun d : Dev nD => iprop((bigSep Finset.univ fun p : Fin 1 => Pipeline.cellsGhost (Pipeline.pin (pcfgs (F := F)) padm) EP p d)
          ∗ bigSep Finset.univ fun p : Fin 1 => Pipeline.toksInit (Pipeline.pin (pcfgs (F := F)) padm) EP p d) from
      bigSep_congr fun d _ => by rw [bigSep_one, bigSep_one]; rfl, bigSep_sep']
    isplitl [Hg]; · iexact Hg
    iexact Ht
  rw [show (bigSep Finset.univ fun thr : Thread nD τ => bigSep Finset.univ fun q : Fin 1 => (P (F := F) tb ix).x q thr) = bigSep Finset.univ fun _ => iprop(emp) from
    bigSep_congr fun _ _ => bigSep_univ_of_subsingleton (0 : Fin 1), bigSep_emp']
  iempintro

/-! ## @main on the TensorCore -/

/-- The SparseCore call's three buffers. -/
abbrev scRefs : Finset (DevRef τ sig) := {Proc.devRef .tc main_v7, Proc.devRef .tc main_v6, Proc.devRef .tc main_v8}

theorem scRefs_sub : scRefs ⊆ Pipeline.ucRefs τ sig := by decide

/-- What a TensorCore ends with: every one of its unscoped buffers, at the contents at the return. -/
abbrev FIN (d : Dev nD) : sProp 𝕄 := StableHlo.held (T d) (Pipeline.ucRefs τ sig) (V5 m d)

theorem held_sc (d : Dev nD) (W : Valuation τ sig (Elt F)) : (StableHlo.held (T d) scRefs W : sProp 𝕄)
    = iprop((tLoc d ↦{fullShare} W (Proc.devRef .tc main_v7)) ∗ (iLoc d ↦{fullShare} W (Proc.devRef .tc main_v6)) ∗ oLoc d ↦{fullShare} W (Proc.devRef .tc main_v8)) := by
  unfold StableHlo.held scRefs
  rw [SparseCore.bigSep_insert' (by decide), SparseCore.bigSep_insert' (by decide), bigSep_singleton]

/-- The region, from the state @main enters it in. -/
theorem wp_region (d : Dev nD) (Q : PUnit → sProp 𝕄) :
    iprop((iprop(boundary (T d) ∗ (region (V1 m)).post d) -∗ Q ⟨⟩) ∗ boundary (T d) ∗ (region (V1 m)).pre d ∗ levAts (K (F := F)).L (K (F := F)).lev ∗ G (F := F) d)
      ⊢ wp frame (wpE ((K (F := F)).defs (D (F := F))) 𝒱 (T d) none) Set.univ (SparseCore.liftProg (Prog.lift (.customCall (Pipeline.entry 0) ()))) Q := by
  refine BI.Entails.trans ?_ ((K (F := F)).wp_liftProg (D (F := F)) 𝒱 (T d) Set.univ none (Prog.lift (.customCall (Pipeline.entry 0) ())) Q)
  have key : (iprop(iprop(boundary (T d) ∗ (region (V1 m)).post d) -∗ Q ⟨⟩) : sProp 𝕄)
      ⊢ iprop(iprop(boundary (T d) ∗ (region (V1 m)).post d) -∗ wp frame (wpE (D (F := F)) 𝒱 (T d) none) Set.univ (.ret ⟨⟩) Q) := by
    iintro Hk H
    rw [wp_ret]
    imodintro
    iapply Hk; iexact H
  exact (sep_mono_left key).trans (RegionSeg.wp pcfgs padm (dats (V1 m)) none phinj EP defs₀ Variants.none (K (F := F)).L (K (F := F)).lev (region (V1 m)) d none
    (fun _ h => absurd h (by simp)) (fun x => .ret x) Q)

theorem region_pre (d : Dev nD) : (region (V1 m)).pre d = iprop(StableHlo.held (T d) (Pipeline.ucRefs τ sig) (V1 m d)
    ∗ ∃ W, ⌜(K (F := F)).WBelow (T d) W 0⌝ ∗ owes (T d) ((K (F := F)).Otc d 0) W) := rfl
theorem region_post (d : Dev nD) : (region (V1 m)).post d = iprop(StableHlo.held (T d) (Pipeline.ucRefs τ sig) (V2 m d)
    ∗ ∃ W, ⌜(K (F := F)).WBelow (T d) W 0⌝ ∗ owes (T d) ((K (F := F)).Otc d 0) W) := rfl

/-- A TensorCore's state before the first call: what it owes, and the rest. -/
theorem tcSt_split (d : Dev nD) : ((K (F := F)).tcSt EH d 0 : sProp 𝕄) ⊢ iprop((∃ W, ⌜(K (F := F)).WBelow (T d) W 0⌝ ∗ owes (T d) ((K (F := F)).Otc d 0) W)
    ∗ ((∃ W, ⌜(K (F := F)).WBelow (T d) W 0⌝ ∗ owes (T d) ((K (F := F)).Otc d 0) W) -∗ (K (F := F)).tcSt EH d 0)) := by
  unfold SparseCore.Cfg.tcSt
  iintro ⟨HO, Hst⟩
  isplitl [HO]; · iexact HO
  iintro HO
  isplitl [HO]; · iexact HO
  iexact Hst

theorem bufs_eq (d : Dev nD) : (unscopedBufs d (fun b => m ((SparseCore.T d).loc b)) : sProp 𝕄) = StableHlo.held (T d) (Pipeline.ucRefs τ sig) (V0 m d) :=
  Pipeline.unscopedBufs_held (Ix := HIx 1) (Name := ℕ) (U := UU) (Lvl := ℕ) d (V0 m d)

set_option backward.isDefEq.respectTransparency.types false in
theorem hmain (κ : GSem nD τ sig → ℕ) (d : Dev nD) :
    iprop((K (F := F)).ctx EH (P (tbM m) (ixM m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [bufs_eq, main_eq]
  iintro ⟨#Hctx, Hst, ⟨Hb, Hbuf, Hts, -⟩, HG⟩
  iapply (StableHlo.wp_seq 𝒱 none Set.univ d (Pipeline.ucRefs τ sig) _ ops0
    (fun op h => Pipeline.sub_ucRefs op ((List.forall_iff_forall_mem.mp ops0_sub) op h)) ops0_fresh (V0 m d)) $$ [Hb Hbuf]
  · isplitl [Hb] <;> iassumption
  iintro ⟨Hb, Hbuf⟩
  rw [wp_bind]
  ihave Hst' := (tcSt_split d) $$ Hst
  icases Hst' with ⟨HO, Hst⟩
  iapply (wp_region m d _)
  rw [region_pre, region_post]
  isplitr [Hb Hbuf HO HG]
  rotate_left
  · isplitl [Hb]; · iexact Hb
    isplitl [Hbuf HO]
    · isplitl [Hbuf]; · iexact Hbuf
      iexact HO
    isplitr; · iapply (SparseCore.Cfg.ctx_levAts κ); iexact Hctx
    iexact HG
  iintro ⟨Hb, Hbuf, HO⟩
  iapply (StableHlo.wp_seq 𝒱 none Set.univ d (Pipeline.ucRefs τ sig) _ ops1
    (fun op h => Pipeline.sub_ucRefs op ((List.forall_iff_forall_mem.mp ops1_sub) op h)) ops1_fresh (V2 m d)) $$ [Hb Hbuf]
  · isplitl [Hb] <;> iassumption
  iintro ⟨Hb, Hbuf⟩
  rw [wp_bind]
  ihave Hbuf := (Entails.of_eq (show (StableHlo.held (d.tc : Thread nD τ) (Pipeline.ucRefs τ sig) (StableHlo.after ops1 (V2 m d)) : sProp 𝕄)
    = StableHlo.held (T d) (Pipeline.ucRefs τ sig) (V3 m d) from rfl)) $$ Hbuf
  ihave Hbuf' := (Entails.of_eq (StableHlo.held_sub_split (T d) scRefs_sub (V3 m d))) $$ Hbuf
  icases Hbuf' with ⟨Hsc, Hrest⟩
  ihave Hsc' := (Entails.of_eq (held_sc d (V3 m d))) $$ Hsc
  icases Hsc' with ⟨Ht, Hi, Ho⟩
  iapply ((K (F := F)).wp_run (D (F := F)) 𝒱 (EH := EH) (P := P (tbM m) (ixM m)) κ d 0)
  isplitr; · iexact Hctx
  isplitl [Hst HO]
  · iapply Hst; iexact HO
  isplitl [Ht Hi Ho]
  · iapply (st_all (tbM m) (ixM m) d)
    isplitl [Ht]; · iexact Ht
    isplitl [Hi]; · iexact Hi
    iexists _; iexact Ho
  iintro ⟨Hst, Hdn⟩
  ihave Hdn' := (Entails.of_eq (dn_all (tbM m) (ixM m) d)) $$ Hdn
  ihave Hsc := (Entails.of_eq (show iprop((tLoc d ↦{fullShare} tbM m d) ∗ (iLoc d ↦{fullShare} ixM m d) ∗ oLoc d ↦{fullShare} oG (tbM m) (ixM m) d)
    = (StableHlo.held (T d) scRefs (V4 m d) : sProp 𝕄) from by
      rw [held_sc]
      unfold V4
      rw [Function.update_self, Function.update_of_ne (by decide), Function.update_of_ne (by decide)]
      rfl)) $$ Hdn'
  ihave Hrest' := (Entails.of_eq (StableHlo.held_congr (T d) (S := Pipeline.ucRefs τ sig \ scRefs) (V := V3 m d) (V' := V4 m d) (fun b hb => by
      unfold V4
      rw [Function.update_of_ne]
      rintro rfl
      exact (Finset.mem_sdiff.mp hb).2 (by decide)))) $$ Hrest
  ihave Hbuf := (Entails.of_eq (StableHlo.held_sub_split (T d) scRefs_sub (V4 m d)).symm) $$ [Hsc Hrest']
  · isplitl [Hsc] <;> iassumption
  rw [show (StableHlo.seq (ops2 (F := F)) : Prog (TpuEff nD τ sig (Elt F) (SparseCore.Sig (ΛP (F := F)) 1) .tc) PUnit) = (StableHlo.seq ops2 >>= fun x => pure x) from (bind_pure _).symm]
  iapply (StableHlo.wp_seq 𝒱 none Set.univ d (Pipeline.ucRefs τ sig) _ ops2
    (fun op h => Pipeline.sub_ucRefs op ((List.forall_iff_forall_mem.mp ops2_sub) op h)) ops2_fresh (V4 m d)) $$ [Hb Hbuf]
  · isplitl [Hb] <;> iassumption
  iintro ⟨Hb, Hbuf⟩
  rw [wp_pure]
  imodintro
  isplitl [Hst]; · iexact Hst
  isplitl [Hbuf]; · iexact Hbuf
  isplitl [Hb] <;> iassumption

def fq (d : Dev nD) (s' : Phys nD τ sig (Elt F)) : Prop := ∀ b ∈ Pipeline.ucRefs τ sig, s'.mem.mem (d, b) = V5 m d b

theorem hfin (d : Dev nD) (s' : Phys nD τ sig (Elt F)) : iprop(FIN m d ∗ SI s') ⊢ (⌜fq m d s'⌝ : sProp 𝕄) := by
  iintro ⟨HF, HSI⟩
  ihave H := (pointsTo_read_all (Pipeline.ucRefs τ sig) (fun b => (d, b)) (V5 m d) s') $$ [HF HSI]
  · isplitl [HF]
    · unfold FIN StableHlo.held; iexact HF
    iexact HSI
  icases H with ⟨%h, -⟩
  ipureintro; exact h

/-! ## The program's run -/

def QC : PUnit × MemSt nD τ sig (Elt F) → Prop := fun r => (∀ c : Dev nD, ∀ b ∈ Pipeline.ucRefs τ sig, r.2.mem (c, b) = V5 m c b) ∧ r.2.sem = fun _ => 0

theorem run_main [∀ e, Nonempty (Elt F e)] (hix : ∀ d j, (ixM m d j).toNat < 4096) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (tbM m) (ixM m)) (A := ∅) facts v₀
    (fun q hq => match q with | 0 => nomatch hq)
    (fun q _ => match q with | 0 => tileObl (tbM m) (ixM m) facts hix)
    (fun q _ => match q with | 0 => SparseCore.Cfg.VecSplit.of_plain (vecSplit (tbM m) (ixM m)))
    m ρ main (G (F := F)) (FIN m) (u₀ (F := F)) (sep_elim_left.trans (hu₀ (tbM m) (ixM m))) (hmain m ρ) (fq m) (hfin m) (QC m) (fun _ h hz => ⟨h, hz⟩)

end Run

end Cert.Proof.Sc

end
-- ==== Proof.Amin.lean ====
/- The mathematics of a first least place, over extended reals: what a running minimum over
column chunks and a minimum over lanes find, what the reference's fold over (value, index) pairs
finds, and the squared distance written the two ways. Nothing here speaks of a program. -/
module

public import Idealize.ShloMosaic.PureOps.Ideal

@[expose] public section

namespace Cert.Proof.Amin

open Idealize.ShloMosaic

/-- `j` is the first place among the first `n` at which `f` is least. -/
structure IsFirst (n : ℕ) (f : ℕ → EReal) (j : ℕ) : Prop where
  lt : j < n
  le : ∀ k < n, f j ≤ f k
  first : ∀ k < j, f j < f k

/-- There is one first least place only. -/
theorem IsFirst.unique {n : ℕ} {f : ℕ → EReal} {i j : ℕ} (hi : IsFirst n f i) (hj : IsFirst n f j) :
    i = j := by
  rcases lt_trichotomy i j with h | h | h
  · exact absurd (hj.first i h) (not_lt.2 (hi.le j hj.lt))
  · exact h
  · exact absurd (hi.first j h) (not_lt.2 (hj.le i hi.lt))

/-- A first least place depends on the values below `n` only. -/
theorem IsFirst.congr {n : ℕ} {f g : ℕ → EReal} {j : ℕ} (h : IsFirst n f j) (e : ∀ k < n, f k = g k) :
    IsFirst n g j :=
  ⟨h.lt, fun k hk => by rw [← e k hk, ← e j h.lt]; exact h.le k hk,
    fun k hk => by rw [← e k (hk.trans h.lt), ← e j h.lt]; exact h.first k hk⟩

/-- The running minimum through step `c`. -/
noncomputable def runMin (f : ℕ → EReal) : ℕ → EReal
  | 0 => f 0
  | c + 1 => if f (c + 1) < runMin f c then f (c + 1) else runMin f c

/-- The step at which the running minimum last fell. -/
noncomputable def runAt (f : ℕ → EReal) : ℕ → ℕ
  | 0 => 0
  | c + 1 => if f (c + 1) < runMin f c then c + 1 else runAt f c

/-- The running minimum is the least value so far, and the step kept its first place. -/
theorem runAt_isFirst (f : ℕ → EReal) (c : ℕ) :
    IsFirst (c + 1) f (runAt f c) ∧ runMin f c = f (runAt f c) := by
  induction c with
  | zero => exact ⟨⟨Nat.one_pos, fun k hk => by obtain rfl : k = 0 := by omega
                                                exact le_rfl, fun k hk => absurd hk (Nat.not_lt_zero k)⟩, rfl⟩
  | succ c ih =>
    obtain ⟨h, e⟩ := ih
    by_cases hlt : f (c + 1) < runMin f c
    · have ea : runAt f (c + 1) = c + 1 := if_pos hlt
      have em : runMin f (c + 1) = f (c + 1) := if_pos hlt
      rw [ea, em]
      have hall : ∀ k < c + 1, f (c + 1) < f k := fun k hk => (e ▸ hlt).trans_le (h.le k hk)
      refine ⟨⟨Nat.lt_succ_self _, fun k hk => ?_, hall⟩, rfl⟩
      rcases Nat.lt_succ_iff_lt_or_eq.1 hk with hk | rfl
      · exact (hall k hk).le
      · exact le_rfl
    · have ea : runAt f (c + 1) = runAt f c := if_neg hlt
      have em : runMin f (c + 1) = runMin f c := if_neg hlt
      rw [ea, em]
      refine ⟨⟨h.lt.trans (Nat.lt_succ_self _), fun k hk => ?_, h.first⟩, e⟩
      rcases Nat.lt_succ_iff_lt_or_eq.1 hk with hk | rfl
      · exact h.le k hk
      · exact e ▸ not_lt.1 hlt

/-- The first least place among the first 4096. -/
@[irreducible] noncomputable def am (f : ℕ → EReal) : ℕ := runAt f 4095

theorem am_isFirst (f : ℕ → EReal) : IsFirst 4096 f (am f) := by
  have h : ∀ n, IsFirst (n + 1) f (runAt f n) := fun n => (runAt_isFirst f n).1
  unfold am
  exact h 4095

theorem am_lt (f : ℕ → EReal) : am f < 4096 := (am_isFirst f).lt

theorem IsFirst.eq_am {f : ℕ → EReal} {j : ℕ} (h : IsFirst 4096 f j) : j = am f := h.unique (am_isFirst f)

theorem am_congr {f g : ℕ → EReal} (e : ∀ k < 4096, f k = g k) : am f = am g := ((am_isFirst f).congr e).eq_am

/-- The values of lane `l` of 128, by chunk. -/
def laneOf (f : ℕ → EReal) (l : ℕ) : ℕ → EReal := fun c => f (c * 128 + l)

theorem laneOf_mod (f : ℕ → EReal) (k : ℕ) : laneOf f (k % 128) (k / 128) = f k := by
  unfold laneOf
  rw [Nat.div_add_mod']

/-- A minimum over the lanes of the running minima, and the least candidate index among the lanes
that reach it: together they are the first least place among the columns of `C + 1` chunks. -/
theorem lanes_isFirst (f : ℕ → EReal) (C : ℕ) (T : EReal) (J : ℕ)
    (hT : ∀ l < 128, T ≤ runMin (laneOf f l) C)
    (hJ : ∀ l < 128, runMin (laneOf f l) C = T → J ≤ runAt (laneOf f l) C * 128 + l)
    (hat : ∃ l < 128, runMin (laneOf f l) C = T ∧ J = runAt (laneOf f l) C * 128 + l) :
    IsFirst ((C + 1) * 128) f J ∧ T = f J := by
  obtain ⟨l, hl, el, rfl⟩ := hat
  obtain ⟨h, e⟩ := runAt_isFirst (laneOf f l) C
  have hTJ : T = f (runAt (laneOf f l) C * 128 + l) := by rw [← el, e]; rfl
  have hle : ∀ k < (C + 1) * 128, T ≤ f k := fun k hk => by
    obtain ⟨h', e'⟩ := runAt_isFirst (laneOf f (k % 128)) C
    have := (hT (k % 128) (Nat.mod_lt _ (by decide))).trans (e'.le.trans (h'.le (k / 128) (by omega)))
    rwa [laneOf_mod] at this
  refine ⟨⟨?_, fun k hk => hTJ.ge.trans (hle k hk), fun k hk => ?_⟩, hTJ⟩
  · have := h.lt; omega
  · have hlt := h.lt
    have hk' : k < (C + 1) * 128 := by omega
    rw [← hTJ]
    refine lt_of_le_of_ne (hle k hk') fun heq => ?_
    obtain ⟨h', e'⟩ := runAt_isFirst (laneOf f (k % 128)) C
    have ek := laneOf_mod f k
    have hm : runMin (laneOf f (k % 128)) C = T :=
      le_antisymm ((e'.le.trans (h'.le (k / 128) (by omega))).trans (by rw [ek, heq]))
        (hT _ (Nat.mod_lt _ (by decide)))
    have h1 := hJ (k % 128) (Nat.mod_lt _ (by decide)) hm
    have h2 : runAt (laneOf f (k % 128)) C ≤ k / 128 := by
      by_contra hc
      have := h'.first (k / 128) (by omega)
      rw [ek, ← e', hm, heq] at this
      exact lt_irrefl _ this
    omega

/-- The pair of the two that the reference's comparison keeps: the lesser value, of equal values the
lesser index. -/
noncomputable def lesser (a b : EReal × BitVec 32) : EReal × BitVec 32 :=
  (if a.1 < b.1 then a.1 else b.1, if a.1 < b.1 ∨ (a.1 = b.1 ∧ a.2.slt b.2) then a.2 else b.2)

/-- Value before index. -/
def before (a b : EReal × BitVec 32) : Prop := a.1 < b.1 ∨ (a.1 = b.1 ∧ a.2.toInt ≤ b.2.toInt)

theorem before_refl (a : EReal × BitVec 32) : before a a := .inr ⟨rfl, le_rfl⟩

theorem before_trans {a b c : EReal × BitVec 32} (h : before a b) (h' : before b c) : before a c := by
  rcases h with h | ⟨h, k⟩ <;> rcases h' with h' | ⟨h', k'⟩
  · exact .inl (h.trans h')
  · exact .inl (h' ▸ h)
  · exact .inl (h ▸ h')
  · exact .inr ⟨h.trans h', k.trans k'⟩

/-- The pair kept is one of the two and comes before both. -/
theorem lesser_spec (a b : EReal × BitVec 32) :
    (lesser a b = a ∨ lesser a b = b) ∧ before (lesser a b) a ∧ before (lesser a b) b := by
  rcases lt_trichotomy a.1 b.1 with h | h | h
  · have e : lesser a b = a := by simp [lesser, h]
    rw [e]; exact ⟨.inl rfl, before_refl a, .inl h⟩
  · by_cases k : a.2.slt b.2
    · have e : lesser a b = a := by
        refine Prod.ext ?_ ?_
        · show (if a.1 < b.1 then a.1 else b.1) = a.1
          rw [if_neg (by rw [h]; exact lt_irrefl _), h]
        · exact if_pos (.inr ⟨h, k⟩)
      rw [e]
      exact ⟨.inl rfl, before_refl a, .inr ⟨h, (BitVec.slt_iff_toInt_lt.1 k).le⟩⟩
    · have hn : ¬ a.1 < b.1 := by rw [h]; exact lt_irrefl _
      have e : lesser a b = b :=
        Prod.ext (if_neg hn) (if_neg (by rintro (h' | ⟨_, h'⟩); exacts [hn h', k h']))
      rw [e]
      exact ⟨.inr rfl, .inr ⟨h.symm, not_lt.1 (fun hc => k (BitVec.slt_iff_toInt_lt.2 hc))⟩, before_refl b⟩
  · have hn : ¬ a.1 < b.1 := not_lt.2 h.le
    have e : lesser a b = b :=
      Prod.ext (if_neg hn) (if_neg (by rintro (h' | ⟨h', _⟩); exacts [hn h', h.ne' h']))
    rw [e]; exact ⟨.inr rfl, .inl h, before_refl b⟩

/-- What a fold of it keeps is one of the pairs and comes before all of them. -/
theorem foldl_lesser (L : List (EReal × BitVec 32)) (a : EReal × BitVec 32) :
    (L.foldl lesser a = a ∨ L.foldl lesser a ∈ L) ∧ before (L.foldl lesser a) a ∧
      ∀ p ∈ L, before (L.foldl lesser a) p := by
  induction L generalizing a with
  | nil => exact ⟨.inl rfl, before_refl a, fun p hp => nomatch hp⟩
  | cons b L ih =>
    obtain ⟨h1, h2, h3⟩ := ih (lesser a b)
    obtain ⟨k1, k2, k3⟩ := lesser_spec a b
    refine ⟨?_, before_trans h2 k2, fun p hp => ?_⟩
    · rcases h1 with h1 | h1
      · rcases k1 with k1 | k1
        · exact .inl (h1.trans k1)
        · exact .inr (List.mem_cons.2 (.inl (h1.trans k1)))
      · exact .inr (List.mem_cons.2 (.inr h1))
    · rcases List.mem_cons.1 hp with rfl | hp
      · exact before_trans h2 k3
      · exact h3 p hp

theorem toInt_ofNat_small {k : ℕ} (h : k < 4096) : (BitVec.ofNat 32 k).toInt = k := by
  have e : (BitVec.ofNat 32 k).toNat = k := by rw [BitVec.toNat_ofNat]; omega
  rw [BitVec.toInt_eq_toNat_of_lt (by omega), e]

/-- Over the pairs of a value and its place, from the greatest value at place 0, the fold finds the
first least place. -/
theorem foldl_isFirst (f : ℕ → EReal) (L : List (EReal × BitVec 32))
    (hL : ∀ p ∈ L, ∃ k < 4096, p = (f k, BitVec.ofNat 32 k)) (hall : ∀ k < 4096, (f k, BitVec.ofNat 32 k) ∈ L) :
    ∃ j, IsFirst 4096 f j ∧ (L.foldl lesser (⊤, 0#32)).2 = BitVec.ofNat 32 j := by
  obtain ⟨h1, h2, h3⟩ := foldl_lesser L (⊤, 0#32)
  generalize L.foldl lesser (⊤, 0#32) = r at h1 h2 h3
  have hr : ∃ j < 4096, r = (f j, BitVec.ofNat 32 j) := by
    rcases h1 with rfl | h1
    · refine ⟨0, by decide, ?_⟩
      rcases h3 _ (hall 0 (by decide)) with h | ⟨h, _⟩
      · exact absurd h not_top_lt
      · exact Prod.ext h rfl
    · exact hL r h1
  obtain ⟨j, hj, rfl⟩ := hr
  refine ⟨j, ⟨hj, fun k hk => ?_, fun k hk => ?_⟩, rfl⟩
  · rcases h3 _ (hall k hk) with h | ⟨h, _⟩
    · exact h.le
    · exact h.le
  · rcases h3 _ (hall k (hk.trans hj)) with h | ⟨_, h⟩
    · exact h
    · rw [toInt_ofNat_small hj, toInt_ofNat_small (hk.trans hj)] at h
      omega

/-- The squared distance of a token `x` and a codeword `c`, as both programs form it. -/
noncomputable def dist (x c : Fin 4 → EReal) : EReal :=
  ((∑ k, x k * x k) - ∑ k, (2 * x k) * c k) + ∑ k, c k * c k

/-- For real numbers it is the sum of the squared differences. -/
theorem dist_eq_sq (x c : Fin 4 → EReal) (hx : ∀ k, ∃ r : ℝ, x k = r) (hc : ∀ k, ∃ r : ℝ, c k = r) :
    dist x c = ∑ k, (c k - x k) * (c k - x k) := by
  choose u hu using hx
  choose v hv using hc
  have h2 : (2 : EReal) = ((2 : ℝ) : EReal) := rfl
  simp only [dist, Fin.sum_univ_four, hu, hv, h2]
  norm_cast
  ring

end Cert.Proof.Amin
-- ==== Proof.BodyIdeal.lean ====
/-
  What one grid point of the TensorCore call computes, over extended reals: for each of its 1024 tokens the first column at the least
  distance, and the sum of the least distances.
-/
module

public import proofs.«01_k».proof.Proof.Body
public import proofs.«01_k».proof.Proof.Amin
public import Idealize.ShloMosaic.Lib.Pointwise
public import Idealize.ShloMosaic.Lib.IdealHost

@[expose] public section

set_option maxRecDepth 16384

noncomputable section

namespace Cert.Proof.BodyIdeal

open Cert.KernelIdeal Cert.KernelIdeal.Gen Cert.Proof.Body Cert.Proof.Amin
open Idealize.ShloMosaic

/-- The distance of row `r` of the tokens to column `j` of the codewords, from the codewords' squared norms. -/
def D (x : Vec Ideal S1024x4 .f32) (t : Vec Ideal S4x4096 .f32) (w : Vec Ideal S1x4096 .f32) (r : Fin 1024) (j : ℕ) : EReal :=
  ((∑ k : Fin 4, x (ix2 r k) * x (ix2 r k)) - ∑ k : Fin 4, (2 * x (ix2 r k)) * t (ix2 k (Fin.ofNat 4096 j))) + w (ix2 0 (Fin.ofNat 4096 j))

theorem ofBits_two : Ideal.ofBits .f32 0x40000000#32 = 2 := by
  simp [Ideal.ofBits, Ideal.ieee, -EReal.coe_mul]; norm_num; rfl

/-- Row `r` of sub-block `s`. -/
def row (s : ℕ) (r : Fin 256) : Fin 1024 := ⟨256 * (s % 4) + r.val, by have := r.isLt; omega⟩

section
variable (x : Vec Ideal S1024x4 .f32) (t : Vec Ideal S4x4096 .f32) (w : Vec Ideal S1x4096 .f32) (s : ℕ) (r : Fin 256)

theorem col_eq (c : ℕ) (hc : c < 32) (l : Fin 128) (h : 128 * (c % 32) + l.val < 4096) :
    (⟨128 * (c % 32) + l.val, h⟩ : Fin 4096) = Fin.ofNat 4096 (c * 128 + l.val) := by
  refine Fin.ext ?_
  show 128 * (c % 32) + l.val = (c * 128 + l.val) % 4096
  have := l.isLt; omega

theorem xS_apply : xS (k0_pay4 x) s (ix2 r 0) = ∑ k : Fin 4, x (ix2 (row s r) k) * x (ix2 (row s r) k) := by
  pointwise [xS, k0_pay4, k0_pay3]
  rw [Fin.sum_univ_four, add_assoc, add_assoc, add_assoc]
  rfl

theorem sC_apply (c : ℕ) (hc : c < 32) (l : Fin 128) : sC (k0_pay5 x t) s c (ix2 r l)
    = ∑ k : Fin 4, (2 * x (ix2 (row s r) k)) * t (ix2 k (Fin.ofNat 4096 (c * 128 + l.val))) := by
  pointwise [sC, k0_pay5, k0_pay3]
  rw [ofBits_two, col_eq c hc l]
  rfl

theorem bW_apply (c : ℕ) (hc : c < 32) (l : Fin 128) : bW (k0_pay6 w) c (ix2 r l) = w (ix2 0 (Fin.ofNat 4096 (c * 128 + l.val))) := by
  pointwise [bW, wC, k0_pay6]
  rw [col_eq c hc l]

theorem bX_apply (xs : FVec Ideal S256x1 .f32) (l : Fin 128) : bX xs (ix2 r l) = xs (ix2 r 0) := by
  pointwise [bX]

/-- The distances of chunk `c`. -/
theorem dC_apply (c : ℕ) (hc : c < 32) (l : Fin 128) :
    dC (k0_pay5 x t) (k0_pay6 w) (xS (k0_pay4 x) s) s c (ix2 r l) = laneOf (D x t w (row s r)) l.val c := by
  show bX (xS (k0_pay4 x) s) (ix2 r l) - sC (k0_pay5 x t) s c (ix2 r l) + bW (k0_pay6 w) c (ix2 r l) = _
  rw [bX_apply, xS_apply, sC_apply x t s r c hc l, bW_apply w r c hc l]
  rfl

theorem select_olt {α : Type} (a b : EReal) (p q : α) :
    Scalar.select (FloatOps.cmpf (F := Ideal) (φ := .f32) .olt a b) p q = if a < b then p else q := by
  show Scalar.select (BitVec.ofBool (decide (a < b))) p q = _
  by_cases h : a < b
  · rw [if_pos h, decide_eq_true h]; rfl
  · rw [if_neg h, decide_eq_false h]; rfl

/-- The running minimum. -/
theorem mC_apply (l : Fin 128) (c : ℕ) (hc : c < 32) :
    mC (k0_pay5 x t) (k0_pay6 w) (xS (k0_pay4 x) s) s c (ix2 r l) = runMin (laneOf (D x t w (row s r)) l.val) c := by
  induction c with
  | zero => exact dC_apply x t w s r 0 hc l
  | succ c ih =>
    refine (select_olt _ _ _ _).trans ?_
    rw [dC_apply x t w s r (c + 1) hc l, ih (by omega)]
    rfl

/-- The chunk numbers' words are the chunk numbers. -/
theorem cst_eq (c : ℕ) (hc : c < 32) : (cst c : Ideal .f32) = ((c : ℝ) : EReal) := by
  show Ideal.ofBits .f32 (cBits.getD c 0#32) = _
  interval_cases c <;> simp [cBits, Ideal.ofBits, Ideal.ieee, -EReal.coe_mul] <;> norm_num

theorem runAt_succ (f : ℕ → EReal) (c : ℕ) : runAt f (c + 1) = if f (c + 1) < runMin f c then c + 1 else runAt f c := rfl

/-- The chunk at which the running minimum last fell. -/
theorem cC_apply (l : Fin 128) (c : ℕ) (hc : c < 32) :
    cC (k0_pay5 x t) (k0_pay6 w) (xS (k0_pay4 x) s) s c (ix2 r l)
      = ((runAt (laneOf (D x t w (row s r)) l.val) c : ℝ) : EReal) := by
  induction c with
  | zero => exact (cst_eq 0 hc).trans (by rfl)
  | succ c ih =>
    refine (select_olt _ _ _ _).trans ?_
    rw [dC_apply x t w s r (c + 1) hc l, Nat.add_sub_cancel, mC_apply x t w s r l c (by omega), ih (by omega)]
    show (if _ then (cst (c + 1) : Ideal .f32) else _) = _
    rw [cst_eq (c + 1) hc]
    rw [runAt_succ]
    split <;> rfl

/-- A fold of minima from the top is at most each value and is one of them. -/
theorem fold_min_spec {n : ℕ} (i₀ : Fin n) (f : Fin n → EReal) :
    (∀ i, Finset.univ.fold min ⊤ f ≤ f i) ∧ ∃ i, Finset.univ.fold min ⊤ f = f i := by
  have hle : ∀ i, Finset.univ.fold min ⊤ f ≤ f i := fun i => ((Finset.le_fold_min _).1 le_rfl).2 i (Finset.mem_univ i)
  refine ⟨hle, ?_⟩
  rcases (Finset.fold_min_le _).1 (le_refl (Finset.univ.fold min ⊤ f)) with h | ⟨i, -, h⟩
  · exact ⟨i₀, le_antisymm (hle i₀) (le_top.trans h)⟩
  · exact ⟨i, le_antisymm (hle i) h⟩

theorem ofBits_inf : Ideal.ofBits .f32 0x7F800000#32 = ⊤ := by
  simp [Ideal.ofBits, Ideal.ieee]

theorem ofBits_128 : Ideal.ofBits .f32 0x43000000#32 = ((128 : ℝ) : EReal) := by
  simp [Ideal.ofBits, Ideal.ieee, -EReal.coe_mul]; norm_num

theorem ofBits_4096 : Ideal.ofBits .f32 0x45800000#32 = ((4096 : ℝ) : EReal) := by
  simp [Ideal.ofBits, Ideal.ieee, -EReal.coe_mul]; norm_num

theorem tokRed_apply : tokRed (k0_pay5 x t) (k0_pay6 w) (xS (k0_pay4 x) s) s (ix1 r)
    = Finset.univ.fold min ⊤ fun l : Fin 128 => runMin (laneOf (D x t w (row s r)) l.val) 31 := by
  pointwise [tokRed]
  rw [ofBits_inf]
  exact congrArg (fun f => Finset.univ.fold min ⊤ f) (funext fun l => mC_apply x t w s r l 31 (by decide))

theorem select_oeq {α : Type} (a b : EReal) (p q : α) :
    Scalar.select (FloatOps.cmpf (F := Ideal) (φ := .f32) .oeq a b) p q = if a = b then p else q := by
  show Scalar.select (BitVec.ofBool (decide (a = b))) p q = _
  by_cases h : a = b
  · rw [if_pos h, decide_eq_true h]; rfl
  · rw [if_neg h, decide_eq_false h]; rfl

theorem lane_apply (l : Fin 128) : (lane : FVec Ideal S256x128 .f32) (ix2 r l) = ((l.val : ℝ) : EReal) := by
  pointwise [lane, k0_pay8]
  show (((BitVec.ofNat 32 l.val).toInt : ℝ) : EReal) = _
  rw [toInt_ofNat_small (by have := l.isLt; omega)]
  norm_cast

theorem candRed_apply : candRed (k0_pay5 x t) (k0_pay6 w) (xS (k0_pay4 x) s) s (ix1 r)
    = Finset.univ.fold min ⊤ fun l : Fin 128 =>
        if runMin (laneOf (D x t w (row s r)) l.val) 31 = tokRed (k0_pay5 x t) (k0_pay6 w) (xS (k0_pay4 x) s) s (ix1 r)
        then (((runAt (laneOf (D x t w (row s r)) l.val) 31 * 128 + l.val : ℕ) : ℝ) : EReal) else ((4096 : ℝ) : EReal) := by
  pointwise [candRed, tok]
  rw [ofBits_inf, ofBits_4096]
  refine congrArg (fun f => Finset.univ.fold min ⊤ f) (funext fun l => ?_)
  rw [mC_apply x t w s r l 31 (by decide)]
  refine if_congr Iff.rfl ?_ rfl
  show cC (k0_pay5 x t) (k0_pay6 w) (xS (k0_pay4 x) s) s 31 (ix2 r l) * Ideal.ofBits .f32 0x43000000#32 + lane (ix2 r l) = _
  rw [cC_apply x t w s r l 31 (by decide), ofBits_128, lane_apply]
  generalize runAt (laneOf (D x t w (row s r)) l.val) 31 = n
  norm_cast

/-- Each token's first least column, and its least distance. -/
theorem token_spec : tokRed (k0_pay5 x t) (k0_pay6 w) (xS (k0_pay4 x) s) s (ix1 r) = D x t w (row s r) (am (D x t w (row s r))) ∧
    candRed (k0_pay5 x t) (k0_pay6 w) (xS (k0_pay4 x) s) s (ix1 r) = ((am (D x t w (row s r)) : ℝ) : EReal) := by
  have hc := candRed_apply x t w s r
  have ht := tokRed_apply x t w s r
  generalize tokRed (k0_pay5 x t) (k0_pay6 w) (xS (k0_pay4 x) s) s (ix1 r) = T at hc ht
  generalize candRed (k0_pay5 x t) (k0_pay6 w) (xS (k0_pay4 x) s) s (ix1 r) = C at hc
  generalize D x t w (row s r) = f at hc ht
  obtain ⟨t1, l₁, t2⟩ := fold_min_spec (0 : Fin 128) fun l : Fin 128 => runMin (laneOf f l.val) 31
  rw [← ht] at t1 t2
  obtain ⟨c1, l₂, c2⟩ := fold_min_spec (0 : Fin 128) fun l : Fin 128 =>
    if runMin (laneOf f l.val) 31 = T then (((runAt (laneOf f l.val) 31 * 128 + l.val : ℕ) : ℝ) : EReal) else ((4096 : ℝ) : EReal)
  rw [← hc] at c1 c2
  have hlt : ∀ l : Fin 128, runAt (laneOf f l.val) 31 * 128 + l.val < 4096 := fun l => by
    have := (runAt_isFirst (laneOf f l.val) 31).1.lt
    have := l.isLt; omega
  have h2 : runMin (laneOf f l₂.val) 31 = T := by
    by_contra hne
    rw [if_neg hne] at c2
    have := c1 l₁
    rw [if_pos t2.symm, c2, EReal.coe_le_coe_iff] at this
    have h' := hlt l₁
    have : (4096 : ℕ) ≤ runAt (laneOf f l₁.val) 31 * 128 + l₁.val := by exact_mod_cast this
    omega
  rw [if_pos h2] at c2
  obtain ⟨k1, k2⟩ := lanes_isFirst f 31 T (runAt (laneOf f l₂.val) 31 * 128 + l₂.val) (fun l hl => t1 ⟨l, hl⟩)
    (fun l hl e => by
      have := c1 ⟨l, hl⟩
      rw [if_pos e, c2, EReal.coe_le_coe_iff] at this
      exact_mod_cast this) ⟨l₂.val, l₂.isLt, h2, rfl⟩
  have k3 := IsFirst.eq_am k1
  rw [k3] at k2 c2
  exact ⟨k2, c2⟩

theorem fptosi_nat (n : ℕ) (h : n < 4096) : Ideal.fptosi 32 ((n : ℝ) : EReal) = BitVec.ofNat 32 n := by
  unfold Ideal.fptosi
  have : Ideal.toIntClamped (-(2 ^ (32 - 1) : Nat)) ((2 ^ (32 - 1) : Nat) - 1) ((n : ℝ) : EReal) = (n : ℤ) := by
    show max _ (min _ (if 0 ≤ (n : ℝ) then ⌊(n : ℝ)⌋ else ⌈(n : ℝ)⌉)) = _
    rw [if_pos (Nat.cast_nonneg n), Int.floor_natCast]
    omega
  rw [this, BitVec.ofInt_natCast]

theorem idxS_apply : idxS (k0_pay5 x t) (k0_pay6 w) (xS (k0_pay4 x) s) s (ix2 0 r) = BitVec.ofNat 32 (am (D x t w (row s r))) := by
  pointwise [idxS]
  rw [(token_spec x t w s r).2]
  exact fptosi_nat _ (am_lt _)

theorem lsRed_apply : lsRed (k0_pay5 x t) (k0_pay6 w) (xS (k0_pay4 x) s) s (ix1 0)
    = ∑ r : Fin 256, D x t w (row s r) (am (D x t w (row s r))) := by
  pointwise [lsRed, tok]
  refine Finset.sum_congr rfl fun r _ => ?_
  rw [Fin.sum_univ_one]
  exact (token_spec x t w s r).1
end

variable (x : Vec Ideal S1024x4 .f32) (t : Vec Ideal S4x4096 .f32) (w : Vec Ideal S1x4096 .f32)

/-- The body's indices. -/
theorem idxOf_apply (q : Fin 1024) : idxOf x t w (ix3 0 0 q) = BitVec.ofNat 32 (am (D x t w q)) := by
  pointwise [idxOf]
  have hq := q.isLt
  have key : ∀ (s : ℕ) (r : Fin 256), row s r = q →
      idxS (k0_pay5 x t) (k0_pay6 w) (xS (k0_pay4 x) s) s (ix2 0 r) = BitVec.ofNat 32 (am (D x t w q)) := fun s r e => by
    rw [idxS_apply, e]
  by_cases h0 : q.val < 256
  · rw [dif_pos h0]
    exact key 0 _ (Fin.ext (show 256 * (0 % 4) + q.val = q.val by omega))
  rw [dif_neg h0]
  by_cases h1 : q.val - 256 < 256
  · rw [dif_pos h1]
    exact key 1 _ (Fin.ext (show 256 * (1 % 4) + (q.val - 256) = q.val by omega))
  rw [dif_neg h1]
  by_cases h2 : q.val - 256 - 256 < 256
  · rw [dif_pos h2]
    exact key 2 _ (Fin.ext (show 256 * (2 % 4) + (q.val - 256 - 256) = q.val by omega))
  rw [dif_neg h2]
  exact key 3 _ (Fin.ext (show 256 * (3 % 4) + (q.val - 256 - 256 - 256) = q.val by omega))

/-- The body's sum. -/
theorem lossOf_apply : lossOf x t w (ix2 0 0) = ∑ s : Fin 4, ∑ r : Fin 256, D x t w (row s.val r) (am (D x t w (row s.val r))) := by
  pointwise [lossOf, lS, k0_pay7]
  have h : ∀ s : ℕ, lsRed (k0_pay5 x t) (k0_pay6 w) (xS (k0_pay4 x) s) s (ix1 0) = _ := lsRed_apply x t w
  rw [h, h, h, h, Fin.sum_univ_four]
  rfl

end Cert.Proof.BodyIdeal
-- ==== Proof.Spec.lean ====
/-
  What both programs compute, over extended reals: each token's nearest codeword, the straight-through values, and the sum of the least
  squared distances.
-/
module

public import proofs.«01_k».proof.Proof.Amin
public import Idealize.ShloMosaic.Lib.Pointwise

@[expose] public section

noncomputable section

namespace Cert.Proof.Spec

open Cert.Proof.Amin
open Idealize.ShloMosaic

variable (X : (⟨3, ![4, 16384, 4]⟩ : Shape).Idx → EReal) (C : (⟨2, ![4096, 4]⟩ : Shape).Idx → EReal)

/-- Token `n`, in the order of the flattened batch. -/
def tokn (n : ℕ) : Fin 4 → EReal := fun k => X (ix3 (Fin.ofNat 4 (n / 16384)) (Fin.ofNat 16384 n) k)
/-- Codeword `j`. -/
def cwd (j : ℕ) : Fin 4 → EReal := fun k => C (ix2 (Fin.ofNat 4096 j) k)
/-- The squared distance of token `n` to codeword `j`. -/
def dd (n j : ℕ) : EReal := dist (tokn X n) (cwd C j)
/-- Token `n`'s nearest codeword. -/
def best (n : ℕ) : ℕ := am (dd X C n)

theorem best_lt (n : ℕ) : best X C n < 4096 := am_lt _

/-- Result 1: the straight-through values. -/
def quantV : (⟨3, ![4, 16384, 4]⟩ : Shape).Idx → EReal := fun i =>
  X i + (C (ix2 (Fin.ofNat 4096 (best X C ((i 0).val * 16384 + (i 1).val))) (i 2)) - X i)
/-- Result 2: the nearest codewords' numbers. -/
def idxV : (⟨2, ![4, 16384]⟩ : Shape).Idx → BitVec 32 := fun i => BitVec.ofNat 32 (best X C ((i 0).val * 16384 + (i 1).val))
/-- The sum of the least distances. -/
def sumV : EReal := ∑ n ∈ Finset.range 65536, dd X C n (best X C n)
/-- Result 3: its mean over all entries. -/
def lossV : EReal := Ideal.div (sumV X C) (Ideal.ofBits .f32 0x48800000#32)

end Cert.Proof.Spec
-- ==== Proof.Final.lean ====
/-
  What the SparseCore program's results hold after its run, over extended reals.
-/
module

public import proofs.«01_k».proof.Proof.Launch
public import proofs.«01_k».proof.Proof.BodyIdeal
public import proofs.«01_k».proof.Proof.Spec
public import Idealize.ShloMosaic.Lib.Pipeline.ValueKit
public import Idealize.ShloMosaic.Lib.StableHlo.ReadAt

@[expose] public section

set_option maxRecDepth 16384

noncomputable section

namespace Cert.Proof.Final

open Cert.KernelIdeal Cert.KernelIdeal.Gen Cert.Proof.Sc Cert.Proof.Spec Cert.Proof.Amin
open Idealize.ShloMosaic Idealize.ShloMosaic.TcCoe
open Idealize.SL.Sem

variable (m : (ℓ : Loc nD τ sig) → Buf (Elt Ideal) ℓ) (d : Dev nD)

/-- The tokens at launch. -/
def X : (⟨3, ![4, 16384, 4]⟩ : Shape).Idx → EReal := m (d.tc.loc main_arg0)
/-- The codewords at launch. -/
def C : (⟨2, ![4096, 4]⟩ : Shape).Idx → EReal := m (d.tc.loc main_arg1)

/-! ## At the matching kernel's entry -/

theorem V1_v0 (r : Fin 65536) (k : Fin 4) : V1 m d (Proc.devRef .tc main_v0) (ix2 r k) = tokn (X m d) r.val k := by
  unfold V1
  after_reads_at
  refine congrArg (fun a => X m d (ix3 a (Fin.ofNat 16384 r.val) k)) (Fin.ext ?_)
  have := r.isLt
  show r.val / 16384 = r.val / 16384 % 4
  omega

theorem V1_v4 (k : Fin 4) (j : Fin 4096) : V1 m d (Proc.devRef .tc main_v4) (ix2 k j) = C m d (ix2 j k) := by
  unfold V1
  after_reads_at
  rfl

theorem V1_v3 (j : Fin 4096) : V1 m d (Proc.devRef .tc main_v3) (ix2 0 j) = ∑ k : Fin 4, C m d (ix2 j k) * C m d (ix2 j k) := by
  unfold V1
  after_reads_at
  rfl

theorem index_0 : ∀ t : Fin grid0.N, win0_0.index t = ![t.val, 0] := by decide +kernel
theorem index_1 : ∀ t : Fin grid0.N, win0_1.index t = ![0, 0] := by decide +kernel
theorem index_2 : ∀ t : Fin grid0.N, win0_2.index t = ![0, 0] := by decide +kernel
theorem index_3 : ∀ t : Fin grid0.N, win0_3.index t = ![t.val, 0, 0] := by decide +kernel
theorem index_4 : ∀ t : Fin grid0.N, win0_4.index t = ![0, 0] := by decide +kernel

theorem iblk_0 (t : Fin cfg0.N) (r : Fin 1024) (k : Fin 4) (h : 1024 * t.val + r.val < 65536) :
    iblk (V1 m) d 0 t (ix2 r k) = V1 m d (Proc.devRef .tc main_v0) (ix2 ⟨1024 * t.val + r.val, h⟩ k) := by
  unfold iblk
  blk_ext [index_0 t]

theorem iblk_1 (t : Fin cfg0.N) (k : Fin 4) (j : Fin 4096) :
    iblk (V1 m) d 1 t (ix2 k j) = V1 m d (Proc.devRef .tc main_v4) (ix2 k j) := by
  unfold iblk
  blk_ext [index_1 t]

theorem iblk_2 (t : Fin cfg0.N) (j : Fin 4096) :
    iblk (V1 m) d 2 t (ix2 0 j) = V1 m d (Proc.devRef .tc main_v3) (ix2 0 j) := by
  unfold iblk
  blk_ext [index_2 t]

theorem N64 : cfg0.N = 64 := N_0

/-- A grid point's distances are the tokens' distances. -/
theorem D_eq (t : Fin cfg0.N) (r : Fin 1024) (j : ℕ) :
    BodyIdeal.D (iblk (V1 m) d 0 t) (iblk (V1 m) d 1 t) (iblk (V1 m) d 2 t) r j = dd (X m d) (C m d) (1024 * t.val + r.val) j := by
  have ht : t.val < 64 := lt_of_lt_of_eq t.isLt N64
  have h : 1024 * t.val + r.val < 65536 := by have := r.isLt; omega
  unfold BodyIdeal.D dd Amin.dist
  have e0 : ∀ k : Fin 4, iblk (V1 m) d 0 t (ix2 r k) = tokn (X m d) (1024 * t.val + r.val) k := fun k =>
    (iblk_0 m d t r k h).trans (V1_v0 m d _ k)
  have e1 : ∀ k : Fin 4, iblk (V1 m) d 1 t (ix2 k (Fin.ofNat 4096 j)) = cwd (C m d) j k := fun k =>
    (iblk_1 m d t k _).trans (V1_v4 m d k _)
  have e2 : iblk (V1 m) d 2 t (ix2 0 (Fin.ofNat 4096 j)) = ∑ k : Fin 4, cwd (C m d) j k * cwd (C m d) j k :=
    (iblk_2 m d t _).trans (V1_v3 m d _)
  refine congrArg₂ (· + ·) (congrArg₂ (· - ·) ?_ ?_) e2
  · exact Finset.sum_congr rfl fun k _ => by rw [e0]
  · exact Finset.sum_congr rfl fun k _ => by rw [e0, e1]

theorem am_D (t : Fin cfg0.N) (r : Fin 1024) :
    am (BodyIdeal.D (iblk (V1 m) d 0 t) (iblk (V1 m) d 1 t) (iblk (V1 m) d 2 t) r) = best (X m d) (C m d) (1024 * t.val + r.val) :=
  congrArg am (funext fun j => D_eq m d t r j)

theorem idxAt_apply (t : Fin cfg0.N) (q : Fin 1024) :
    Sc.idxAt (V1 m) d t (ix3 0 0 q) = BitVec.ofNat 32 (best (X m d) (C m d) (1024 * t.val + q.val)) := by
  unfold Sc.idxAt
  exact (BodyIdeal.idxOf_apply _ _ _ q).trans (congrArg _ (am_D m d t q))

/-- The least distance of token `n`. -/
def least (n : ℕ) : EReal := dd (X m d) (C m d) n (best (X m d) (C m d) n)

theorem D_am (t : Fin cfg0.N) (r : Fin 1024) :
    BodyIdeal.D (iblk (V1 m) d 0 t) (iblk (V1 m) d 1 t) (iblk (V1 m) d 2 t) r
      (am (BodyIdeal.D (iblk (V1 m) d 0 t) (iblk (V1 m) d 1 t) (iblk (V1 m) d 2 t) r)) = least m d (1024 * t.val + r.val) := by
  rw [am_D, D_eq]
  rfl

theorem lossAt_apply (t : Fin cfg0.N) :
    lossAt (V1 m) d t (ix2 0 0) = ∑ q ∈ Finset.range 1024, least m d (1024 * t.val + q) := by
  unfold lossAt
  refine (BodyIdeal.lossOf_apply _ _ _).trans ?_
  have e : ∀ (s : Fin 4) (r : Fin 256), 1024 * t.val + (BodyIdeal.row s.val r).val = 1024 * t.val + (s.val * 256 + r.val) := fun s r => by
    have := s.isLt
    show 1024 * t.val + (256 * (s.val % 4) + r.val) = _
    omega
  simp only [D_am, e]
  rw [show (1024 : ℕ) = 4 * 256 from rfl, Finset.sum_range_mul_split, Finset.sum_range]
  exact Finset.sum_congr rfl fun s _ => (Finset.sum_range fun b => least m d (4 * 256 * t.val + (s.val * 256 + b))).symm

theorem sumAt_apply (n : ℕ) (hn : n < cfg0.N) :
    sumAt (V1 m) d n hn (ix2 0 0) = ∑ t ∈ Finset.range (n + 1), ∑ q ∈ Finset.range 1024, least m d (1024 * t + q) := by
  induction n with
  | zero =>
    unfold sumAt
    pointwise [k0_pay2, k0_pay1]
    refine (lossAt_apply m d ⟨0, hn⟩).trans ?_
    rw [Finset.sum_range_one]
  | succ n ih =>
    unfold sumAt
    pointwise [k0_pay2]
    rw [ih, lossAt_apply m d ⟨n + 1, hn⟩, Finset.sum_range_succ _ (n + 1)]

/-- The matching kernel's index array. -/
def G3 : (⟨3, ![64, 1, 1024]⟩ : Shape).Idx → BitVec 32 := fun i => BitVec.ofNat 32 (best (X m d) (C m d) (1024 * (i 0).val + (i 2).val))

theorem arr3 : (dats (V1 m) 0 d).arrAt 3 cfg0.N = G3 m d := by
  refine (dats (V1 m) 0 d).arrAt_eq_of_covers 3 _ (by decide +kernel) fun t hf y => ?_
  blk_simp
  rw [after0_3]
  have ey : y = ix3 0 0 (y 2) := by
    refine (eq_ix3 y).trans ?_
    have e0 : y 0 = (0 : Fin 1) := Fin.ext (Nat.lt_one_iff.1 (y 0).isLt)
    have e1 : y 1 = (0 : Fin 1) := Fin.ext (Nat.lt_one_iff.1 (y 1).isLt)
    rw [e0, e1]
    rfl
  refine (congrArg (Sc.idxAt (V1 m) d t) ey).trans ((idxAt_apply m d t (y 2)).trans ?_)
  unfold G3
  blk_simp [index_3 t]

theorem arr4 : (dats (V1 m) 0 d).arrAt 4 cfg0.N = fun _ => sumV (X m d) (C m d) := by
  refine (dats (V1 m) 0 d).arrAt_eq_of_covers 4 _ (by decide +kernel) fun t hf y => ?_
  blk_simp
  rw [after0_4]
  have e : t.val = 63 := by have := (flush0_4 t).mp hf; have := lt_of_lt_of_eq t.isLt N64; omega
  have ey : y = ix2 0 0 := by
    refine (eq_ix2 y).trans (congrArg₂ ix2 (Fin.ext ?_) (Fin.ext ?_))
    · exact Nat.lt_one_iff.1 (y 0).isLt
    · exact Nat.lt_one_iff.1 (y 1).isLt
  rw [ey]
  refine (sumAt_apply m d t.val t.isLt).trans ?_
  rw [e]
  unfold sumV
  rw [show (65536 : ℕ) = 64 * 1024 from rfl, Finset.sum_range_mul_split]
  refine Finset.sum_congr rfl fun t _ => Finset.sum_congr rfl fun q _ => ?_
  rw [Nat.mul_comm]
  rfl

theorem V2_v5_0 : V2 m d (Proc.devRef .tc main_v5_0) = G3 m d :=
  (Pipeline.afterRegion_arr (dats (V1 m) 0 d) (V1 m d) (by decide) 3).trans (arr3 m d)

theorem V2_v5_1 : V2 m d (Proc.devRef .tc main_v5_1) = fun _ => sumV (X m d) (C m d) :=
  (Pipeline.afterRegion_arr (dats (V1 m) 0 d) (V1 m d) (by decide) 4).trans (arr4 m d)

theorem V2_arg0 : V2 m d (Proc.devRef .tc main_arg0) = m (d.tc.loc main_arg0) := by
  refine (Pipeline.afterRegion_of_not_arr (dats (V1 m) 0 d) (V1 m d) (by decide)).trans ?_
  unfold V1
  after_reads_simp
  rfl

theorem V2_arg1 : V2 m d (Proc.devRef .tc main_arg1) = m (d.tc.loc main_arg1) := by
  refine (Pipeline.afterRegion_of_not_arr (dats (V1 m) 0 d) (V1 m d) (by decide)).trans ?_
  unfold V1
  after_reads_simp
  rfl

/-! ## At the SparseCore call -/

theorem V3_arg0 : V3 m d (Proc.devRef .tc main_arg0) = m (d.tc.loc main_arg0) := by
  unfold V3
  after_reads_simp
  exact V2_arg0 m d

theorem V3_arg1 : V3 m d (Proc.devRef .tc main_arg1) = m (d.tc.loc main_arg1) := by
  unfold V3
  after_reads_simp
  exact V2_arg1 m d

theorem V3_v5_0 : V3 m d (Proc.devRef .tc main_v5_0) = G3 m d := by
  unfold V3
  after_reads_simp
  exact V2_v5_0 m d

theorem V3_v5_1 : V3 m d (Proc.devRef .tc main_v5_1) = fun _ => sumV (X m d) (C m d) := by
  unfold V3
  after_reads_simp
  exact V2_v5_1 m d

theorem ixM_apply (j : Fin 65536) : ixM m d (ix1 j) = BitVec.ofNat 32 (best (X m d) (C m d) j.val) := by
  unfold ixM V3
  after_reads_at
  rw [V2_v5_0]
  show BitVec.ofNat 32 (best (X m d) (C m d) (1024 * (j.val / 1024) + j.val % 1024)) = _
  rw [Nat.div_add_mod]

theorem tbM_apply (j : Fin 16384) : tbM m d (ix1 j) = C m d (ix2 (Fin.ofNat 4096 (j.val / 4)) (Fin.ofNat 4 j.val)) := by
  unfold tbM V3
  after_reads_at
  rw [V2_arg1]
  refine congrArg (fun a => C m d (ix2 a (Fin.ofNat 4 j.val))) (Fin.ext ?_)
  have := j.isLt
  show j.val / 4 = j.val / 4 % 4096
  omega

theorem toNat_best (n : ℕ) : (BitVec.ofNat 32 (best (X m d) (C m d) n)).toNat = best (X m d) (C m d) n := by
  have := best_lt (X m d) (C m d) n
  rw [BitVec.toNat_ofNat]; omega

/-- The indices the SparseCore call is passed are table rows. -/
theorem hix (j : S65536.Idx) : (ixM m d j).toNat < 4096 := by
  have e : j = ix1 (j 0) := eq_ix1 j
  rw [e]
  refine lt_of_eq_of_lt ((congrArg BitVec.toNat (ixM_apply m d (j 0))).trans (toNat_best m d _)) (best_lt _ _ _)

/-! ## At the return -/

theorem V4_of_ne (b : Ref sig .tc) (h : b ≠ main_v8) : V4 m d (Proc.devRef .tc b) = V3 m d (Proc.devRef .tc b) :=
  Function.update_of_ne (fun e => h (Proc.devRef_injective _ e)) _ _

theorem V4_v8 (n : Fin 262144) : V4 m d (Proc.devRef .tc main_v8) (ix1 n)
    = C m d (ix2 (Fin.ofNat 4096 (best (X m d) (C m d) (n.val / 65536 * 16384 + n.val % 16384))) (Fin.ofNat 4 (n.val / 16384))) := by
  have hn := n.isLt
  have e : V4 m d (Proc.devRef .tc main_v8) = oG (tbM m) (ixM m) d := Function.update_self _ _ _
  refine (congrFun e (ix1 n)).trans ?_
  have hi : ixM m d (ix1 (Fin.ofNat 65536 (n.val / 65536 * 16384 + n.val % 16384)))
      = BitVec.ofNat 32 (best (X m d) (C m d) (n.val / 65536 * 16384 + n.val % 16384)) := by
    rw [ixM_apply]
    refine congrArg (fun k => BitVec.ofNat 32 (best (X m d) (C m d) k)) ?_
    show (n.val / 65536 * 16384 + n.val % 16384) % 65536 = _
    omega
  show tbM m d (ix1 (Fin.ofNat 16384 ((ixM m d (ix1 (Fin.ofNat 65536 (n.val / 65536 * 16384 + n.val % 16384)))).toNat * 4 + n.val / 16384 % 4))) = _
  rw [hi, toNat_best, tbM_apply]
  have hb := best_lt (X m d) (C m d) (n.val / 65536 * 16384 + n.val % 16384)
  generalize best (X m d) (C m d) (n.val / 65536 * 16384 + n.val % 16384) = b at hb ⊢
  refine congrArg₂ (fun a k => C m d (ix2 a k)) (Fin.ext ?_) (Fin.ext ?_)
  · show (b * 4 + n.val / 16384 % 4) % 16384 / 4 % 4096 = b % 4096
    omega
  · show (b * 4 + n.val / 16384 % 4) % 16384 % 4 = n.val / 16384 % 4
    omega

theorem V5_v16 : V5 m d (Proc.devRef .tc main_v16) = idxV (X m d) (C m d) := by
  funext i
  idx_vars i
  unfold V5
  after_reads_at
  rw [V4_of_ne m d main_v5_0 (by decide), V3_v5_0]
  refine congrArg (fun k => BitVec.ofNat 32 (best (X m d) (C m d) k)) ?_
  show 1024 * (i0.val * 16 + i1.val / 1024) + i1.val % 1024 = i0.val * 16384 + i1.val
  omega

theorem V5_v15 : V5 m d (Proc.devRef .tc main_v15) = fun _ => lossV (X m d) (C m d) := by
  funext i
  unfold V5
  after_reads_at
  rw [V4_of_ne m d main_v5_1 (by decide), V3_v5_1]
  rfl

theorem V5_v13 : V5 m d (Proc.devRef .tc main_v13) = quantV (X m d) (C m d) := by
  funext i
  idx_vars i
  unfold V5
  after_reads_at
  rw [V4_v8, V4_of_ne m d main_arg0 (by decide), V3_arg0]
  have h1 := i1.isLt
  have h2 := i2.isLt
  refine congrArg₂ (fun n k => X m d (ix3 i0 i1 i2) + (C m d (ix2 (Fin.ofNat 4096 (best (X m d) (C m d) n)) k) - X m d (ix3 i0 i1 i2))) ?_ (Fin.ext ?_)
  · show (i0.val * 65536 + i2.val * 16384 + i1.val) / 65536 * 16384 + (i0.val * 65536 + i2.val * 16384 + i1.val) % 16384 = i0.val * 16384 + i1.val
    omega
  · show (i0.val * 65536 + i2.val * 16384 + i1.val) / 16384 % 4 = i2.val
    omega

theorem V5_arg0 : V5 m d (Proc.devRef .tc main_arg0) = m (d.tc.loc main_arg0) := by
  unfold V5
  after_reads_simp
  rw [V4_of_ne m d main_arg0 (by decide), V3_arg0]

theorem V5_arg1 : V5 m d (Proc.devRef .tc main_arg1) = m (d.tc.loc main_arg1) := by
  unfold V5
  after_reads_simp
  rw [V4_of_ne m d main_arg1 (by decide), V3_arg1]

/-- THE PROGRAM'S RUN: its three results, its arguments unchanged, its semaphores at rest. -/
theorem run_kernel (ρ : Dev nD → PrngReg) : θ_run Cert.KernelIdeal.defs Cert.KernelIdeal.threads ⟨m, fun _ => 0, ρ⟩ fun r =>
    (∀ c : Dev nD, r.2.mem (c.tc.loc main_v13) = quantV (X m c) (C m c) ∧ r.2.mem (c.tc.loc main_v16) = idxV (X m c) (C m c)
      ∧ (r.2.mem (c.tc.loc main_v15) = fun _ => lossV (X m c) (C m c))
      ∧ r.2.mem (c.tc.loc main_arg0) = m (c.tc.loc main_arg0) ∧ r.2.mem (c.tc.loc main_arg1) = m (c.tc.loc main_arg1))
    ∧ r.2.sem = fun _ => 0 := by
  haveI : ∀ e, Nonempty (Elt Ideal e) := fun e => inferInstance
  refine θ_run_mono (run_main m ρ (fun d j => hix m d j)) fun r h => ⟨fun c => ?_, h.2⟩
  have hb : ∀ b : Ref sig .tc, Proc.devRef .tc b ∈ Pipeline.ucRefs τ sig → r.2.mem (c.tc.loc b) = V5 m c (Proc.devRef .tc b) :=
    fun b hb => h.1 c _ hb
  exact ⟨(hb main_v13 (by decide)).trans (V5_v13 m c), (hb main_v16 (by decide)).trans (V5_v16 m c), (hb main_v15 (by decide)).trans (V5_v15 m c),
    (hb main_arg0 (by decide)).trans (V5_arg0 m c), (hb main_arg1 (by decide)).trans (V5_arg1 m c)⟩

end Cert.Proof.Final
-- ==== Proof.Ref.lean ====
/-
  What the reference's results hold after its run, over extended reals.
-/
module

public import proofs.«01_k».proof.Proof.Gen.ReferenceIdeal
public import proofs.«01_k».proof.Proof.Spec
public import Idealize.ShloMosaic.Lib.Claim
public import Idealize.ShloMosaic.Lib.Pointwise
public import Idealize.ShloMosaic.Lib.ReduceAll
public import Idealize.ShloMosaic.Lib.StableHlo.ReadAt

@[expose] public section

set_option maxRecDepth 16384

noncomputable section

namespace Cert.Proof.Ref

open Cert.ReferenceIdeal Cert.ReferenceIdeal.Gen Cert.Proof.Spec Cert.Proof.Amin
open Idealize.ShloMosaic Idealize.ShloMosaic.TcCoe
open Idealize.SL.Sem

/-- The distances the reference compares: `‖x‖² - (2x)·c + ‖c‖²` of every token and codeword. -/
def distT (X : FVec Ideal S4x16384x4 .f32) (C : FVec Ideal S4096x4 .f32) : FVec Ideal S65536x4096 .f32 :=
  let x : FVec Ideal S65536x4 .f32 := shapeCast S65536x4 X shapeCasts_S4x16384x4_S65536x4
  addf
    (subf
      (broadcastInDim S65536x4096 ![0, 1] bcast_S65536x1_S65536x4096_0_1
        (broadcastInDim S65536x1 ![0] bcast_S65536_S65536x1_0
          (Host.reduceAdd (mulf x x) (constant S_ .f32 0x00000000#32) reducesTo_S65536x4_S65536_d1 h_S_)))
      (Host.dotGeneral dot_S65536x4_S4x4096_S65536x4096_1_0_0_1_n_n none
        (mulf (broadcastInDim S65536x4 ![] bcast_S_S65536x4 (constant S_ .f32 0x40000000#32)) x)
        (transpose S4x4096 [1, 0] C transposes_S4096x4_S4x4096_1_0)))
    (broadcastInDim S65536x4096 ![0, 1] bcast_S1x4096_S65536x4096_0_1
      (broadcastInDim S1x4096 ![1] bcast_S4096_S1x4096_1
        (Host.reduceAdd (mulf C C) (constant S_ .f32 0x00000000#32) reducesTo_S4096x4_S4096_d1 h_S_)))

/-- The `argmin` along the rows of a matrix of distances. -/
def argT (d : FVec Ideal S65536x4096 .f32) : IVec S65536 32 :=
  Prod.snd ∘ Host.argReduce reducer_argmin_f32_i32 d (iotaInDim S65536x4096 32 1) (constant S_ .f32 0x7F800000#32)
    (constantI S_ 32 0#32) reducesTo_S65536x4096_S65536_d1 h_S_

/-- The row numbers `take` reads: a negative one counts from the end. -/
def wrapT (i : IVec S65536 32) : IVec S65536x1 32 :=
  broadcastInDim S65536x1 ![0] bcast_S65536_S65536x1_0
    (select (cmpi .slt i (broadcastInDim S65536 ![] bcast_S_S65536 (constantI S_ 32 0#32)))
      (addi i (broadcastInDim S65536 ![] bcast_S_S65536 (constantI S_ 32 4096#32))) i)

/-- Whether each row number lies in the codebook. -/
def insideT (i : IVec S65536x1 32) : IVec S65536 1 :=
  Host.reduce IntOp.andi
    (andi (cmpi .sge i (broadcastInDim S65536x1 ![] bcast_S_S65536x1 (constantI S_ 32 0#32)))
      (cmpi .sle i (broadcastInDim S65536x1 ![0, 1] bcast_S1x1_S65536x1_0_1
        (broadcastInDim S1x1 ![1] bcast_S1_S1x1_1 (constantI S1 32 4095#32)))))
    (constantI S_ 1 1#1) reducesTo_S65536x1_S65536_d1 h_S_

/-- The codebook's rows at those numbers. -/
def takeT {F : FTy → Type} [FloatOps F] (C : FVec F S4096x4 .f32) (i : IVec S65536 32) : FVec F S65536x4 .f32 :=
  select (broadcastInDim S65536x4 ![0] bcast_S65536_S65536x4_0 (insideT (wrapT i)))
    (Host.gather gather_S4096x4_S65536x1_S65536x4_1_0_n_n_0_1_14 C (wrapT i))
    (broadcastInDim S65536x4 ![] bcast_S_S65536x4 (constant S_ .f32 0x7FC00000#32))

/-- The tokens plus the differences, the rows arranged as the tokens are. -/
def quantT {F : FTy → Type} [FloatOps F] (X : FVec F S4x16384x4 .f32) (Q : FVec F S65536x4 .f32) : FVec F S4x16384x4 .f32 :=
  addf X (subf (shapeCast S4x16384x4 Q shapeCasts_S65536x4_S4x16384x4) X)

/-- The mean of the squared differences. -/
def lossT (X : FVec Ideal S4x16384x4 .f32) (Q : FVec Ideal S65536x4 .f32) : FVec Ideal S_ .f32 :=
  let q := subf (shapeCast S4x16384x4 Q shapeCasts_S65536x4_S4x16384x4) X
  Host.divf (Host.reduceAdd (mulf q q) (constant S_ .f32 0x00000000#32) reducesTo_S4x16384x4_S_d0_1_2 h_S_)
    (constant S_ .f32 0x48800000#32)

section Ops
variable {F : FTy → Type} [FloatOps F]

/-- The operations that compute the distances. -/
def opsA : List (HloOp τ sig (Elt F)) :=
  [StableHlo.reshape main_arg0 main_v0 (rfl : (.f32 : EltTy) = .f32) shapeCasts_S4x16384x4_S65536x4,
   StableHlo.binary main_v0 main_v0 main_v1 (mulf : (⟨S65536x4, .f32⟩ : BufTy).Contents (Elt F) → (⟨S65536x4, .f32⟩ : BufTy).Contents (Elt F) → (⟨S65536x4, .f32⟩ : BufTy).Contents (Elt F)),
   StableHlo.nullary main_cst (constant S_ .f32 0x00000000#32),
   StableHlo.binary main_v1 main_cst main_v2 ((fun x v => Host.reduceAdd x v reducesTo_S65536x4_S65536_d1 h_S_) : (⟨S65536x4, .f32⟩ : BufTy).Contents (Elt F) → (⟨S_, .f32⟩ : BufTy).Contents (Elt F) → (⟨S65536, .f32⟩ : BufTy).Contents (Elt F)),
   StableHlo.unary main_v2 main_v3 (broadcastInDim S65536x1 ![0] bcast_S65536_S65536x1_0 : (⟨S65536, .f32⟩ : BufTy).Contents (Elt F) → (⟨S65536x1, .f32⟩ : BufTy).Contents (Elt F)),
   StableHlo.nullary main_cst_0 (constant S_ .f32 0x40000000#32),
   StableHlo.unary main_cst_0 main_v4 (broadcastInDim S65536x4 ![] bcast_S_S65536x4 : (⟨S_, .f32⟩ : BufTy).Contents (Elt F) → (⟨S65536x4, .f32⟩ : BufTy).Contents (Elt F)),
   StableHlo.binary main_v4 main_v0 main_v5 (mulf : (⟨S65536x4, .f32⟩ : BufTy).Contents (Elt F) → (⟨S65536x4, .f32⟩ : BufTy).Contents (Elt F) → (⟨S65536x4, .f32⟩ : BufTy).Contents (Elt F)),
   StableHlo.unary main_arg1 main_v6 ((transpose S4x4096 [1, 0] · transposes_S4096x4_S4x4096_1_0) : (⟨S4096x4, .f32⟩ : BufTy).Contents (Elt F) → (⟨S4x4096, .f32⟩ : BufTy).Contents (Elt F)),
   StableHlo.binary main_v5 main_v6 main_v7 ((fun l r => Host.dotGeneral dot_S65536x4_S4x4096_S65536x4096_1_0_0_1_n_n none l r) : (⟨S65536x4, .f32⟩ : BufTy).Contents (Elt F) → (⟨S4x4096, .f32⟩ : BufTy).Contents (Elt F) → (⟨S65536x4096, .f32⟩ : BufTy).Contents (Elt F)),
   StableHlo.unary main_v3 main_v8 (broadcastInDim S65536x4096 ![0, 1] bcast_S65536x1_S65536x4096_0_1 : (⟨S65536x1, .f32⟩ : BufTy).Contents (Elt F) → (⟨S65536x4096, .f32⟩ : BufTy).Contents (Elt F)),
   StableHlo.binary main_v8 main_v7 main_v9 (subf : (⟨S65536x4096, .f32⟩ : BufTy).Contents (Elt F) → (⟨S65536x4096, .f32⟩ : BufTy).Contents (Elt F) → (⟨S65536x4096, .f32⟩ : BufTy).Contents (Elt F)),
   StableHlo.binary main_arg1 main_arg1 main_v10 (mulf : (⟨S4096x4, .f32⟩ : BufTy).Contents (Elt F) → (⟨S4096x4, .f32⟩ : BufTy).Contents (Elt F) → (⟨S4096x4, .f32⟩ : BufTy).Contents (Elt F)),
   StableHlo.nullary main_cst_1 (constant S_ .f32 0x00000000#32),
   StableHlo.binary main_v10 main_cst_1 main_v11 ((fun x v => Host.reduceAdd x v reducesTo_S4096x4_S4096_d1 h_S_) : (⟨S4096x4, .f32⟩ : BufTy).Contents (Elt F) → (⟨S_, .f32⟩ : BufTy).Contents (Elt F) → (⟨S4096, .f32⟩ : BufTy).Contents (Elt F)),
   StableHlo.unary main_v11 main_v12 (broadcastInDim S1x4096 ![1] bcast_S4096_S1x4096_1 : (⟨S4096, .f32⟩ : BufTy).Contents (Elt F) → (⟨S1x4096, .f32⟩ : BufTy).Contents (Elt F)),
   StableHlo.unary main_v12 main_v13 (broadcastInDim S65536x4096 ![0, 1] bcast_S1x4096_S65536x4096_0_1 : (⟨S1x4096, .f32⟩ : BufTy).Contents (Elt F) → (⟨S65536x4096, .f32⟩ : BufTy).Contents (Elt F)),
   StableHlo.binary main_v9 main_v13 main_v14 (addf : (⟨S65536x4096, .f32⟩ : BufTy).Contents (Elt F) → (⟨S65536x4096, .f32⟩ : BufTy).Contents (Elt F) → (⟨S65536x4096, .f32⟩ : BufTy).Contents (Elt F))]

/-- The operations of the `argmin`. -/
def opsM : List (HloOp τ sig (Elt F)) :=
  [StableHlo.TRef.nullary main_call0.v0 (iotaInDim S65536x4096 32 1),
   StableHlo.TRef.nullary main_call0.cst (constant S_ .f32 0x7F800000#32),
   StableHlo.TRef.nullary main_call0.c (constantI S_ 32 0#32),
   StableHlo.TRef.quaternary (.of main_v14) main_call0.v0 main_call0.cst main_call0.c main_call0.v1_0 (fun x y u v j => (Host.argReduce reducer_argmin_f32_i32 x y u v reducesTo_S65536x4096_S65536_d1 h_S_ j).1),
   StableHlo.TRef.quaternary (.of main_v14) main_call0.v0 main_call0.cst main_call0.c main_call0.v1_1 (fun x y u v j => (Host.argReduce reducer_argmin_f32_i32 x y u v reducesTo_S65536x4096_S65536_d1 h_S_ j).2)]

/-- The operations of the `take`. -/
def opsT : List (HloOp τ sig (Elt F)) :=
  [StableHlo.TRef.nullary main_call1.c (constantI S_ 32 0#32),
   StableHlo.TRef.unary main_call1.c main_call1.v0 (broadcastInDim S65536 ![] bcast_S_S65536),
   StableHlo.TRef.binary (.of main_v15) main_call1.v0 main_call1.v1 (cmpi .slt),
   StableHlo.TRef.nullary main_call1.c_0 (constantI S_ 32 4096#32),
   StableHlo.TRef.unary main_call1.c_0 main_call1.v2 (broadcastInDim S65536 ![] bcast_S_S65536),
   StableHlo.TRef.binary (.of main_v15) main_call1.v2 main_call1.v3 addi,
   StableHlo.TRef.ternary main_call1.v1 main_call1.v3 (.of main_v15) main_call1_call0.v0 select,
   StableHlo.TRef.unary main_call1.call0.v0 main_call1.v5 (broadcastInDim S65536x1 ![0] bcast_S65536_S65536x1_0),
   StableHlo.TRef.nullary main_call1.c_1 (constantI S1 32 4095#32),
   StableHlo.TRef.nullary main_call1.c_2 (constantI S_ 32 0#32),
   StableHlo.TRef.unary main_call1.c_2 main_call1.v6 (broadcastInDim S65536x1 ![] bcast_S_S65536x1),
   StableHlo.TRef.binary main_call1.v5 main_call1.v6 main_call1.v7 (cmpi .sge),
   StableHlo.TRef.unary main_call1.c_1 main_call1.v8 (broadcastInDim S1x1 ![1] bcast_S1_S1x1_1),
   StableHlo.TRef.unary main_call1.v8 main_call1.v9 (broadcastInDim S65536x1 ![0, 1] bcast_S1x1_S65536x1_0_1),
   StableHlo.TRef.binary main_call1.v5 main_call1.v9 main_call1.v10 (cmpi .sle),
   StableHlo.TRef.binary main_call1.v7 main_call1.v10 main_call1.v11 andi,
   StableHlo.TRef.nullary main_call1.c_3 (constantI S_ 1 1#1),
   StableHlo.TRef.binary main_call1.v11 main_call1.c_3 main_call1.v12 (fun x v => Host.reduce IntOp.andi x v reducesTo_S65536x1_S65536_d1 h_S_),
   StableHlo.TRef.binary (.of main_arg1) main_call1.v5 main_call1.v13 (fun x i => Host.gather gather_S4096x4_S65536x1_S65536x4_1_0_n_n_0_1_14 x i),
   StableHlo.TRef.unary main_call1.v12 main_call1.v14 (broadcastInDim S65536x4 ![0] bcast_S65536_S65536x4_0),
   StableHlo.TRef.nullary main_call1.cst (constant S_ .f32 0x7FC00000#32),
   StableHlo.TRef.unary main_call1.cst main_call1.v15 (broadcastInDim S65536x4 ![] bcast_S_S65536x4),
   StableHlo.TRef.ternary main_call1.v14 main_call1.v13 main_call1.v15 main_call1.v16 select]

/-- The operations after the `take`. -/
def opsC : List (HloOp τ sig (Elt F)) :=
  [StableHlo.reshape main_v16 main_v17 (rfl : (.f32 : EltTy) = .f32) shapeCasts_S65536x4_S4x16384x4,
   StableHlo.binary main_v17 main_arg0 main_v18 (subf : (⟨S4x16384x4, .f32⟩ : BufTy).Contents (Elt F) → (⟨S4x16384x4, .f32⟩ : BufTy).Contents (Elt F) → (⟨S4x16384x4, .f32⟩ : BufTy).Contents (Elt F)),
   StableHlo.binary main_v18 main_v18 main_v19 (mulf : (⟨S4x16384x4, .f32⟩ : BufTy).Contents (Elt F) → (⟨S4x16384x4, .f32⟩ : BufTy).Contents (Elt F) → (⟨S4x16384x4, .f32⟩ : BufTy).Contents (Elt F)),
   StableHlo.nullary main_cst_2 (constant S_ .f32 0x00000000#32),
   StableHlo.binary main_v19 main_cst_2 main_v20 ((fun x v => Host.reduceAdd x v reducesTo_S4x16384x4_S_d0_1_2 h_S_) : (⟨S4x16384x4, .f32⟩ : BufTy).Contents (Elt F) → (⟨S_, .f32⟩ : BufTy).Contents (Elt F) → (⟨S_, .f32⟩ : BufTy).Contents (Elt F)),
   StableHlo.nullary main_cst_3 (constant S_ .f32 0x48800000#32),
   StableHlo.binary main_v20 main_cst_3 main_v21 (Host.divf : (⟨S_, .f32⟩ : BufTy).Contents (Elt F) → (⟨S_, .f32⟩ : BufTy).Contents (Elt F) → (⟨S_, .f32⟩ : BufTy).Contents (Elt F)),
   StableHlo.binary main_v17 main_arg0 main_v22 (subf : (⟨S4x16384x4, .f32⟩ : BufTy).Contents (Elt F) → (⟨S4x16384x4, .f32⟩ : BufTy).Contents (Elt F) → (⟨S4x16384x4, .f32⟩ : BufTy).Contents (Elt F)),
   StableHlo.binary main_arg0 main_v22 main_v23 (addf : (⟨S4x16384x4, .f32⟩ : BufTy).Contents (Elt F) → (⟨S4x16384x4, .f32⟩ : BufTy).Contents (Elt F) → (⟨S4x16384x4, .f32⟩ : BufTy).Contents (Elt F)),
   StableHlo.reshape main_v15 main_v24 (rfl : (.i32 : EltTy) = .i32) shapeCasts_S65536_S4x16384]

end Ops

theorem after_app (l₁ l₂ : List (HloOp τ sig (Elt Ideal))) (V) :
    StableHlo.after (l₁ ++ l₂) V = StableHlo.after l₂ (StableHlo.after l₁ V) := by
  induction l₁ generalizing V with
  | nil => rfl
  | cons a l ih => simp only [List.cons_append, StableHlo.after_cons, ih]

theorem main_eq (d : Dev nD) : main (F := Ideal) d = StableHlo.seq (opsA ++ (opsM ++ (opsT ++ opsC))) := by
  rfl

section Reads
variable (V : Valuation τ sig (Elt Ideal))

theorem readA : StableHlo.after opsA V (Proc.devRef .tc main_v14)
    = distT (V (Proc.devRef .tc main_arg0)) (V (Proc.devRef .tc main_arg1)) := by
  unfold opsA
  after_reads_simp
  rfl

theorem readM : StableHlo.after opsM V (Proc.devRef .tc main_v15) = argT (V (Proc.devRef .tc main_v14)) := by
  unfold opsM
  after_reads_simp
  rfl

theorem readT : StableHlo.after opsT V (Proc.devRef .tc main_v16)
    = takeT (F := Ideal) (V (Proc.devRef .tc main_arg1)) (V (Proc.devRef .tc main_v15)) := by
  unfold opsT
  after_reads_simp
  simp only [StableHlo.TRef.ofBuf_toBuf]
  simp -implicitDefEqProofs only [StableHlo.TRef.toBuf, StableHlo.TRef.ofBuf, cast_cast, cast_eq]
  unfold takeT insideT wrapT
  with_reducible rfl

theorem keepA : StableHlo.after opsA V (Proc.devRef .tc main_arg0) = V (Proc.devRef .tc main_arg0)
    ∧ StableHlo.after opsA V (Proc.devRef .tc main_arg1) = V (Proc.devRef .tc main_arg1) := by
  unfold opsA
  constructor <;> after_reads_simp

theorem keepM : StableHlo.after opsM V (Proc.devRef .tc main_arg0) = V (Proc.devRef .tc main_arg0)
    ∧ StableHlo.after opsM V (Proc.devRef .tc main_arg1) = V (Proc.devRef .tc main_arg1) := by
  unfold opsM
  constructor <;> after_reads_simp

theorem keepT : StableHlo.after opsT V (Proc.devRef .tc main_arg0) = V (Proc.devRef .tc main_arg0)
    ∧ StableHlo.after opsT V (Proc.devRef .tc main_arg1) = V (Proc.devRef .tc main_arg1)
    ∧ StableHlo.after opsT V (Proc.devRef .tc main_v15) = V (Proc.devRef .tc main_v15) := by
  unfold opsT
  refine ⟨?_, ?_, ?_⟩ <;> after_reads_simp

theorem readC : StableHlo.after opsC V (Proc.devRef .tc main_v23)
      = quantT (F := Ideal) (V (Proc.devRef .tc main_arg0)) (V (Proc.devRef .tc main_v16))
    ∧ StableHlo.after opsC V (Proc.devRef .tc main_v24)
      = shapeCast S4x16384 (V (Proc.devRef .tc main_v15) : IVec S65536 32) shapeCasts_S65536_S4x16384
    ∧ StableHlo.after opsC V (Proc.devRef .tc main_v21)
      = lossT (V (Proc.devRef .tc main_arg0)) (V (Proc.devRef .tc main_v16))
    ∧ StableHlo.after opsC V (Proc.devRef .tc main_arg0) = V (Proc.devRef .tc main_arg0)
    ∧ StableHlo.after opsC V (Proc.devRef .tc main_arg1) = V (Proc.devRef .tc main_arg1) := by
  unfold opsC
  refine ⟨?_, ?_, ?_, ?_, ?_⟩ <;> after_reads_simp <;> rfl

end Reads

variable (m : (ℓ : Loc nD τ sig) → Buf (Elt Ideal) ℓ) (g : Dev nD → PrngReg)

/-- The reference's run: its results are those functions of its arguments, the arguments are unchanged, and every
    semaphore counter is zero. -/
theorem run_reference : θ_run (defs (F := Ideal)) (onTc (τ := τ) (main (F := Ideal))) ⟨m, fun _ => 0, g⟩ fun r =>
    (∀ c : Dev nD,
      r.2.mem (c.tc.loc main_v23)
        = quantT (F := Ideal) (m (c.tc.loc main_arg0))
            (takeT (F := Ideal) (m (c.tc.loc main_arg1)) (argT (distT (m (c.tc.loc main_arg0)) (m (c.tc.loc main_arg1)))))
      ∧ r.2.mem (c.tc.loc main_v24)
        = shapeCast S4x16384 (argT (distT (m (c.tc.loc main_arg0)) (m (c.tc.loc main_arg1)))) shapeCasts_S65536_S4x16384
      ∧ r.2.mem (c.tc.loc main_v21)
        = lossT (m (c.tc.loc main_arg0))
            (takeT (F := Ideal) (m (c.tc.loc main_arg1)) (argT (distT (m (c.tc.loc main_arg0)) (m (c.tc.loc main_arg1)))))
      ∧ r.2.mem (c.tc.loc main_arg0) = m (c.tc.loc main_arg0)
      ∧ r.2.mem (c.tc.loc main_arg1) = m (c.tc.loc main_arg1)) ∧ r.2.sem = fun _ => 0 := by
  refine θ_run_mono (StableHlo.run_hlo (defs (F := Ideal)) _ main_eq (by decide) (by decide) (by simp [opsA, opsM, opsT, opsC])
    (by intro _ h; (repeat (cases h with | head => rfl | tail _ h => ?_)); exact nomatch h) m g) ?_
  intro r hr
  refine ⟨fun c => ?_, sem_eq_zero_of_no_sems (by decide) r.2⟩
  have hV : ∀ b : Ref sig .tc, r.2.mem (c.tc.loc b) = StableHlo.after opsC (StableHlo.after opsT (StableHlo.after opsM
      (StableHlo.after opsA (StableHlo.launchContents m c)))) (Proc.devRef .tc b) := fun b => by
    rw [hr c, after_app, after_app, after_app]
  obtain ⟨W, hW⟩ : ∃ W, W = StableHlo.launchContents m c := ⟨_, rfl⟩
  rw [← hW] at hV
  obtain ⟨h1, h2, h3, h4, h5⟩ := readC (StableHlo.after opsT (StableHlo.after opsM (StableHlo.after opsA W)))
  rw [hV, hV, hV, hV, hV, h1, h2, h3, h4, h5, (keepT _).1, (keepT _).2.1, (keepT _).2.2, readT, (keepM _).1, (keepM _).2,
    readM, (keepA _).1, (keepA _).2, readA]
  subst hW
  exact ⟨rfl, rfl, rfl, rfl, rfl⟩

end Cert.Proof.Ref

end
-- ==== Proof.RefValue.lean ====
/-
  What the reference's results are, element by element, over extended reals.
-/
module

public import proofs.«01_k».proof.Proof.Ref
public import proofs.«01_k».proof.Proof.BodyIdeal
public import Idealize.ShloMosaic.Lib.Pipeline.ValueKit

@[expose] public section

set_option maxRecDepth 16384

noncomputable section

namespace Cert.Proof.Ref

open Cert.ReferenceIdeal Cert.ReferenceIdeal.Gen Cert.Proof.Spec Cert.Proof.Amin
open Idealize.ShloMosaic Idealize.ShloMosaic.TcCoe
open Idealize.SL.Sem

theorem distT_apply (X : FVec Ideal S4x16384x4 .f32) (C : FVec Ideal S4096x4 .f32) (n : Fin 65536) (j : Fin 4096) :
    distT X C (ix2 n j) = dd X C n j := by
  unfold distT
  pointwise
  rw [BodyIdeal.ofBits_two]
  unfold dd Amin.dist tokn cwd
  have h1 : (⟨n.val / 16384, by omega⟩ : Fin 4) = Fin.ofNat 4 (n.val / 16384) :=
    Fin.ext (Nat.mod_eq_of_lt (by omega)).symm
  have h2 : j = Fin.ofNat 4096 j.val := Fin.ext (Nat.mod_eq_of_lt j.isLt).symm
  simp only [h1, ← h2]
  rfl

theorem reducer_eq : reducer_argmin_f32_i32 (F := Ideal) = lesser := by
  funext a b
  obtain ⟨a, p⟩ := a
  obtain ⟨b, q⟩ := b
  unfold reducer_argmin_f32_i32 lesser
  show (Scalar.select (IntOp.ori (BitVec.ofBool (decide (a < b))) (BitVec.ofBool (decide (a ≠ a)))) a b,
    Scalar.select (IntOp.ori (IntOp.ori (BitVec.ofBool (decide (a < b))) (BitVec.ofBool (decide (a ≠ a))))
      (IntOp.andi (BitVec.ofBool (decide (a = b))) (BitVec.ofBool (p.slt q)))) p q) = _
  have hne : decide (a ≠ a) = false := by simp
  rw [hne]
  by_cases h1 : a < b
  · simp only [h1, decide_true, true_or, if_true]
    by_cases h2 : a = b <;> cases p.slt q <;> simp only [h2, decide_true, decide_false] <;> rfl
  · by_cases h2 : a = b
    · have h3 : ¬ b < b := lt_irrefl b
      subst h2
      cases h : p.slt q <;> simp only [h1, decide_true, decide_false, false_or, true_and, if_true, if_false] <;> rfl
    · cases h : p.slt q <;> simp only [h1, h2, decide_false, false_or, false_and, if_false] <;> rfl

theorem argT_eq (d : FVec Ideal S65536x4096 .f32) (j : S65536.Idx) : argT d j
    = ((Host.argReduceFiber d (iotaInDim S65536x4096 32 1) reducesTo_S65536x4096_S65536_d1 j).foldl lesser
        ((constant S_ .f32 0x7F800000#32 : FVec Ideal S_ .f32) (Shape.Idx.first h_S_), constantI S_ 32 0#32 (Shape.Idx.first h_S_))).2 := by
  have h := congrFun (Ideal.argReduce_eq_reduce2 (φ := .f32) lesser d (iotaInDim S65536x4096 32 1)
    (constant S_ .f32 0x7F800000#32) (constantI S_ 32 0#32) reducesTo_S65536x4096_S65536_d1 h_S_) j
  rw [Host.reduce2_eq_foldl_fiber] at h
  rw [argT.eq_1, Function.comp_apply, reducer_eq, h]

/-- The `argmin` of a row is its least entry's first number. -/
theorem argT_apply (d : FVec Ideal S65536x4096 .f32) (n : Fin 65536) (f : ℕ → EReal)
    (hf : ∀ j : Fin 4096, d (ix2 n j) = f j) : argT d (ix1 n) = BitVec.ofNat 32 (am f) := by
  rw [argT_eq]
  have hi : ∀ j : Fin 4096, iotaInDim S65536x4096 32 1 (ix2 n j) = BitVec.ofNat 32 j.val := fun j => by pointwise
  obtain ⟨j, hj, he⟩ := foldl_isFirst f
    (Host.argReduceFiber d (iotaInDim S65536x4096 32 1) reducesTo_S65536x4096_S65536_d1 (ix1 n))
    (fun p hp => by
      obtain ⟨k, hk, rfl⟩ := List.mem_map.1 hp
      have hk := of_decide_eq_true (List.mem_filter.1 hk).2
      generalize S65536x4096.rowMajor.symm k = i at hk
      have h0 := congrFun hk 0
      have h0 : (i 0).val = n.val :=
        (Shape.ReducesTo.drop_apply_val_of_eq reducesTo_S65536x4096_S65536_d1 i 0 0).symm.trans (congrArg Fin.val h0)
      obtain ⟨q, rfl⟩ : ∃ q : Fin 4096, i = ix2 n q := by
        refine ⟨i 1, funext fun a => ?_⟩
        match a with
        | ⟨0, _⟩ => exact Fin.ext h0
        | ⟨1, _⟩ => rfl
      exact ⟨q.val, q.isLt, by rw [hf, hi]⟩)
    (fun k hk => List.mem_map.2 ⟨S65536x4096.rowMajor (ix2 n ⟨k, hk⟩), List.mem_filter.2 ⟨List.mem_finRange _, by
        rw [Equiv.symm_apply_apply]
        refine decide_eq_true (funext fun a => ?_)
        obtain rfl : a = 0 := Subsingleton.elim _ _
        exact Fin.ext (Shape.ReducesTo.drop_apply_val_of_eq reducesTo_S65536x4096_S65536_d1 _ 0 0)⟩, by
      rw [Equiv.symm_apply_apply, hf, hi]⟩)
  rw [← hj.eq_am]
  refine Eq.trans ?_ he
  have h0 : (constant S_ .f32 0x7F800000#32 : FVec Ideal S_ .f32) (Shape.Idx.first h_S_) = ⊤ := BodyIdeal.ofBits_inf
  rw [h0]
  rfl

/-- A gathered row. -/
theorem gather_apply {F : FTy → Type} (C : FVec F S4096x4 .f32) (i : IVec S65536x1 32) (n : Fin 65536) (k : Fin 4) (b : ℕ) (hb : b < 4096)
    (h : i (ix2 n 0) = BitVec.ofNat 32 b) :
    Host.gather gather_S4096x4_S65536x1_S65536x4_1_0_n_n_0_1_14 C i (ix2 n k) = C (ix2 ⟨b, hb⟩ k) := by
  unfold Host.gather
  congr 1
  funext a
  refine Fin.ext ?_
  let G := gather_S4096x4_S65536x1_S65536x4_1_0_n_n_0_1_14
  show G.start (ix2 n k) i a + G.batchCoord (ix2 n k) a + G.offCoord (ix2 n k) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    rw [dif_pos (show (⟨0, by decide⟩ : Fin 2) ∈ G.startIndexMap from List.mem_singleton.mpr rfl)]
    have hsi : G.siIdx (ix2 n k) ⟨List.idxOf (⟨0, by decide⟩ : Fin 2) G.startIndexMap,
        List.idxOf_lt_length_iff.2 (List.mem_singleton.mpr rfl)⟩ = ix2 n 0 := by
      funext b
      refine Fin.ext ?_
      match b with
      | ⟨0, _⟩ => rfl
      | ⟨1, _⟩ => rfl
    rw [hsi, h, toInt_ofNat_small (by omega)]
    show min b 4095 = b
    omega
  | ⟨1, _⟩ =>
    unfold GatherDims.start
    rw [dif_neg (show (⟨1, by decide⟩ : Fin 2) ∉ G.startIndexMap by decide), Nat.zero_add]
    rfl

theorem wrapT_apply (i : IVec S65536 32) (n : Fin 65536) (b : ℕ) (hb : b < 4096) (h : i (ix1 n) = BitVec.ofNat 32 b) :
    wrapT i (ix2 n 0) = BitVec.ofNat 32 b := by
  unfold wrapT
  pointwise
  rw [h]
  have : IntOp.cmpi .slt (BitVec.ofNat 32 b) 0#32 = 0#1 := by
    show BitVec.ofBool (BitVec.slt _ _) = _
    rw [BitVec.slt, toInt_ofNat_small (by omega)]
    have : ¬ ((b : ℤ) < (0#32).toInt) := by simp
    rw [decide_eq_false this]
    rfl
  rw [this]
  rfl

theorem insideT_apply (i : IVec S65536x1 32) (n : Fin 65536) (b : ℕ) (hb : b < 4096) (h : i (ix2 n 0) = BitVec.ofNat 32 b) :
    insideT i (ix1 n) = 1#1 := by
  unfold insideT
  pointwise
  have h1 : IntOp.cmpi .sge (BitVec.ofNat 32 b) 0#32 = 1#1 := by
    show BitVec.ofBool (BitVec.sle _ _) = _
    rw [BitVec.sle, toInt_ofNat_small (k := b) (by omega)]
    have : (0#32).toInt ≤ (b : ℤ) := by simp
    exact congrArg BitVec.ofBool (decide_eq_true this)
  have h2 : IntOp.cmpi .sle (BitVec.ofNat 32 b) 4095#32 = 1#1 := by
    show BitVec.ofBool (BitVec.sle _ _) = _
    rw [BitVec.sle, toInt_ofNat_small (by omega)]
    have : (b : ℤ) ≤ (4095#32).toInt := by rw [show (4095#32).toInt = 4095 from rfl]; omega
    rw [decide_eq_true this]
    rfl
  rw [Finset.univ_unique, Finset.fold_singleton]
  show IntOp.andi (IntOp.andi (IntOp.cmpi .sge (i (ix2 n 0)) 0#32) (IntOp.cmpi .sle (i (ix2 n 0)) 4095#32)) 1#1 = 1#1
  rw [h, h1, h2]
  rfl

/-- A row of the `take`. -/
theorem takeT_apply {F : FTy → Type} [FloatOps F] (C : FVec F S4096x4 .f32) (i : IVec S65536 32) (n : Fin 65536) (k : Fin 4) (b : ℕ) (hb : b < 4096)
    (h : i (ix1 n) = BitVec.ofNat 32 b) : takeT C i (ix2 n k) = C (ix2 ⟨b, hb⟩ k) := by
  have hw := wrapT_apply i n b hb h
  unfold takeT
  generalize wrapT i = w at hw ⊢
  have hi := insideT_apply w n b hb hw
  have hg := gather_apply C w n k b hb hw
  generalize insideT w = q at hi ⊢
  generalize Host.gather gather_S4096x4_S65536x1_S65536x4_1_0_n_n_0_1_14 C w = r at hg ⊢
  pointwise
  rw [hi, ← hg]
  rfl

section Results
variable (X : FVec Ideal S4x16384x4 .f32) (C : FVec Ideal S4096x4 .f32)

theorem arg_apply (n : Fin 65536) : argT (distT X C) (ix1 n) = BitVec.ofNat 32 (best X C n) :=
  argT_apply _ n (dd X C n) fun j => distT_apply X C n j

theorem take_apply (n : Fin 65536) (k : Fin 4) :
    takeT C (argT (distT X C)) (ix2 n k) = C (ix2 (Fin.ofNat 4096 (best X C n)) k) := by
  rw [takeT_apply C _ n k _ (best_lt X C n) (arg_apply X C n)]
  congr 2
  exact Fin.ext (Nat.mod_eq_of_lt (best_lt X C n)).symm

theorem quantT_apply (Q : FVec Ideal S65536x4 .f32) (a : Fin 4) (b : Fin 16384) (k : Fin 4) :
    quantT X Q (ix3 a b k) = X (ix3 a b k) + (Q (ix2 ⟨a.val * 16384 + b.val, by omega⟩ k) - X (ix3 a b k)) := by
  unfold quantT
  pointwise

theorem idxT_apply (I : IVec S65536 32) (a : Fin 4) (b : Fin 16384) :
    shapeCast S4x16384 I shapeCasts_S65536_S4x16384 (ix2 a b) = I (ix1 ⟨a.val * 16384 + b.val, by omega⟩) := by
  pointwise

theorem lossT_apply (Q : FVec Ideal S65536x4 .f32) (i : S_.Idx) : lossT X Q i
    = Ideal.div (∑ a : Fin 4, ∑ b : Fin 16384, ∑ k : Fin 4,
          (Q (ix2 ⟨a.val * 16384 + b.val, by omega⟩ k) - X (ix3 a b k)) * (Q (ix2 ⟨a.val * 16384 + b.val, by omega⟩ k) - X (ix3 a b k)))
        (Ideal.ofBits .f32 0x48800000#32) := by
  unfold lossT
  pointwise

theorem quant_eq : quantT X (takeT C (argT (distT X C))) = quantV X C := by
  funext i
  idx_vars i
  rw [quantT_apply, take_apply]
  rfl

theorem idx_eq : shapeCast S4x16384 (argT (distT X C)) shapeCasts_S65536_S4x16384 = idxV X C := by
  funext i
  idx_vars i
  rw [idxT_apply, arg_apply]
  rfl

/-- The reference's loss is the kernel's where every entry is a real number: a squared distance is then what the
    three-term form adds up to. -/
theorem loss_eq (hX : ∀ i, ∃ r : ℝ, X i = r) (hC : ∀ i, ∃ r : ℝ, C i = r) :
    lossT X (takeT C (argT (distT X C))) = fun _ => lossV X C := by
  funext i
  rw [lossT_apply]
  unfold lossV sumV
  generalize Ideal.ofBits .f32 0x48800000#32 = K
  refine congrArg₂ Ideal.div ?_ (Eq.refl K)
  have e := Finset.sum_range_mul_split 4 16384 fun n => dd X C n (best X C n)
  rw [show 4 * 16384 = 65536 by norm_num] at e
  rw [e, Finset.sum_range]
  refine Finset.sum_congr rfl fun a _ => ?_
  rw [Finset.sum_range]
  refine Finset.sum_congr rfl fun b _ => ?_
  unfold dd
  rw [dist_eq_sq (tokn X (a.val * 16384 + b.val)) (cwd C (best X C (a.val * 16384 + b.val))) (fun k => hX _) (fun k => hC _)]
  refine Finset.sum_congr rfl fun k _ => ?_
  rw [take_apply]
  have hx : tokn X (a.val * 16384 + b.val) k = X (ix3 a b k) := by
    unfold tokn
    have h1 : (Fin.ofNat 4 ((a.val * 16384 + b.val) / 16384)) = a := Fin.ext (by
      show (a.val * 16384 + b.val) / 16384 % 4 = a.val; omega)
    have h2 : (Fin.ofNat 16384 (a.val * 16384 + b.val)) = b := Fin.ext (by
      show (a.val * 16384 + b.val) % 16384 = b.val; omega)
    rw [h1, h2]
  rw [hx]
  rfl

end Results

end Cert.Proof.Ref

end
-- ==== Proof.Finite.lean ====
/-
  What the claims' precondition says: every entry of both arguments is a real number.
-/
module

public import proofs.«01_k».proof.Proof.Gen.Pre_finite
public import proofs.«01_k».proof.Proof.BodyIdeal
public import Idealize.ShloMosaic.Lib.ReduceAll

@[expose] public section

noncomputable section

namespace Cert.Proof.Finite

open Cert.Pre_finite Cert.Pre_finite.Gen
open Idealize.ShloMosaic

/-- An entry whose absolute value compares below the infinity is a real number. -/
theorem real_of_abs_lt (x : EReal) (h : FloatOps.cmpf (F := Ideal) (φ := .f32) .olt (max x (-x)) (Ideal.ofBits .f32 0x7F800000#32) = 1#1) :
    ∃ r : ℝ, x = r := by
  rw [BodyIdeal.ofBits_inf] at h
  have h : BitVec.ofBool (decide (max x (-x) < ⊤)) = 1#1 := h
  have h : max x (-x) < ⊤ := by
    by_contra hn
    rw [decide_eq_false hn] at h
    exact absurd h (by decide)
  obtain ⟨h1, h2⟩ := max_lt_iff.1 h
  induction x using EReal.rec with
  | bot => exact absurd h2 (by simp)
  | top => exact absurd h1 (lt_irrefl _)
  | coe r => exact ⟨r, rfl⟩

theorem entries (X : FVec Ideal S4x16384x4 .f32) (C : FVec Ideal S4096x4 .f32) (h : fn (F := Ideal) X C = fun _ => 1#1) :
    (∀ i, ∃ r : ℝ, X i = r) ∧ ∀ i, ∃ r : ℝ, C i = r := by
  have hs : Subsingleton S_.Idx := ⟨fun a b => funext fun i => i.elim0⟩
  have h0 := congrFun h (Shape.Idx.first h_S_)
  unfold fn at h0
  obtain ⟨h1, h2⟩ := IntOp.andi_eq_one.1 h0
  refine ⟨fun i => ?_, fun i => ?_⟩
  · exact real_of_abs_lt _ (Host.reduce_andi_all _ _ _ _ _ h1 i)
  · exact real_of_abs_lt _ (Host.reduce_andi_all _ _ _ _ _ h2 i)

end Cert.Proof.Finite

end
-- ==== Proof.LookTile.lean ====
/-
  One tile's part of the SparseCore call when it is launched alone, its indices an argument of the program: the same kernel as in Tile.lean, in
  a program with other buffers. Proved once, at a symbolic tile, for any float values `F`, any table and any indices below 4096.
-/
module

public import proofs.«01_k».proof.Defs
public import proofs.«01_k».proof.Proof.Tile
public import proofs.«01_k».proof.Proof.Gen.LookupIdeal
public import proofs.«01_k».proof.Proof.Gen.LookupIdeal.Skeleton
public import Idealize.ShloMosaic.Lib.SparseCore.Quiescent
public import Idealize.ShloMosaic.Lib.SparseCore.Ops
public import Idealize.ShloMosaic.Lib.ShareLeaves
public import Idealize.ShloMosaic.Lib.Pipeline.Kit
public import Idealize.ShloMosaic.Lib.ValueIdx
public import Idealize.ShloMosaic.Lib.ValueIdxRank1
public import Idealize.ShloMosaic.Lib.Tactic

@[expose] public section

noncomputable section

namespace Cert.Proof.Look

open Cert.LookupIdeal Cert.LookupIdeal.Gen
open Cert.Proof.Sc (at1 at1_val at1_self gathered word_toNat)

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

abbrev tLoc (d : Dev nD) : Loc nD τ sig := (SparseCore.T d).loc main_v0
abbrev iLoc (d : Dev nD) : Loc nD τ sig := (SparseCore.T d).loc main_arg2
abbrev oLoc (d : Dev nD) : Loc nD τ sig := (SparseCore.T d).loc main_v1

local notation "tV" => (Memref.whole Cert.LookupIdeal.main_v0_scv : Memref Cert.LookupIdeal.sig Kind.scVector Space.hbm Cert.LookupIdeal.S16384 EltTy.f32)
local notation "iV" => (Memref.whole Cert.LookupIdeal.main_arg2_scv : Memref Cert.LookupIdeal.sig Kind.scVector Space.hbm Cert.LookupIdeal.S65536 EltTy.i32)
local notation "oV" => (Memref.whole Cert.LookupIdeal.main_v1_scv : Memref Cert.LookupIdeal.sig Kind.scVector Space.hbm Cert.LookupIdeal.S262144 EltTy.f32)
local notation "aT" => (Memref.whole Cert.LookupIdeal.cc0_scratch0 : Memref Cert.LookupIdeal.sig Kind.scVector Space.vmem Cert.LookupIdeal.S16384 EltTy.f32)
local notation "aI" => (Memref.whole Cert.LookupIdeal.cc0_scratch1 : Memref Cert.LookupIdeal.sig Kind.scVector Space.vmem Cert.LookupIdeal.S2048 EltTy.i32)
local notation "aO" => (Memref.whole Cert.LookupIdeal.cc0_scratch2 : Memref Cert.LookupIdeal.sig Kind.scVector Space.vmem Cert.LookupIdeal.S8192 EltTy.f32)

section Operands

variable (tb : (d : Dev nD) → Buf (Elt F) (tLoc d)) (ix : (d : Dev nD) → Buf (Elt F) (iLoc d))

/-- The gathered words as the output's contents. -/
abbrev oG (d : Dev nD) : Buf (Elt F) (oLoc d) := gathered (tb d) (ix d)

variable (d : Dev nD) (L : grid0.Coords)

/-- The tile's coordinates. -/
abbrev cV (L : grid0.Coords) : Fin τ.nSC := (L 0).castLE hcore0
abbrev jV (L : grid0.Coords) : Fin τ.nSub := (L 1).castLE hsub0
/-- The tile's number among the 32. -/
theorem wid_lt : (L 1).val * 2 + (L 0).val < 2 ^ 5 := by
  have h0 : (L 0).val < 2 := (L 0).isLt
  have h1 : (L 1).val < 16 := (L 1).isLt
  omega
abbrev wid : Fin (2 ^ 5) := ⟨(L 1).val * 2 + (L 0).val, wid_lt L⟩
/-- The tile's share of the arrays every tile reads. -/
abbrev rq : PosShare TreeShare := ShareLeaves.leaf 5 fullShare (wid L)

/-- Piece `dd` of the output, as the tile addresses it. -/
abbrev oRect (dd : Fin 4) : Rect S262144 := Rect.unit (s := S262144) (k0_off7 L (BitVec.ofNat 32 dd.val)) S2048.size (k0_off7_inb L dd)
abbrev oPc (dd : Fin 4) : Memref sig .scVector .hbm S2048 .f32 := (oV).slice (oRect L dd) (fun _ => rfl)
abbrev oSet (dd : Fin 4) : Finset S262144.Idx := (oPc L dd).view.set
/-- The tile's indices, as the tile addresses them. -/
abbrev iPc : Memref sig .scVector .hbm S2048 .i32 := (iV).slice (Rect.unit (s := S65536) (k0_off1 L) S2048.size (k0_off1_inb L)) (fun _ => rfl)

abbrev tPts : sProp 𝕄 := tLoc d ↦{rq L} tb d
abbrev iPts : sProp 𝕄 := iLoc d ↦{rq L} ix d
abbrev oAny (dd : Fin 4) : sProp 𝕄 := iprop(∃ f : Buf (Elt F) (oLoc d), oLoc d ↦[oSet L dd]{fullShare} f)
abbrev oPts (dd : Fin 4) : sProp 𝕄 := oLoc d ↦[oSet L dd]{fullShare} oG tb ix d

theorem k0_off7_eq : ∀ (i : grid0.Coords) (r : Fin 4), k0_off7 i (BitVec.ofNat 32 r.val)
    = ![(((i 1).val * 2 + (i 0).val) / 8 * 4 + r.val) * 16384 + ((i 1).val * 2 + (i 0).val) % 8 * 2048] := by decide +kernel

/-! ## The tile's own buffers -/

abbrev thrV : Thread nD τ := V d (cV L) (jV L)

/-- The tile's copies of its indices: index `p` of the tile is index `2048 * (2 * subcore + core) + p` of the array. -/
def ixT : S2048.Idx → Elt F .i32 := fun p => ix d (at1 (2048 * (wid L).val + (p 0).val))

/-- What the tile's loop leaves in its output scratch: component `p / 2048` of the row its index `p % 2048` names. -/
def gathT : S8192.Idx → Elt F .f32 :=
  fun p => tb d (at1 ((ixT ix d L (at1 ((p 0).val % 2048))).toNat * 4 + (p 0).val / 2048))

/-- The tile's indices of trip `t`, as the loop loads them. -/
abbrev lanes (t : Fin k0_t1_loop.trips) : Vec F S16 .i32 :=
  (aI).view.readAt (Elt F) (Rect.unit (s := S2048) (k0_off2 t) S16.size (k0_off2_inb t)).toLoadRect (ixT ix d L : S2048.Idx → Elt F .i32)

theorem trips_lt (t : Fin k0_t1_loop.trips) : t.val < 128 := lt_of_lt_of_le t.isLt k0_t1_abs.2.1

theorem lanes_apply (t : Fin k0_t1_loop.trips) (x : S16.Idx) : lanes ix d L t x = ixT ix d L (at1 (16 * t.val + (x 0).val)) := by
  have ht := trips_lt t
  have hx : (x 0).val < 16 := (x 0).isLt
  show ixT ix d L _ = _
  congr 1
  funext a
  match a with
  | ⟨0, _⟩ =>
    refine Fin.ext ?_
    rw [show (⟨0, _⟩ : Fin S2048.rank) = 0 from rfl, at1_val _ (by omega)]
    show k0_off2 t 0 + 1 * (x 0).val = _
    rw [k0_off2_eq]; simp

theorem lanes_lt (hix : ∀ d j, (ix d j).toNat < 4096) (t : Fin k0_t1_loop.trips) (x : S16.Idx) : (lanes ix d L t x).toNat < 4096 := by
  rw [lanes_apply]; exact hix _ _

section Words
variable (hix : ∀ d j, (ix d j).toNat < 4096) (t : Fin k0_t1_loop.trips) (x : S16.Idx)
include hix
theorem pay2_toNat : (k0_pay2 (lanes ix d L t) x).toNat = (lanes ix d L t x).toNat * 4 + 0 := word_toNat _ (lanes_lt ix d L hix t x) 0 (by omega)
theorem pay3_toNat : (k0_pay3 (lanes ix d L t) x).toNat = (lanes ix d L t x).toNat * 4 + 1 := word_toNat _ (lanes_lt ix d L hix t x) 1 (by omega)
theorem pay4_toNat : (k0_pay4 (lanes ix d L t) x).toNat = (lanes ix d L t x).toNat * 4 + 2 := word_toNat _ (lanes_lt ix d L hix t x) 2 (by omega)
theorem pay5_toNat : (k0_pay5 (lanes ix d L t) x).toNat = (lanes ix d L t x).toNat * 4 + 3 := word_toNat _ (lanes_lt ix d L hix t x) 3 (by omega)
end Words

/-- An indexed load at in-range words reads the elements they name. -/
theorem loadIdx_val (f : S16384.Idx → Elt F .f32) (v : IVec S16 32) (n : S16.Idx → Nat) (hv : ∀ x, (v x).toNat = n x)
    (h : ∀ a x, ((![v] : Fin 1 → IVec S16 32) a x).toNat < S16384.size a) : loadIdx f (![v] : Fin 1 → IVec S16 32) h = fun x => f (at1 (n x)) := by
  funext x
  show f _ = f _
  congr 1
  funext a
  match a with
  | ⟨0, _⟩ =>
    have := h 0 x
    refine Fin.ext ?_
    rw [show (⟨0, _⟩ : Fin S16384.rank) = 0 from rfl, at1_val _ (by rw [← hv]; exact this)]
    exact hv x

theorem chk_of (v : IVec S16 32) (n : S16.Idx → Nat) (hv : ∀ x, (v x).toNat = n x) (hn : ∀ x, n x < 16384) :
    ∀ a x, ((![v] : Fin 1 → IVec S16 32) a x).toNat < S16384.size a := by
  intro a x
  match a with
  | ⟨0, _⟩ => show (v x).toNat < 16384; rw [hv]; exact hn x

/-- The loop's state before trip `t`: the table and the indices in place, and the first `16 * t` tokens of each component gathered. -/
def inv (t : ℕ) (_ : Unit) : sProp 𝕄 :=
  iprop(((aT).view.loc (thrV d L) ↦{fullShare} (tb d : S16384.Idx → Elt F .f32))
    ∗ ((aI).view.loc (thrV d L) ↦{fullShare} (ixT ix d L : S2048.Idx → Elt F .i32))
    ∗ ∃ f : S8192.Idx → Elt F .f32, ⌜∀ p : S8192.Idx, (p 0).val % 2048 < 16 * t → f p = gathT tb ix d L p⌝
        ∗ ((aO).view.loc (thrV d L) ↦{fullShare} f))

/-- Four blocks of sixteen words, block `k` at `16 * t + 2048 * k`, all taken from `G`: the first `16 * (t + 1)` tokens of each component are `G`'s if
    the first `16 * t` were. -/
theorem writes4 (t : Fin k0_t1_loop.trips) (f G : S8192.Idx → Elt F .f32) (w0 w1 w2 w3 : S16.Idx → Elt F .f32)
    (hf : ∀ p : S8192.Idx, (p 0).val % 2048 < 16 * t.val → f p = G p)
    (h0 : ∀ x : S16.Idx, w0 x = G (at1 (16 * t.val + 2048 * 0 + (x 0).val))) (h1 : ∀ x : S16.Idx, w1 x = G (at1 (16 * t.val + 2048 * 1 + (x 0).val)))
    (h2 : ∀ x : S16.Idx, w2 x = G (at1 (16 * t.val + 2048 * 2 + (x 0).val))) (h3 : ∀ x : S16.Idx, w3 x = G (at1 (16 * t.val + 2048 * 3 + (x 0).val)))
    (p : S8192.Idx) (hp : (p 0).val % 2048 < 16 * (t.val + 1)) :
    (aO).view.read (Elt F) ((aO).view.writes (Elt F) f
      [⟨Rect.unit (s := S8192) (k0_off6 t) S16.size (k0_off6_inb t), w3⟩, ⟨Rect.unit (s := S8192) (k0_off5 t) S16.size (k0_off5_inb t), w2⟩,
        ⟨Rect.unit (s := S8192) (k0_off4 t) S16.size (k0_off4_inb t), w1⟩, ⟨Rect.unit (s := S8192) (k0_off3 t) S16.size (k0_off3_inb t), w0⟩]) p = G p := by
  have ht := trips_lt t
  have hp0 : (p 0).val < 8192 := (p 0).isLt
  have key : ∀ (off : Fin 1 → Nat) (inb : ∀ a, off a + S16.size a ≤ S8192.size a) (b : Nat), off = ![b] →
      (p ∈ (Rect.unit (s := S8192) off S16.size inb).set ↔ b ≤ (p 0).val ∧ (p 0).val < b + 16) := by
    intro off inb b hb
    subst hb
    refine (Rect.unit (s := S8192) ![b] S16.size inb).mem_set.trans ?_
    constructor
    · intro h
      obtain ⟨j, hj, e⟩ := h 0
      have e' : (p 0).val = b + 1 * j := e
      have hj' : j < 16 := hj
      omega
    · rintro ⟨ha, hb⟩ a
      match a with
      | ⟨0, _⟩ => exact ⟨(p 0).val - b, show _ < 16 by omega, show (p 0).val = b + 1 * ((p 0).val - b) by omega⟩
  have k3 := key _ (k0_off3_inb t) _ (k0_off3_eq t)
  have k4 := key _ (k0_off4_inb t) _ (k0_off4_eq t)
  have k5 := key _ (k0_off5_inb t) _ (k0_off5_eq t)
  have k6 := key _ (k0_off6_inb t) _ (k0_off6_eq t)
  have emb : ∀ (off : Fin 1 → Nat) (inb : ∀ a, off a + S16.size a ≤ S8192.size a) (b : Nat), off = ![b] → b + 16 ≤ 8192 →
      ∀ x : S16.Idx, (at1 (b + (x 0).val) : S8192.Idx) = (Rect.unit (s := S8192) off S16.size inb).emb x := by
    intro off inb b hb hb' x
    subst hb
    have hx : (x 0).val < 16 := (x 0).isLt
    refine ((Rect.unit (s := S8192) ![b] S16.size inb).emb_eq_of_coords x _ fun a => ?_).symm
    match a with
    | ⟨0, _⟩ => rw [show (⟨0, _⟩ : Fin S8192.rank) = 0 from rfl, at1_val _ (by omega)]; show _ = b + 1 * (x 0).val; omega
  by_cases hin : (p 0).val % 2048 < 16 * t.val
  · refine (View.read_writes_apply_of_forall_not_mem (v := (aO).view) (f := f) p _ ?_).trans (hf p hin)
    intro q hq
    simp only [List.mem_cons, List.not_mem_nil, or_false] at hq
    rcases hq with rfl | rfl | rfl | rfl
    · rw [k6]; omega
    · rw [k5]; omega
    · rw [k4]; omega
    · rw [k3]; omega
  · refine View.read_writes_apply_of_pieces (v := (aO).view) (f := f) G _ ?_ p ?_
    · intro q hq x
      simp only [List.mem_cons, List.not_mem_nil, or_false] at hq
      rcases hq with rfl | rfl | rfl | rfl
      · exact (h3 x).trans (congrArg G (emb _ (k0_off6_inb t) _ (k0_off6_eq t) (by omega) x))
      · exact (h2 x).trans (congrArg G (emb _ (k0_off5_inb t) _ (k0_off5_eq t) (by omega) x))
      · exact (h1 x).trans (congrArg G (emb _ (k0_off4_inb t) _ (k0_off4_eq t) (by omega) x))
      · exact (h0 x).trans (congrArg G (emb _ (k0_off3_inb t) _ (k0_off3_eq t) (by omega) x))
    · have hc : (p 0).val / 2048 = 0 ∨ (p 0).val / 2048 = 1 ∨ (p 0).val / 2048 = 2 ∨ (p 0).val / 2048 = 3 := by omega
      rcases hc with hc | hc | hc | hc
      · exact ⟨_, List.mem_cons_of_mem _ (List.mem_cons_of_mem _ (List.mem_cons_of_mem _ List.mem_cons_self)), k3.mpr (by omega)⟩
      · exact ⟨_, List.mem_cons_of_mem _ (List.mem_cons_of_mem _ List.mem_cons_self), k4.mpr (by omega)⟩
      · exact ⟨_, List.mem_cons_of_mem _ List.mem_cons_self, k5.mpr (by omega)⟩
      · exact ⟨_, List.mem_cons_self, k6.mpr (by omega)⟩

/-- What trip `t` stores for component `k` is the gathered words'. -/
theorem piece (hix : ∀ d j, (ix d j).toNat < 4096) (t : Fin k0_t1_loop.trips) (k : Nat) (hk : k < 4) (v : IVec S16 32)
    (hv : ∀ x, (v x).toNat = (lanes ix d L t x).toNat * 4 + k) (T : S16384.Idx → Elt F .f32) (hT : T = tb d)
    (h : ∀ a x, ((![v] : Fin 1 → IVec S16 32) a x).toNat < S16384.size a) (x : S16.Idx) :
    loadIdx T (![v] : Fin 1 → IVec S16 32) h x = gathT tb ix d L (at1 (16 * t.val + 2048 * k + (x 0).val)) := by
  have ht := trips_lt t
  have hx : (x 0).val < 16 := (x 0).isLt
  subst hT
  rw [loadIdx_val _ _ _ hv]
  show tb d _ = _
  rw [show (lanes ix d L t x) = _ from lanes_apply ix d L t x]
  unfold gathT
  rw [at1_val _ (by omega), show (16 * t.val + 2048 * k + (x 0).val) % 2048 = 16 * t.val + (x 0).val by omega,
    show (16 * t.val + 2048 * k + (x 0).val) / 2048 = k by omega]

variable [FloatOps F]

set_option maxHeartbeats 4000000 in
theorem trip (hix : ∀ d j, (ix d j).toNat < 4096) (t : Fin k0_t1_loop.trips) (u : Unit) :
    inv tb ix d L t.val u
      ⊢ wp frame (wpE (defs₀ (F := F)) 𝒱₀ (thrV d L) none) Set.univ
          (k0_t1_body L tV (Memref.isWhole_whole _) iV (Memref.isWhole_whole _) oV (Memref.isWhole_whole _)
            aT (Memref.isWhole_whole _) aI (Memref.isWhole_whole _) aO (Memref.isWhole_whole _)
            cc0_scoped0 cc0_scoped1 cc0_scoped2 cc0_scoped3 cc0_scoped4 cc0_scoped5 t u)
          (fun u' => inv tb ix d L (t.val + 1) u') := by
  have hl := lanes_lt ix d L hix t
  have hc1 : k0_chk1 (k0_pay2 (lanes ix d L t)) := chk_of _ _ (pay2_toNat ix d L hix t) fun x => by have := hl x; omega
  have hc2 : k0_chk2 (k0_pay3 (lanes ix d L t)) := chk_of _ _ (pay3_toNat ix d L hix t) fun x => by have := hl x; omega
  have hc3 : k0_chk3 (k0_pay4 (lanes ix d L t)) := chk_of _ _ (pay4_toNat ix d L hix t) fun x => by have := hl x; omega
  have hc4 : k0_chk4 (k0_pay5 (lanes ix d L t)) := chk_of _ _ (pay5_toNat ix d L hix t) fun x => by have := hl x; omega
  unfold inv k0_t1_body
  iintro ⟨HT, HI, %f, %hf, HO⟩
  sl_exec
  iapply (SparseCore.wp_vectorLoadIdx 𝒱₀ (thrV d L) none Set.univ (base := aT) (S := Finset.univ) (q := fullShare) (Finset.subset_univ _)) $$ HT; iintro HT
  sl_exec
  iapply (SparseCore.wp_vectorLoadIdx 𝒱₀ (thrV d L) none Set.univ (base := aT) (S := Finset.univ) (q := fullShare) (Finset.subset_univ _)) $$ HT; iintro HT
  sl_exec
  iapply (SparseCore.wp_vectorLoadIdx 𝒱₀ (thrV d L) none Set.univ (base := aT) (S := Finset.univ) (q := fullShare) (Finset.subset_univ _)) $$ HT; iintro HT
  sl_exec
  iapply (SparseCore.wp_vectorLoadIdx 𝒱₀ (thrV d L) none Set.univ (base := aT) (S := Finset.univ) (q := fullShare) (Finset.subset_univ _)) $$ HT; iintro HT
  sl_exec
  sl_step
  isplitl [HT]; · iexact HT
  isplitl [HI]; · iexact HI
  iexists _; isplitr
  swap; · iexact HO
  ipureintro
  have hT : View.read (Elt F) ((aT).access (Rect.whole cc0_scratch0.ty.shape)) (tb d) = tb d := Memref.read_access_whole _ _ _
  intro p hp
  refine (congrFun (View.read_whole (Val := Elt F) (b := cc0_scratch2) _) p).symm.trans ?_
  exact writes4 t f (gathT tb ix d L) _ _ _ _ hf (piece tb ix d L hix t 0 (by omega) _ (pay2_toNat ix d L hix t) _ hT _)
    (piece tb ix d L hix t 1 (by omega) _ (pay3_toNat ix d L hix t) _ hT _) (piece tb ix d L hix t 2 (by omega) _ (pay4_toNat ix d L hix t) _ hT _)
    (piece tb ix d L hix t 3 (by omega) _ (pay5_toNat ix d L hix t) _ hT _) p hp

abbrev cell0 (d : Dev nD) (L : grid0.Coords) : GSem nD τ sig := (thrV d L, .dma cc0_scoped0.sem)
abbrev cell1 (d : Dev nD) (L : grid0.Coords) : GSem nD τ sig := (thrV d L, .dma cc0_scoped1.sem)
abbrev cell2 (d : Dev nD) (L : grid0.Coords) : GSem nD τ sig := (thrV d L, .dma cc0_scoped2.sem)
abbrev cell3 (d : Dev nD) (L : grid0.Coords) : GSem nD τ sig := (thrV d L, .dma cc0_scoped3.sem)
abbrev cell4 (d : Dev nD) (L : grid0.Coords) : GSem nD τ sig := (thrV d L, .dma cc0_scoped4.sem)
abbrev cell5 (d : Dev nD) (L : grid0.Coords) : GSem nD τ sig := (thrV d L, .dma cc0_scoped5.sem)

omit [FloatOps F] in
/-- The tile's six semaphores at zero, and its others. -/
theorem ownSems0_V :
    (ownSems0 (thrV d L) : sProp 𝕄)
      = iprop(semVal (cell0 d L) 0 ∗ semVal (cell1 d L) 0 ∗ semVal (cell2 d L) 0 ∗ semVal (cell3 d L) 0 ∗ semVal (cell4 d L) 0 ∗ semVal (cell5 d L) 0
          ∗ bigSep ((((((((ownCells (thrV d L))).erase (cell0 d L)).erase (cell1 d L)).erase (cell2 d L)).erase (cell3 d L)).erase (cell4 d L)).erase (cell5 d L)) fun g => semVal g 0) := by
  unfold SparseCore.Cfg.ownSems0
  rw [SparseCore.bigSep_erase' ((mem_ownCells (g := cell0 d L)).mpr ⟨rfl, show (SemLoc.dma cc0_scoped0.sem : SemLoc sig).isScoped .scVector = true by decide⟩),
    SparseCore.bigSep_erase' (Finset.mem_erase.mpr ⟨by simp [cell0, cell1]; decide, (mem_ownCells (g := cell1 d L)).mpr ⟨rfl, show (SemLoc.dma cc0_scoped1.sem : SemLoc sig).isScoped .scVector = true by decide⟩⟩),
    SparseCore.bigSep_erase' (Finset.mem_erase.mpr ⟨by simp [cell1, cell2]; decide, Finset.mem_erase.mpr ⟨by simp [cell0, cell2]; decide, (mem_ownCells (g := cell2 d L)).mpr ⟨rfl, show (SemLoc.dma cc0_scoped2.sem : SemLoc sig).isScoped .scVector = true by decide⟩⟩⟩),
    SparseCore.bigSep_erase' (Finset.mem_erase.mpr ⟨by simp [cell2, cell3]; decide, Finset.mem_erase.mpr ⟨by simp [cell1, cell3]; decide, Finset.mem_erase.mpr ⟨by simp [cell0, cell3]; decide, (mem_ownCells (g := cell3 d L)).mpr ⟨rfl, show (SemLoc.dma cc0_scoped3.sem : SemLoc sig).isScoped .scVector = true by decide⟩⟩⟩⟩),
    SparseCore.bigSep_erase' (Finset.mem_erase.mpr ⟨by simp [cell3, cell4]; decide, Finset.mem_erase.mpr ⟨by simp [cell2, cell4]; decide, Finset.mem_erase.mpr ⟨by simp [cell1, cell4]; decide, Finset.mem_erase.mpr ⟨by simp [cell0, cell4]; decide, (mem_ownCells (g := cell4 d L)).mpr ⟨rfl, show (SemLoc.dma cc0_scoped4.sem : SemLoc sig).isScoped .scVector = true by decide⟩⟩⟩⟩⟩),
    SparseCore.bigSep_erase' (Finset.mem_erase.mpr ⟨by simp [cell4, cell5]; decide, Finset.mem_erase.mpr ⟨by simp [cell3, cell5]; decide, Finset.mem_erase.mpr ⟨by simp [cell2, cell5]; decide, Finset.mem_erase.mpr ⟨by simp [cell1, cell5]; decide, Finset.mem_erase.mpr ⟨by simp [cell0, cell5]; decide, (mem_ownCells (g := cell5 d L)).mpr ⟨rfl, show (SemLoc.dma cc0_scoped5.sem : SemLoc sig).isScoped .scVector = true by decide⟩⟩⟩⟩⟩⟩)]

omit [FloatOps F] in
/-- The tile's three scratch buffers, and its others. -/
theorem ownBufs_V :
    (ownBufs (thrV d L) : sProp 𝕄)
      = iprop((∃ f, (thrV d L).loc cc0_scratch0 ↦{fullShare} f) ∗ (∃ f, (thrV d L).loc cc0_scratch1 ↦{fullShare} f) ∗ (∃ f, (thrV d L).loc cc0_scratch2 ↦{fullShare} f)
          ∗ bigSep (((((ownRefs (τ := τ) (.scVector (cV L) (jV L)))).erase ((Proc.scVector (cV L) (jV L)).devRef cc0_scratch0)).erase ((Proc.scVector (cV L) (jV L)).devRef cc0_scratch1)).erase ((Proc.scVector (cV L) (jV L)).devRef cc0_scratch2)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩)]

omit [FloatOps F] in
/-- The tile's fetched indices are its part of the index array. -/
theorem ixT_eq : (iPc L).view.read (Elt F) (ix d) = (ixT ix d L : S2048.Idx → Elt F .i32) := by
  funext p
  refine (View.read_apply _ _).trans ((cast_eq _ _).trans ?_)
  unfold ixT
  congr 1
  have hw := wid_lt L
  have hp : (p 0).val < 2048 := (p 0).isLt
  refine (Rect.unit (s := S65536) (k0_off1 L) S2048.size (k0_off1_inb L)).emb_eq_of_coords p _ fun a => ?_
  match a with
  | ⟨0, _⟩ =>
    rw [show (⟨0, _⟩ : Fin S65536.rank) = 0 from rfl, at1_val _ (by show 2048 * ((L 1).val * 2 + (L 0).val) + (p 0).val < 65536; omega)]
    show _ = k0_off1 L 0 + 1 * (p 0).val
    rw [k0_off1_eq]
    show 2048 * ((L 1).val * 2 + (L 0).val) + (p 0).val = 4096 * (L 1).val + 2048 * (L 0).val + 1 * (p 0).val
    omega

omit [FloatOps F] in
/-- A piece of the output written with block `k` of the gathered scratch holds the output's gathered words. -/
theorem out_piece (k : Fin 4) (f : Buf (Elt F) (oLoc d)) (pay : S2048.Idx → Elt F .f32)
    (hpay : ∀ x : S2048.Idx, pay x = gathT tb ix d L (at1 (2048 * k.val + (x 0).val))) :
    ((oPc L k).view.loc (thrV d L) ↦[(oPc L k).view.set]{fullShare} (oPc L k).view.writes (Elt F) f [⟨Rect.whole S2048, pay⟩] : sProp 𝕄)
      = oPts tb ix d L k := by
  rw [← View.write_univ_eq_writes_whole (oPc L k).view f [] pay]
  refine pointsTo_congr fun i hi => ?_
  obtain ⟨x, -, rfl⟩ := Finset.mem_map.mp hi
  rw [View.write_emb_of_mem _ _ (Finset.mem_univ _)]
  refine (cast_eq _ _).trans ((hpay x).trans ?_)
  have hw := wid_lt L
  have hk := k.isLt
  have hx : (x 0).val < 2048 := (x 0).isLt
  have he : ((oPc L k).view.emb x 0).val = ((wid L).val / 8 * 4 + k.val) * 16384 + (wid L).val % 8 * 2048 + (x 0).val := by
    show k0_off7 L (BitVec.ofNat 32 k.val) 0 + 1 * (x 0).val = _
    rw [k0_off7_eq]
    show (((L 1).val * 2 + (L 0).val) / 8 * 4 + k.val) * 16384 + ((L 1).val * 2 + (L 0).val) % 8 * 2048 + 1 * (x 0).val = _
    rw [Nat.one_mul]
  show _ = gathered (tb d) (ix d) ((oPc L k).view.emb x)
  unfold gathT gathered ixT
  rw [at1_val (N := 8192) (2048 * k.val + (x 0).val) (by omega), he]
  have hw' : (wid L).val < 32 := hw
  have e0 : (at1 ((2048 * k.val + (x 0).val) % 2048) : S2048.Idx) = at1 (x 0).val := by congr 1; omega
  rw [e0, at1_val _ hx]
  generalize (wid L).val = w at hw' ⊢
  have e1 : (2048 * k.val + (x 0).val) / 2048 = k.val := by omega
  have e2 : ((w / 8 * 4 + k.val) * 16384 + w % 8 * 2048 + (x 0).val) / 65536 = w / 8 := by omega
  have e3 : ((w / 8 * 4 + k.val) * 16384 + w % 8 * 2048 + (x 0).val) % 16384 = w % 8 * 2048 + (x 0).val := by omega
  have e4 : ((w / 8 * 4 + k.val) * 16384 + w % 8 * 2048 + (x 0).val) / 16384 % 4 = k.val := by omega
  have e5 : w / 8 * 16384 + (w % 8 * 2048 + (x 0).val) = 2048 * w + (x 0).val := by omega
  rw [e1, e2, e3, e4, e5]

omit [FloatOps F] in
/-- Block `b` of the tile's scratch, as the write-outs read it. -/
theorem scratch_block (b : Nat) (inb : ∀ a, (![b] : Fin 1 → Nat) a + S2048.size a ≤ S8192.size a) (k : Fin 4) (hb : b = 2048 * k.val)
    (hst : ∀ a, (Rect.unit (s := S8192) ![b] S2048.size inb).stride a = 1)
    (f : S8192.Idx → Elt F .f32) (hf : ∀ p : S8192.Idx, f p = gathT tb ix d L p) (x : S2048.Idx) :
    ((aO).slice (Rect.unit (s := S8192) ![b] S2048.size inb) hst).view.read (Elt F) f x = gathT tb ix d L (at1 (2048 * k.val + (x 0).val)) := by
  refine (View.read_apply _ _).trans ((cast_eq _ _).trans ((hf _).trans ?_))
  have hx : (x 0).val < 2048 := (x 0).isLt
  have hk := k.isLt
  congr 1
  refine (Rect.unit (s := S8192) ![b] S2048.size inb).emb_eq_of_coords x _ fun a => ?_
  match a with
  | ⟨0, _⟩ =>
    rw [show (⟨0, _⟩ : Fin S8192.rank) = 0 from rfl, at1_val _ (by omega)]
    show _ = b + 1 * (x 0).val
    omega

/-- A piece of the output at a literal component word. -/
abbrev oPw (w : BitVec 32) (h : ∀ a, k0_off7 L w a + S2048.size a ≤ S262144.size a) : Memref sig .scVector .hbm S2048 .f32 :=
  (oV).slice (Rect.unit (s := S262144) (k0_off7 L w) S2048.size h) (fun _ => rfl)

/-- What a tile takes: its shares of the table and of the indices, its four pieces of the output. -/
abbrev goV : sProp 𝕄 := iprop(tPts tb d L ∗ iPts ix d L ∗ oAny d L 0 ∗ oAny d L 1 ∗ oAny d L 2 ∗ oAny d L 3)
/-- What it brings back: the same, its pieces at the gathered words. -/
abbrev tdV : sProp 𝕄 := iprop(tPts tb d L ∗ iPts ix d L ∗ oPts tb ix d L 0 ∗ oPts tb ix d L 1 ∗ oPts tb ix d L 2 ∗ oPts tb ix d L 3)

set_option maxHeartbeats 4000000 in
theorem tile_body (hF : (K (F := F)).Facts) (hix : ∀ d j, (ix d j).toNat < 4096) (O : CellTallies nD τ sig (HIx 1)) (W : Waits sig (HIx 1)) (hO : ∀ g, O g none = 0) :
    iprop(levAts (K (F := F)).L (K (F := F)).lev ∗ emp ∗ goV tb ix d L
        ∗ scopedBufs (thrV d L) ∗ scopedSems0 (thrV d L) ∗ owes (thrV d L) O W)
      ⊢ wp frame (wpE (defs₀ (F := F)) 𝒱₀ (thrV d L) none) Set.univ
          (cc0_k L tV (Memref.isWhole_whole _) iV (Memref.isWhole_whole _) oV (Memref.isWhole_whole _)
            aT (Memref.isWhole_whole _) aI (Memref.isWhole_whole _) aO (Memref.isWhole_whole _)
            cc0_scoped0 cc0_scoped1 cc0_scoped2 cc0_scoped3 cc0_scoped4 cc0_scoped5)
          fun _ => iprop(tdV tb ix d L ∗ scopedBufs (thrV d L) ∗ scopedSems0 (thrV d L)
            ∗ ∃ W', ⌜∀ p ∈ W', p ∈ W ∨ p.2 = none⌝ ∗ owes (thrV d L) O W') := by
  simp only [cc0_k_eq_skeleton]; unfold cc0_k_skel
  simp only [k0_part1_eq_skeleton, k0_part2_eq_skeleton]; unfold k0_part1_skel k0_part2_skel
  rw [(K (F := F)).scopedBufs_V hF d (cV L) (jV L), SparseCore.Cfg.scopedSems0_V (Val := Elt F) d (cV L) (jV L), ownSems0_V, ownBufs_V]
  iintro ⟨#Hlv, -, ⟨Ht, Hi, ⟨%o0, Ho0⟩, ⟨%o1, Ho1⟩, ⟨%o2, Ho2⟩, ⟨%o3, Ho3⟩⟩, ⟨⟨%fT, HT⟩, ⟨%fI, HI⟩, ⟨%fO, HO'⟩, Hbufs⟩, ⟨Hs0, Hs1, Hs2, Hs3, Hs4, Hs5, Hsems⟩, HO⟩
  ihave Hmw := (show levAts (K (F := F)).L (K (F := F)).lev ⊢ Transfers.MayWaits (thrV d L) (default : HIx 1) O from
    (K (F := F)).mayWaits_none (thr := thrV d L) hO) $$ Hlv
  ihave Ht' := (show _ ⊢ ((tV).view.loc (thrV d L) ↦{rq L} tb d : sProp 𝕄) from Entails.of_eq rfl) $$ Ht
  ihave Hi' := (show _ ⊢ ((iV).view.loc (thrV d L) ↦{rq L} ix d : sProp 𝕄) from Entails.of_eq rfl) $$ Hi
  ihave HT' := (show _ ⊢ ((aT).view.loc (thrV d L) ↦{fullShare} fT : sProp 𝕄) from Entails.of_eq rfl) $$ HT
  ihave HI' := (show _ ⊢ ((aI).view.loc (thrV d L) ↦{fullShare} fI : sProp 𝕄) from Entails.of_eq rfl) $$ HI
  ihave HO'' := (show _ ⊢ ((aO).view.loc (thrV d L) ↦{fullShare} fO : sProp 𝕄) from Entails.of_eq rfl) $$ HO'
  ihave Ho0' := (show (oLoc d ↦[oSet L 0]{fullShare} o0 : sProp 𝕄) ⊢ ((oPw L 0#32 (k0_off7_inb L 0)).view.loc (thrV d L) ↦[(oPw L 0#32 (k0_off7_inb L 0)).view.set]{fullShare} o0 : sProp 𝕄) from Entails.of_eq rfl) $$ Ho0
  ihave Ho1' := (show (oLoc d ↦[oSet L 1]{fullShare} o1 : sProp 𝕄) ⊢ ((oPw L 1#32 (k0_off7_inb L 1)).view.loc (thrV d L) ↦[(oPw L 1#32 (k0_off7_inb L 1)).view.set]{fullShare} o1 : sProp 𝕄) from Entails.of_eq rfl) $$ Ho1
  ihave Ho2' := (show (oLoc d ↦[oSet L 2]{fullShare} o2 : sProp 𝕄) ⊢ ((oPw L 2#32 (k0_off7_inb L 2)).view.loc (thrV d L) ↦[(oPw L 2#32 (k0_off7_inb L 2)).view.set]{fullShare} o2 : sProp 𝕄) from Entails.of_eq rfl) $$ Ho2
  ihave Ho3' := (show (oLoc d ↦[oSet L 3]{fullShare} o3 : sProp 𝕄) ⊢ ((oPw L 3#32 (k0_off7_inb L 3)).view.loc (thrV d L) ↦[(oPw L 3#32 (k0_off7_inb L 3)).view.set]{fullShare} o3 : sProp 𝕄) from Entails.of_eq rfl) $$ Ho3
  sl_exec
  ihave HT2 := (show _ ⊢ ((aT).view.loc (thrV d L) ↦{fullShare} (tb d : S16384.Idx → Elt F .f32) : sProp 𝕄) from
    Entails.of_eq (by rw [View.write_whole_univ]; rfl)) $$ HT'
  ihave HI2 := (show _ ⊢ ((aI).view.loc (thrV d L) ↦{fullShare} (ixT ix d L : S2048.Idx → Elt F .i32) : sProp 𝕄) from
    Entails.of_eq (by rw [View.write_whole_univ, ← ixT_eq]; rfl)) $$ HI'
  rw [bind_assoc]
  sl_for (inv tb ix d L) $$ [HT2 HI2 HO'']
  case region => intro t u; exact trip tb ix d L hix t u
  · unfold inv
    isplitl [HT2]; · iexact HT2
    isplitl [HI2]; · iexact HI2
    iexists _; isplitr
    swap; · iexact HO''
    ipureintro; intro p hp; omega
  iintro %_ HL
  unfold inv
  icases HL with ⟨HT2, HI2, %f, %hf, HO2⟩
  have hf' : ∀ p : S8192.Idx, f p = gathT tb ix d L p := fun p => hf p (by
    have : k0_t1_loop.trips = 128 := by decide
    show _ < 16 * k0_t1_loop.trips
    rw [this]; omega)
  sl_exec
  sl_step
  isplitl [Ht' Hi' Ho0' Ho1' Ho2' Ho3']
  · isplitl [Ht']; · iexact Ht'
    isplitl [Hi']; · iexact Hi'
    isplitl [Ho0']; · iapply (Entails.of_eq (out_piece tb ix d L 0 o0 _ (scratch_block tb ix d L 0 inb_S8192_S2048_0 0 rfl (fun _ => rfl) f hf'))); iexact Ho0'
    isplitl [Ho1']; · iapply (Entails.of_eq (out_piece tb ix d L 1 o1 _ (scratch_block tb ix d L 2048 inb_S8192_S2048_2048 1 rfl (fun _ => rfl) f hf'))); iexact Ho1'
    isplitl [Ho2']; · iapply (Entails.of_eq (out_piece tb ix d L 2 o2 _ (scratch_block tb ix d L 4096 inb_S8192_S2048_4096 2 rfl (fun _ => rfl) f hf'))); iexact Ho2'
    iapply (Entails.of_eq (out_piece tb ix d L 3 o3 _ (scratch_block tb ix d L 6144 inb_S8192_S2048_6144 3 rfl (fun _ => rfl) f hf'))); iexact Ho3'
  isplitl [HT2 HI2 HO2 Hbufs]
  · isplitl [HT2]; · iexists _; iexact HT2
    isplitl [HI2]; · iexists _; iexact HI2
    isplitl [HO2]; · iexists _; iexact HO2
    iexact Hbufs
  isplitl [Hs0 Hs1 Hs2 Hs3 Hs4 Hs5 Hsems]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Operands

/-! ## What the handshakes carry, and the tiles' obligation -/

def coordsV (c : Fin (grid0.bound 0)) (s : Fin (grid0.bound 1)) : grid0.Coords :=
  fun | 0 => c | 1 => s | ⟨_ + 2, h⟩ => absurd h (Nat.not_lt.2 (Nat.le_add_left _ _))

abbrev cN (c : Fin ((K (F := F)).nCore 0)) : Fin (grid0.bound 0) := ⟨c.val, c.isLt⟩
abbrev iN (i : Fin ((K (F := F)).nSub 0)) : Fin (grid0.bound 1) := ⟨i.val, i.isLt⟩

section Pays

variable (tb : (d : Dev nD) → Buf (Elt F) (tLoc d)) (ix : (d : Dev nD) → Buf (Elt F) (iLoc d))

/-- Each SparseCore takes what its sixteen tiles take and brings back what they bring back. -/
def P : (K (F := F)).Pay (nD := nD) (Val := Elt F) (Name := ℕ) (U := UU) where
  st := fun q d c => match q with | 0 => bigSep Finset.univ fun i : Fin ((K (F := F)).nSub 0) => goV tb ix d (coordsV (cN c) (iN i))
  dn := fun q d c => match q with | 0 => bigSep Finset.univ fun i : Fin ((K (F := F)).nSub 0) => tdV tb ix d (coordsV (cN c) (iN i))
  go := fun q d c i => match q with | 0 => goV tb ix d (coordsV (cN c) (iN i))
  td := fun q d c i => match q with | 0 => tdV tb ix d (coordsV (cN c) (iN i))
  x := fun _ _ => iprop(emp)

instance P_storable : (P tb ix).IsStorable where
  st q d c := match q with
    | 0 => (inferInstance : BI.Storable (upEmb : UEmb _ 𝕄) (bigSep Finset.univ fun i : Fin ((K (F := F)).nSub 0) => goV tb ix d (coordsV (cN c) (iN i))))
  dn q d c := match q with
    | 0 => (inferInstance : BI.Storable (upEmb : UEmb _ 𝕄) (bigSep Finset.univ fun i : Fin ((K (F := F)).nSub 0) => tdV tb ix d (coordsV (cN c) (iN i))))
  go q d c i := match q with
    | 0 => (inferInstance : BI.Storable (upEmb : UEmb _ 𝕄) (goV tb ix d (coordsV (cN c) (iN i))))
  td q d c i := match q with
    | 0 => (inferInstance : BI.Storable (upEmb : UEmb _ 𝕄) (tdV tb ix d (coordsV (cN c) (iN i))))

variable [FloatOps F]

theorem defs₀_vector (c : Fin τ.nSC) (s : Fin τ.nSub) :
    defs₀ (F := F) (.scVector c s) 0 ()
      = SparseCore.onTile hcore0 hsub0 (fun c s => cc0_k (coordsV c s) tV (Memref.isWhole_whole _) iV (Memref.isWhole_whole _) oV (Memref.isWhole_whole _)
            aT (Memref.isWhole_whole _) aI (Memref.isWhole_whole _) aO (Memref.isWhole_whole _)
            cc0_scoped0 cc0_scoped1 cc0_scoped2 cc0_scoped3 cc0_scoped4 cc0_scoped5) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hix : ∀ d j, (ix d j).toNat < 4096) : (K (F := F)).TileObl (D (F := F)) 𝒱 (P tb ix) v₀ 0 := by
  intro d c i O W hO _ _
  simp only [show (P tb ix).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body tb ix d (coordsV ⟨_, hci.1⟩ ⟨_, hci.2⟩) hF hix O W hO).trans (wp_mono frame _ _ fun _ => obl_post)

theorem vecSplit : (K (F := F)).VecSplit' (P tb ix) 0 := by
  intro d c
  iintro H
  imodintro
  isplitl [H]
  · iapply (Entails.of_eq (show (P tb ix).st 0 d c = (bigSep Finset.univ fun i => (P tb ix).go 0 d c i) from rfl)); iexact H
  · iintro H
    iapply (Entails.of_eq (show (bigSep Finset.univ fun i => (P tb ix).td 0 d c i) = (P tb ix).dn 0 d c from rfl)); iexact H

end Pays

end Cert.Proof.Look

end
-- ==== Proof.LookSplit.lean ====
/-
  The operands of the SparseCore call launched alone: the table and the indices, held whole, are the 32 tiles' read shares at once, and the output is its 128 pieces of
  2048 words, four a tile.
-/
module

public import proofs.«01_k».proof.Proof.Split
public import proofs.«01_k».proof.Proof.LookTile

@[expose] public section

noncomputable section

namespace Cert.Proof.Look

open Cert.LookupIdeal Cert.LookupIdeal.Gen
open Cert.Proof.Sc (at1 at1_val at1_self gathered tileEquiv)

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- The tile of SparseCore `c` and subcore `i`. -/
abbrev tileC (p : Fin 2 × Fin 16) : grid0.Coords := coordsV (show Fin (grid0.bound 0) from p.1) (show Fin (grid0.bound 1) from p.2)

theorem bigSep_tiles (Φ : grid0.Coords → sProp 𝕄) :
    (bigSep Finset.univ fun c : Fin ((K (F := F)).nCore 0) => bigSep Finset.univ fun i : Fin ((K (F := F)).nSub 0) => Φ (coordsV (cN c) (iN i)))
      = bigSep Finset.univ fun p : Fin 2 × Fin 16 => Φ (tileC p) := by
  exact (bigSep_univ_prod (fun p : Fin 2 × Fin 16 => Φ (tileC p))).symm

/-- A points-to at the full share is the tiles' shares at once. -/
theorem shares {ℓ : Loc nD τ sig} (f : Buf (Elt F) ℓ) :
    (ℓ ↦{fullShare} f : sProp 𝕄) = bigSep Finset.univ fun p : Fin 2 × Fin 16 => ℓ ↦{rq (tileC p)} f := by
  rw [ShareLeaves.pointsTo_leaves Finset.univ f 5 fullShare, bigSep_univ_equiv tileEquiv]
  exact bigSep_congr fun p _ => rfl

/-- Where the output's pieces lie. -/
theorem mem_oSet (p : Fin 2 × Fin 16) (k : Fin 4) (j : S262144.Idx) :
    j ∈ oSet (tileC p) k ↔ (j 0).val / 2048 = ((p.2.val * 2 + p.1.val) / 8 * 4 + k.val) * 8 + (p.2.val * 2 + p.1.val) % 8 := by
  have h1 : oSet (tileC p) k = (oRect (tileC p) k).set := by
    show ((View.whole (main_v1_scv : Ref sig .scVector)).slice (oRect (tileC p) k)).set = _
    rw [View.set_slice]; exact Finset.map_refl
  rw [h1]
  have e : k0_off7 (tileC p) (BitVec.ofNat 32 k.val) 0 = ((p.2.val * 2 + p.1.val) / 8 * 4 + k.val) * 16384 + (p.2.val * 2 + p.1.val) % 8 * 2048 := by
    rw [k0_off7_eq]; rfl
  refine (oRect (tileC p) k).mem_set.trans ⟨fun h => ?_, fun h a => ?_⟩
  · obtain ⟨x, hx, hj⟩ := h 0
    have hx' : x < 2048 := hx
    have hj' : (j 0).val = k0_off7 (tileC p) (BitVec.ofNat 32 k.val) 0 + 1 * x := hj
    omega
  · match a with
    | ⟨0, _⟩ =>
      refine ⟨(j 0).val % 2048, Nat.mod_lt _ (by omega), ?_⟩
      show (j 0).val = k0_off7 (tileC p) (BitVec.ofNat 32 k.val) 0 + 1 * ((j 0).val % 2048)
      omega

theorem oSets_disjoint : ∀ a ∈ (Finset.univ : Finset ((Fin 2 × Fin 16) × Fin 4)), ∀ b ∈ (Finset.univ : Finset ((Fin 2 × Fin 16) × Fin 4)), a ≠ b →
    Disjoint (oSet (tileC a.1) a.2) (oSet (tileC b.1) b.2) := by
  rintro ⟨⟨c, i⟩, k⟩ - ⟨⟨c', i'⟩, k'⟩ - hne
  refine Finset.disjoint_left.mpr fun j hj hj' => hne ?_
  have h := (mem_oSet _ _ _).mp hj
  have h' := (mem_oSet _ _ _).mp hj'
  simp only at h h'
  have := k.isLt; have := k'.isLt; have := c.isLt; have := c'.isLt; have := i.isLt; have := i'.isLt
  have e1 : c = c' := Fin.ext (by omega)
  have e2 : i = i' := Fin.ext (by omega)
  have e3 : k = k' := Fin.ext (by omega)
  rw [e1, e2, e3]

theorem oSets_cover : ((Finset.univ : Finset ((Fin 2 × Fin 16) × Fin 4)).biUnion fun a => oSet (tileC a.1) a.2) = (Finset.univ : Finset S262144.Idx) := by
  refine Finset.eq_univ_of_forall fun j => Finset.mem_biUnion.mpr ?_
  have hj : (j 0).val < 262144 := (j 0).isLt
  refine ⟨((⟨((j 0).val / 65536 * 8 + (j 0).val / 2048 % 8) % 2, by omega⟩, ⟨((j 0).val / 65536 * 8 + (j 0).val / 2048 % 8) / 2, by omega⟩),
    ⟨(j 0).val / 16384 % 4, by omega⟩), Finset.mem_univ _, (mem_oSet _ _ _).mpr ?_⟩
  show (j 0).val / 2048 = ((((j 0).val / 65536 * 8 + (j 0).val / 2048 % 8) / 2 * 2 + ((j 0).val / 65536 * 8 + (j 0).val / 2048 % 8) % 2) / 8 * 4
    + (j 0).val / 16384 % 4) * 8 + (((j 0).val / 65536 * 8 + (j 0).val / 2048 % 8) / 2 * 2 + ((j 0).val / 65536 * 8 + (j 0).val / 2048 % 8) % 2) % 8
  omega

theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

/-- The output held whole is its pieces at once. -/
theorem pieces (d : Dev nD) (f : Buf (Elt F) (oLoc d)) :
    (oLoc d ↦{fullShare} f : sProp 𝕄) = bigSep Finset.univ fun p : Fin 2 × Fin 16 => bigSep Finset.univ fun k : Fin 4 => oLoc d ↦[oSet (tileC p) k]{fullShare} f := by
  rw [← bigSep_univ_prod (fun a : (Fin 2 × Fin 16) × Fin 4 => (oLoc d ↦[oSet (tileC a.1) a.2]{fullShare} f : sProp 𝕄)),
    ← pointsTo_biUnion Finset.univ (ℓ := oLoc d) (fun a : (Fin 2 × Fin 16) × Fin 4 => oSet (tileC a.1) a.2) oSets_disjoint, oSets_cover]

variable (tb : (d : Dev nD) → Buf (Elt F) (tLoc d)) (ix : (d : Dev nD) → Buf (Elt F) (iLoc d))

/-- The call's operands, handed out. -/
theorem st_all (d : Dev nD) : iprop((tLoc d ↦{fullShare} tb d) ∗ (iLoc d ↦{fullShare} ix d) ∗ ∃ f : Buf (Elt F) (oLoc d), oLoc d ↦{fullShare} f)
    ⊢ (bigSep Finset.univ fun c : Fin ((K (F := F)).nCore 0) => (P tb ix).st 0 d c : sProp 𝕄) := by
  rw [show (bigSep Finset.univ fun c : Fin ((K (F := F)).nCore 0) => (P tb ix).st 0 d c : sProp 𝕄)
    = bigSep Finset.univ fun p : Fin 2 × Fin 16 => goV tb ix d (tileC p) from bigSep_tiles (F := F) (fun L => goV tb ix d L), shares (tb d), shares (ix d)]
  iintro ⟨Ht, Hi, %f, Ho⟩
  ihave Ho' := (Entails.of_eq (pieces d f)) $$ Ho
  rw [bigSep_sep', bigSep_sep']
  isplitl [Ht]; · iexact Ht
  isplitl [Hi]; · iexact Hi
  have h : ∀ p ∈ (Finset.univ : Finset (Fin 2 × Fin 16)), (bigSep Finset.univ fun k : Fin 4 => (oLoc d ↦[oSet (tileC p) k]{fullShare} f : sProp 𝕄))
      ⊢ iprop(oAny d (tileC p) 0 ∗ oAny d (tileC p) 1 ∗ oAny d (tileC p) 2 ∗ oAny d (tileC p) 3) := by
    intro p _
    rw [bigSep_four]
    iintro ⟨H0, H1, H2, H3⟩
    isplitl [H0]; · iexists f; iexact H0
    isplitl [H1]; · iexists f; iexact H1
    isplitl [H2]; · iexists f; iexact H2
    iexists f; iexact H3
  iapply (show (bigSep Finset.univ fun p : Fin 2 × Fin 16 => bigSep Finset.univ fun k : Fin 4 => (oLoc d ↦[oSet (tileC p) k]{fullShare} f : sProp 𝕄))
      ⊢ bigSep Finset.univ fun p : Fin 2 × Fin 16 => iprop(oAny d (tileC p) 0 ∗ oAny d (tileC p) 1 ∗ oAny d (tileC p) 2 ∗ oAny d (tileC p) 3) from
    bigSep_mono h)
  iexact Ho'

/-- And brought back, the output at the gathered words. -/
theorem dn_all (d : Dev nD) : (bigSep Finset.univ fun c : Fin ((K (F := F)).nCore 0) => (P tb ix).dn 0 d c : sProp 𝕄)
    = iprop((tLoc d ↦{fullShare} tb d) ∗ (iLoc d ↦{fullShare} ix d) ∗ oLoc d ↦{fullShare} oG tb ix d) := by
  rw [show (bigSep Finset.univ fun c : Fin ((K (F := F)).nCore 0) => (P tb ix).dn 0 d c : sProp 𝕄)
    = bigSep Finset.univ fun p : Fin 2 × Fin 16 => tdV tb ix d (tileC p) from bigSep_tiles (F := F) (fun L => tdV tb ix d L), shares (tb d), shares (ix d),
    bigSep_sep', bigSep_sep', pieces d (oG tb ix d)]
  congr 3
  exact funext fun p => (bigSep_four (F := F) (fun k => oPts tb ix d (tileC p) k)).symm

end Cert.Proof.Look

end
-- ==== Proof.LookLaunch.lean ====
/-
  The launch of the SparseCore call alone: @main on the TensorCore, the call in it, and the run of the whole mesh, its final buffers named. For
  any float values `F`, of a launch memory whose index argument names table rows.
-/
module

public import proofs.«01_k».proof.Proof.LookSplit
public import Idealize.ShloMosaic.Lib.StableHlo.Run
public import Idealize.ShloMosaic.Lib.Pipeline.FrameSuffix
public import Idealize.ShloMosaic.Lib.Pipeline.RegionArraysS

@[expose] public section

set_option maxRecDepth 16384

noncomputable section

namespace Cert.Proof.Look

open Cert.LookupIdeal Cert.LookupIdeal.Gen

open Idealize.ShloMosaic Idealize.ShloMosaic.TcCoe
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The host stretches of @main -/

/-- Host stretch 0 of @main. -/
abbrev ops0 : List (HloOp τ sig (Elt F)) :=
  [ StableHlo.reshape main_arg1 main_v0 (rfl : (.f32 : EltTy) = .f32) shapeCasts_S4096x4_S16384 ]
theorem ops0_sub : (ops0 : List (HloOp τ sig (Elt F))).Forall fun op => op.bufs ⊆ StableHlo.tcRefs τ sig :=
  StableHlo.reshape_bufs_sub ..
theorem ops0_fresh : ∀ op ∈ (ops0 : List (HloOp τ sig (Elt F))), op.fresh = ∅ := by
  intro _ h; (repeat (cases h with | head => rfl | tail _ h => ?_)); exact nomatch h

/-- Host stretch 1 of @main. -/
abbrev ops1 : List (HloOp τ sig (Elt F)) :=
  [ StableHlo.reshape main_v1 main_v2 (rfl : (.f32 : EltTy) = .f32) shapeCasts_S262144_S4x4x16384,
    StableHlo.unary main_arg0 main_v3 ((transpose S4x4x16384 [0, 2, 1] · transposes_S4x16384x4_S4x4x16384_0_2_1) : (⟨S4x16384x4, .f32⟩ : BufTy).Contents (Elt F) → (⟨S4x4x16384, .f32⟩ : BufTy).Contents (Elt F)),
    StableHlo.binary main_v2 main_v3 main_v4 (subf : (⟨S4x4x16384, .f32⟩ : BufTy).Contents (Elt F) → (⟨S4x4x16384, .f32⟩ : BufTy).Contents (Elt F) → (⟨S4x4x16384, .f32⟩ : BufTy).Contents (Elt F)),
    StableHlo.binary main_v3 main_v4 main_v5 (addf : (⟨S4x4x16384, .f32⟩ : BufTy).Contents (Elt F) → (⟨S4x4x16384, .f32⟩ : BufTy).Contents (Elt F) → (⟨S4x4x16384, .f32⟩ : BufTy).Contents (Elt F)),
    StableHlo.unary main_v5 main_v6 ((transpose S4x16384x4 [0, 2, 1] · transposes_S4x4x16384_S4x16384x4_0_2_1) : (⟨S4x4x16384, .f32⟩ : BufTy).Contents (Elt F) → (⟨S4x16384x4, .f32⟩ : BufTy).Contents (Elt F)) ]
theorem ops1_sub : (ops1 : List (HloOp τ sig (Elt F))).Forall fun op => op.bufs ⊆ StableHlo.tcRefs τ sig :=
  ⟨StableHlo.reshape_bufs_sub .., StableHlo.unary_bufs_sub .., StableHlo.binary_bufs_sub .., StableHlo.binary_bufs_sub .., StableHlo.unary_bufs_sub ..⟩
theorem ops1_fresh : ∀ op ∈ (ops1 : List (HloOp τ sig (Elt F))), op.fresh = ∅ := by
  intro _ h; (repeat (cases h with | head => rfl | tail _ h => ?_)); exact nomatch h

/-- @main is its host stretches around the call. -/
theorem main_eq (d : Dev nD) : main (F := F) d
    = (StableHlo.seq ops0 >>= fun _ => (K (F := F)).run d 0 >>= fun _ => StableHlo.seq ops1) := by
  rfl

/-! ## The contents along @main -/

section Run

variable (m : (ℓ : Loc nD τ sig) → Buf (Elt F) ℓ) (ρ : Dev nD → PrngReg)

/-- At launch; -/
def V0 (d : Dev nD) : Valuation τ sig (Elt F) := fun b => m (d, b)
/-- at the call; -/
def V1 (d : Dev nD) : Valuation τ sig (Elt F) := StableHlo.after ops0 (V0 m d)
/-- the table and the indices it is passed; -/
def tbM (d : Dev nD) : Buf (Elt F) (tLoc d) := V1 m d (Proc.devRef .tc main_v0)
def ixM (d : Dev nD) : Buf (Elt F) (iLoc d) := V1 m d (Proc.devRef .tc main_arg2)
/-- after it; -/
def V2 (d : Dev nD) : Valuation τ sig (Elt F) := Function.update (V1 m d) (Proc.devRef .tc main_v1) (oG (tbM m) (ixM m) d)
/-- at the return. -/
def V3 (d : Dev nD) : Valuation τ sig (Elt F) := StableHlo.after ops1 (V2 m d)

/-- The launch element of the ghost state. -/
def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ (tb : (d : Dev nD) → Buf (Elt F) (tLoc d)) (ix : (d : Dev nD) → Buf (Elt F) (iLoc d)) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P tb ix).x q thr) := by
  unfold u₀
  iintro Hu
  ihave H := (ownU_pair (initOf (K (F := F)).hsCells (K (F := F)).hsToks) (1 : Counters)) $$ Hu
  icases H with ⟨HH, -⟩
  imodintro
  isplitl [HH]; · iexact HH
  rw [show (bigSep Finset.univ fun thr : Thread nD τ => bigSep Finset.univ fun q : Fin 1 => (P (F := F) tb ix).x q thr) = bigSep Finset.univ fun _ => iprop(emp) from
    bigSep_congr fun _ _ => bigSep_univ_of_subsingleton (0 : Fin 1), bigSep_emp', bigSep_emp']
  isplitl <;> iempintro

/-! ## @main on the TensorCore -/

/-- The call's three buffers. -/
abbrev scRefs : Finset (DevRef τ sig) := {Proc.devRef .tc main_v0, Proc.devRef .tc main_arg2, Proc.devRef .tc main_v1}

theorem scRefs_sub : scRefs ⊆ Pipeline.ucRefs τ sig := by decide

/-- What a TensorCore ends with: every one of its unscoped buffers, at the contents at the return. -/
abbrev FIN (d : Dev nD) : sProp 𝕄 := StableHlo.held (T d) (Pipeline.ucRefs τ sig) (V3 m d)

theorem held_sc (d : Dev nD) (W : Valuation τ sig (Elt F)) : (StableHlo.held (T d) scRefs W : sProp 𝕄)
    = iprop((tLoc d ↦{fullShare} W (Proc.devRef .tc main_v0)) ∗ (iLoc d ↦{fullShare} W (Proc.devRef .tc main_arg2)) ∗ oLoc d ↦{fullShare} W (Proc.devRef .tc main_v1)) := by
  unfold StableHlo.held scRefs
  rw [SparseCore.bigSep_insert' (by decide), SparseCore.bigSep_insert' (by decide), bigSep_singleton]

theorem bufs_eq (d : Dev nD) : (unscopedBufs d (fun b => m ((SparseCore.T d).loc b)) : sProp 𝕄) = StableHlo.held (T d) (Pipeline.ucRefs τ sig) (V0 m d) :=
  Pipeline.unscopedBufs_held (Ix := HIx 1) (Name := ℕ) (U := UU) (Lvl := ℕ) d (V0 m d)

set_option backward.isDefEq.respectTransparency.types false in
theorem hmain (κ : GSem nD τ sig → ℕ) (d : Dev nD) :
    iprop((K (F := F)).ctx EH (P (tbM m) (ixM m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [bufs_eq, main_eq]
  iintro ⟨#Hctx, Hst, ⟨Hb, Hbuf, Hts, -⟩, -⟩
  iapply (StableHlo.wp_seq 𝒱 none Set.univ d (Pipeline.ucRefs τ sig) _ ops0
    (fun op h => Pipeline.sub_ucRefs op ((List.forall_iff_forall_mem.mp ops0_sub) op h)) ops0_fresh (V0 m d)) $$ [Hb Hbuf]
  · isplitl [Hb] <;> iassumption
  iintro ⟨Hb, Hbuf⟩
  rw [wp_bind]
  ihave Hbuf := (Entails.of_eq (show (StableHlo.held (d.tc : Thread nD τ) (Pipeline.ucRefs τ sig) (StableHlo.after ops0 (V0 m d)) : sProp 𝕄)
    = StableHlo.held (T d) (Pipeline.ucRefs τ sig) (V1 m d) from rfl)) $$ Hbuf
  ihave Hbuf' := (Entails.of_eq (StableHlo.held_sub_split (T d) scRefs_sub (V1 m d))) $$ Hbuf
  icases Hbuf' with ⟨Hsc, Hrest⟩
  ihave Hsc' := (Entails.of_eq (held_sc d (V1 m d))) $$ Hsc
  icases Hsc' with ⟨Ht, Hi, Ho⟩
  iapply ((K (F := F)).wp_run (D (F := F)) 𝒱 (EH := EH) (P := P (tbM m) (ixM m)) κ d 0)
  isplitr; · iexact Hctx
  isplitl [Hst]; · iexact Hst
  isplitl [Ht Hi Ho]
  · iapply (st_all (tbM m) (ixM m) d)
    isplitl [Ht]; · iexact Ht
    isplitl [Hi]; · iexact Hi
    iexists _; iexact Ho
  iintro ⟨Hst, Hdn⟩
  ihave Hdn' := (Entails.of_eq (dn_all (tbM m) (ixM m) d)) $$ Hdn
  ihave Hsc := (Entails.of_eq (show iprop((tLoc d ↦{fullShare} tbM m d) ∗ (iLoc d ↦{fullShare} ixM m d) ∗ oLoc d ↦{fullShare} oG (tbM m) (ixM m) d)
    = (StableHlo.held (T d) scRefs (V2 m d) : sProp 𝕄) from by
      rw [held_sc]
      unfold V2
      rw [Function.update_self, Function.update_of_ne (by decide), Function.update_of_ne (by decide)]
      rfl)) $$ Hdn'
  ihave Hrest' := (Entails.of_eq (StableHlo.held_congr (T d) (S := Pipeline.ucRefs τ sig \ scRefs) (V := V1 m d) (V' := V2 m d) (fun b hb => by
      unfold V2
      rw [Function.update_of_ne]
      rintro rfl
      exact (Finset.mem_sdiff.mp hb).2 (by decide)))) $$ Hrest
  ihave Hbuf := (Entails.of_eq (StableHlo.held_sub_split (T d) scRefs_sub (V2 m d)).symm) $$ [Hsc Hrest']
  · isplitl [Hsc] <;> iassumption
  rw [show (StableHlo.seq (ops1 (F := F)) : Prog (TpuEff nD τ sig (Elt F) (SparseCore.Sig (ΛP (F := F)) 1) .tc) PUnit) = (StableHlo.seq ops1 >>= fun x => pure x) from (bind_pure _).symm]
  iapply (StableHlo.wp_seq 𝒱 none Set.univ d (Pipeline.ucRefs τ sig) _ ops1
    (fun op h => Pipeline.sub_ucRefs op ((List.forall_iff_forall_mem.mp ops1_sub) op h)) ops1_fresh (V2 m d)) $$ [Hb Hbuf]
  · isplitl [Hb] <;> iassumption
  iintro ⟨Hb, Hbuf⟩
  rw [wp_pure]
  imodintro
  isplitl [Hst]; · iexact Hst
  isplitl [Hbuf]; · iexact Hbuf
  isplitl [Hb] <;> iassumption

def fq (d : Dev nD) (s' : Phys nD τ sig (Elt F)) : Prop := ∀ b ∈ Pipeline.ucRefs τ sig, s'.mem.mem (d, b) = V3 m d b

theorem hfin (d : Dev nD) (s' : Phys nD τ sig (Elt F)) : iprop(FIN m d ∗ SI s') ⊢ (⌜fq m d s'⌝ : sProp 𝕄) := by
  iintro ⟨HF, HSI⟩
  ihave H := (pointsTo_read_all (Pipeline.ucRefs τ sig) (fun b => (d, b)) (V3 m d) s') $$ [HF HSI]
  · isplitl [HF]
    · unfold FIN StableHlo.held; iexact HF
    iexact HSI
  icases H with ⟨%h, -⟩
  ipureintro; exact h

/-! ## The program's run -/

def QC : PUnit × MemSt nD τ sig (Elt F) → Prop := fun r => (∀ c : Dev nD, ∀ b ∈ Pipeline.ucRefs τ sig, r.2.mem (c, b) = V3 m c b) ∧ r.2.sem = fun _ => 0

theorem run_main [∀ e, Nonempty (Elt F e)] (hix : ∀ d j, (ixM m d j).toNat < 4096) :
    θ_run (Cert.LookupIdeal.defs (F := F)) (Cert.LookupIdeal.threads (F := F)) ⟨m, fun _ => 0, ρ⟩ (QC m) :=
  SparseCore.Cfg.θ_run_sc_quiescent (K := K (F := F)) (D := D (F := F)) (𝒱 := 𝒱) (EH := EH) (P := P (tbM m) (ixM m)) (A := ∅) facts v₀
    (fun q hq => match q with | 0 => nomatch hq)
    (fun q _ => match q with | 0 => tileObl (tbM m) (ixM m) facts hix)
    (fun q _ => match q with | 0 => SparseCore.Cfg.VecSplit.of_plain (vecSplit (tbM m) (ixM m)))
    m ρ main (fun _ => iprop(emp)) (FIN m) (u₀ (F := F)) (sep_elim_left.trans (hu₀ (tbM m) (ixM m))) (hmain m ρ) (fq m) (hfin m) (QC m) (fun _ h hz => ⟨h, hz⟩)

end Run

end Cert.Proof.Look

end
-- ==== Proof.LookRef.lean ====
/-
  What the lookup's reference leaves in its result, for any float values: the `take` of the codebook at the given indices, taken straight through.
-/
module

public import proofs.«01_k».proof.Proof.Gen.LookupReferenceIdeal
public import proofs.«01_k».proof.Proof.RefValue

@[expose] public section

set_option maxRecDepth 16384

noncomputable section

namespace Cert.Proof.LookRef

open Cert.LookupReferenceIdeal Cert.LookupReferenceIdeal.Gen
open Idealize.ShloMosaic Idealize.ShloMosaic.TcCoe
open Idealize.SL.Sem

variable {F : FTy → Type} [FloatOps F]

/-- The operations of the `take`. -/
def opsT : List (HloOp τ sig (Elt F)) :=
  [StableHlo.TRef.nullary main_call0.c (constantI S_ 32 0#32),
   StableHlo.TRef.unary main_call0.c main_call0.v0 (broadcastInDim S65536 ![] bcast_S_S65536),
   StableHlo.TRef.binary (.of main_arg2) main_call0.v0 main_call0.v1 (cmpi .slt),
   StableHlo.TRef.nullary main_call0.c_0 (constantI S_ 32 4096#32),
   StableHlo.TRef.unary main_call0.c_0 main_call0.v2 (broadcastInDim S65536 ![] bcast_S_S65536),
   StableHlo.TRef.binary (.of main_arg2) main_call0.v2 main_call0.v3 addi,
   StableHlo.TRef.ternary main_call0.v1 main_call0.v3 (.of main_arg2) main_call0_call0.v0 select,
   StableHlo.TRef.unary main_call0.call0.v0 main_call0.v5 (broadcastInDim S65536x1 ![0] bcast_S65536_S65536x1_0),
   StableHlo.TRef.nullary main_call0.c_1 (constantI S1 32 4095#32),
   StableHlo.TRef.nullary main_call0.c_2 (constantI S_ 32 0#32),
   StableHlo.TRef.unary main_call0.c_2 main_call0.v6 (broadcastInDim S65536x1 ![] bcast_S_S65536x1),
   StableHlo.TRef.binary main_call0.v5 main_call0.v6 main_call0.v7 (cmpi .sge),
   StableHlo.TRef.unary main_call0.c_1 main_call0.v8 (broadcastInDim S1x1 ![1] bcast_S1_S1x1_1),
   StableHlo.TRef.unary main_call0.v8 main_call0.v9 (broadcastInDim S65536x1 ![0, 1] bcast_S1x1_S65536x1_0_1),
   StableHlo.TRef.binary main_call0.v5 main_call0.v9 main_call0.v10 (cmpi .sle),
   StableHlo.TRef.binary main_call0.v7 main_call0.v10 main_call0.v11 andi,
   StableHlo.TRef.nullary main_call0.c_3 (constantI S_ 1 1#1),
   StableHlo.TRef.binary main_call0.v11 main_call0.c_3 main_call0.v12 (fun x v => Host.reduce IntOp.andi x v reducesTo_S65536x1_S65536_d1 h_S_),
   StableHlo.TRef.binary (.of main_arg1) main_call0.v5 main_call0.v13 (fun x i => Host.gather gather_S4096x4_S65536x1_S65536x4_1_0_n_n_0_1_14 x i),
   StableHlo.TRef.unary main_call0.v12 main_call0.v14 (broadcastInDim S65536x4 ![0] bcast_S65536_S65536x4_0),
   StableHlo.TRef.nullary main_call0.cst (constant S_ .f32 0x7FC00000#32),
   StableHlo.TRef.unary main_call0.cst main_call0.v15 (broadcastInDim S65536x4 ![] bcast_S_S65536x4),
   StableHlo.TRef.ternary main_call0.v14 main_call0.v13 main_call0.v15 main_call0.v16 select]

/-- The operations after the `take`. -/
def opsC : List (HloOp τ sig (Elt F)) :=
  [StableHlo.reshape main_v0 main_v1 (rfl : (.f32 : EltTy) = .f32) shapeCasts_S65536x4_S4x16384x4,
   StableHlo.binary main_v1 main_arg0 main_v2 (subf : (⟨S4x16384x4, .f32⟩ : BufTy).Contents (Elt F) → (⟨S4x16384x4, .f32⟩ : BufTy).Contents (Elt F) → (⟨S4x16384x4, .f32⟩ : BufTy).Contents (Elt F)),
   StableHlo.binary main_arg0 main_v2 main_v3 (addf : (⟨S4x16384x4, .f32⟩ : BufTy).Contents (Elt F) → (⟨S4x16384x4, .f32⟩ : BufTy).Contents (Elt F) → (⟨S4x16384x4, .f32⟩ : BufTy).Contents (Elt F))]

theorem after_app (l₁ l₂ : List (HloOp τ sig (Elt F))) (V) :
    StableHlo.after (l₁ ++ l₂) V = StableHlo.after l₂ (StableHlo.after l₁ V) := by
  induction l₁ generalizing V with
  | nil => rfl
  | cons a l ih => simp only [List.cons_append, StableHlo.after_cons, ih]

theorem main_eq (d : Dev nD) : main (F := F) d = StableHlo.seq (opsT ++ opsC) := by
  rfl

/-- The two programs gather the codebook's rows by the same dimension numbers. -/
theorem gather_eq : gather_S4096x4_S65536x1_S65536x4_1_0_n_n_0_1_14
    = Cert.ReferenceIdeal.gather_S4096x4_S65536x1_S65536x4_1_0_n_n_0_1_14 := rfl

section Reads
variable (V : Valuation τ sig (Elt F))

theorem readT : StableHlo.after opsT V (Proc.devRef .tc main_v0)
    = Ref.takeT (F := F) (V (Proc.devRef .tc main_arg1)) (V (Proc.devRef .tc main_arg2)) := by
  unfold opsT
  after_reads_simp
  simp only [StableHlo.TRef.ofBuf_toBuf]
  simp -implicitDefEqProofs only [StableHlo.TRef.toBuf, StableHlo.TRef.ofBuf, cast_cast, cast_eq]
  unfold Ref.takeT Ref.insideT Ref.wrapT
  rw [gather_eq]

theorem keepT : StableHlo.after opsT V (Proc.devRef .tc main_arg0) = V (Proc.devRef .tc main_arg0)
    ∧ StableHlo.after opsT V (Proc.devRef .tc main_arg1) = V (Proc.devRef .tc main_arg1)
    ∧ StableHlo.after opsT V (Proc.devRef .tc main_arg2) = V (Proc.devRef .tc main_arg2) := by
  unfold opsT
  refine ⟨?_, ?_, ?_⟩ <;> after_reads_simp

theorem readC : StableHlo.after opsC V (Proc.devRef .tc main_v3)
      = Ref.quantT (F := F) (V (Proc.devRef .tc main_arg0)) (V (Proc.devRef .tc main_v0))
    ∧ StableHlo.after opsC V (Proc.devRef .tc main_arg0) = V (Proc.devRef .tc main_arg0)
    ∧ StableHlo.after opsC V (Proc.devRef .tc main_arg1) = V (Proc.devRef .tc main_arg1)
    ∧ StableHlo.after opsC V (Proc.devRef .tc main_arg2) = V (Proc.devRef .tc main_arg2) := by
  unfold opsC
  refine ⟨?_, ?_, ?_, ?_⟩ <;> after_reads_simp <;> rfl

end Reads

variable (m : (ℓ : Loc nD τ sig) → Buf (Elt F) ℓ) (g : Dev nD → PrngReg)

/-- The lookup's reference: its result is that function of its arguments, the arguments are unchanged, and every
    semaphore counter is zero. -/
theorem run_lookup_reference : θ_run (defs (F := F)) (onTc (τ := τ) (main (F := F))) ⟨m, fun _ => 0, g⟩ fun r =>
    (∀ c : Dev nD,
      r.2.mem (c.tc.loc main_v3)
        = Ref.quantT (F := F) (m (c.tc.loc main_arg0)) (Ref.takeT (F := F) (m (c.tc.loc main_arg1)) (m (c.tc.loc main_arg2)))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)) ∧ r.2.sem = fun _ => 0 := by
  refine θ_run_mono (StableHlo.run_hlo (defs (F := F)) _ main_eq (by decide) (by decide) (by simp [opsT, opsC])
    (by intro _ h; (repeat (cases h with | head => rfl | tail _ h => ?_)); exact nomatch h) m g) ?_
  intro r hr
  refine ⟨fun c => ?_, sem_eq_zero_of_no_sems (by decide) r.2⟩
  have hV : ∀ b : Idealize.ShloMosaic.Ref sig .tc, r.2.mem (c.tc.loc b) = StableHlo.after opsC (StableHlo.after opsT
      (StableHlo.launchContents m c)) (Proc.devRef .tc b) := fun b => by
    rw [hr c, after_app]
  obtain ⟨W, hW⟩ : ∃ W, W = StableHlo.launchContents m c := ⟨_, rfl⟩
  rw [← hW] at hV
  obtain ⟨h1, h2, h3, h4⟩ := readC (StableHlo.after opsT W)
  rw [hV, hV, hV, hV, h1, h2, h3, h4, (keepT _).1, (keepT _).2.1, (keepT _).2.2, readT]
  subst hW
  exact ⟨rfl, rfl, rfl, rfl⟩

end Cert.Proof.LookRef

end
-- ==== Proof.LookFinal.lean ====
/-
  What the lookup's result holds after its run, for any float values, and that its reference leaves the same.
-/
module

public import proofs.«01_k».proof.Proof.LookLaunch
public import proofs.«01_k».proof.Proof.LookRef
public import proofs.«01_k».proof.Proof.Gen.Pre_rows
public import Idealize.ShloMosaic.Lib.StableHlo.ReadAt

@[expose] public section

set_option maxRecDepth 16384

noncomputable section

namespace Cert.Proof.Look

open Cert.LookupIdeal Cert.LookupIdeal.Gen
open Idealize.ShloMosaic Idealize.ShloMosaic.TcCoe
open Idealize.SL.Sem

/-- A 32-bit word between 0 and 4096, as a signed number, is a row's number. -/
theorem row_of_cmp (w : BitVec 32) (h1 : IntOp.cmpi .sge w 0#32 = 1#1) (h2 : IntOp.cmpi .slt w 4096#32 = 1#1) : w.toNat < 4096 := by
  have h1 : BitVec.ofBool (decide ((0#32).toInt ≤ w.toInt)) = 1#1 := h1
  have h2 : BitVec.ofBool (decide (w.toInt < (4096#32).toInt)) = 1#1 := h2
  have h1 : (0#32).toInt ≤ w.toInt := by
    by_contra hn
    rw [decide_eq_false hn] at h1
    exact absurd h1 (by decide)
  have h2 : w.toInt < (4096#32).toInt := by
    by_contra hn
    rw [decide_eq_false hn] at h2
    exact absurd h2 (by decide)
  rw [show (0#32).toInt = 0 from rfl, BitVec.toInt_eq_toNat_cond] at h1
  rw [show (4096#32).toInt = 4096 from rfl, BitVec.toInt_eq_toNat_cond] at h2
  split at h1 <;> rename_i h <;> simp only [h, if_true, if_false] at h2 <;> omega

/-- What the claims' precondition says: every index is a row's number. -/
theorem rows_lt {F : FTy → Type} [FloatOps F] (X : FVec F Cert.Pre_rows.S4x16384x4 .f32) (C : FVec F Cert.Pre_rows.S4096x4 .f32) (I : IVec Cert.Pre_rows.S65536 32)
    (h : Cert.Pre_rows.fn (F := F) X C I = fun _ => 1#1) (j : Cert.Pre_rows.S65536.Idx) : (I j).toNat < 4096 := by
  have hs : Subsingleton Cert.Pre_rows.S_.Idx := ⟨fun a b => funext fun i => i.elim0⟩
  have h0 := congrFun h (Shape.Idx.first Cert.Pre_rows.Gen.h_S_)
  unfold Cert.Pre_rows.fn at h0
  obtain ⟨h1, h2⟩ := IntOp.andi_eq_one.1 (Host.reduce_andi_all _ _ _ _ _ h0 j)
  exact row_of_cmp _ h1 h2

variable {F : FTy → Type} [FloatOps F]

/-- The lookup: each token plus the difference of its indexed codeword and itself. -/
def lookV (X : FVec F S4x16384x4 .f32) (C : FVec F S4096x4 .f32) (I : IVec S65536 32) : FVec F S4x16384x4 .f32 := fun i =>
  FloatOps.addf (X i) (FloatOps.subf (C (ix2 (Fin.ofNat 4096 (I (ix1 (Fin.ofNat 65536 ((i 0).val * 16384 + (i 1).val)))).toNat) (i 2))) (X i))

variable (m : (ℓ : Loc nD τ sig) → Buf (Elt F) ℓ) (d : Dev nD)

/-- The arguments at launch. -/
def X : FVec F S4x16384x4 .f32 := m (d.tc.loc main_arg0)
def C : FVec F S4096x4 .f32 := m (d.tc.loc main_arg1)
def I : IVec S65536 32 := m (d.tc.loc main_arg2)

theorem V1_arg0 : V1 m d (Proc.devRef .tc main_arg0) = m (d.tc.loc main_arg0) := by
  unfold V1
  after_reads_simp
  rfl

theorem V1_arg1 : V1 m d (Proc.devRef .tc main_arg1) = m (d.tc.loc main_arg1) := by
  unfold V1
  after_reads_simp
  rfl

theorem ixM_eq : ixM m d = I m d := by
  unfold ixM V1
  after_reads_simp
  rfl

theorem tbM_apply (j : Fin 16384) : tbM m d (ix1 j) = C m d (ix2 (Fin.ofNat 4096 (j.val / 4)) (Fin.ofNat 4 j.val)) := by
  unfold tbM V1
  after_reads_at
  refine congrArg (fun a => C m d (ix2 a (Fin.ofNat 4 j.val))) (Fin.ext ?_)
  have := j.isLt
  show j.val / 4 = j.val / 4 % 4096
  omega

theorem V2_of_ne (b : Ref sig .tc) (h : b ≠ main_v1) : V2 m d (Proc.devRef .tc b) = V1 m d (Proc.devRef .tc b) :=
  Function.update_of_ne (fun e => h (Proc.devRef_injective _ e)) _ _

theorem V2_v1 (n : Fin 262144) (hI : ∀ j, (I m d j).toNat < 4096) : V2 m d (Proc.devRef .tc main_v1) (ix1 n)
    = C m d (ix2 (Fin.ofNat 4096 (I m d (ix1 (Fin.ofNat 65536 (n.val / 65536 * 16384 + n.val % 16384)))).toNat) (Fin.ofNat 4 (n.val / 16384))) := by
  have e : V2 m d (Proc.devRef .tc main_v1) = oG (tbM m) (ixM m) d := Function.update_self _ _ _
  refine (congrFun e (ix1 n)).trans ?_
  show tbM m d (ix1 (Fin.ofNat 16384 ((ixM m d (ix1 (Fin.ofNat 65536 (n.val / 65536 * 16384 + n.val % 16384)))).toNat * 4 + n.val / 16384 % 4))) = _
  rw [tbM_apply, ixM_eq]
  have hb := hI (ix1 (Fin.ofNat 65536 (n.val / 65536 * 16384 + n.val % 16384)))
  generalize (I m d (ix1 (Fin.ofNat 65536 (n.val / 65536 * 16384 + n.val % 16384)))).toNat = b at hb ⊢
  refine congrArg₂ (fun a k => C m d (ix2 a k)) (Fin.ext ?_) (Fin.ext ?_)
  · show (b * 4 + n.val / 16384 % 4) % 16384 / 4 % 4096 = b % 4096
    omega
  · show (b * 4 + n.val / 16384 % 4) % 16384 % 4 = n.val / 16384 % 4
    omega

theorem V3_v6 (hI : ∀ j, (I m d j).toNat < 4096) : V3 m d (Proc.devRef .tc main_v6) = lookV (X m d) (C m d) (I m d) := by
  funext i
  idx_vars i
  unfold V3
  after_reads_at
  rw [V2_v1 m d _ hI, V2_of_ne m d main_arg0 (by decide), V1_arg0]
  have h1 := i1.isLt
  have h2 := i2.isLt
  refine congrArg₂ (fun n k => FloatOps.addf (X m d (ix3 i0 i1 i2)) (FloatOps.subf (C m d (ix2 (Fin.ofNat 4096 (I m d (ix1 n)).toNat) k)) (X m d (ix3 i0 i1 i2))))
    (congrArg (Fin.ofNat 65536) ?_) (Fin.ext ?_)
  · show (i0.val * 65536 + i2.val * 16384 + i1.val) / 65536 * 16384 + (i0.val * 65536 + i2.val * 16384 + i1.val) % 16384 = i0.val * 16384 + i1.val
    omega
  · show (i0.val * 65536 + i2.val * 16384 + i1.val) / 16384 % 4 = i2.val
    omega

theorem V3_arg0 : V3 m d (Proc.devRef .tc main_arg0) = m (d.tc.loc main_arg0) := by
  unfold V3
  after_reads_simp
  rw [V2_of_ne m d main_arg0 (by decide), V1_arg0]

theorem V3_arg1 : V3 m d (Proc.devRef .tc main_arg1) = m (d.tc.loc main_arg1) := by
  unfold V3
  after_reads_simp
  rw [V2_of_ne m d main_arg1 (by decide), V1_arg1]

theorem V3_arg2 : V3 m d (Proc.devRef .tc main_arg2) = m (d.tc.loc main_arg2) := by
  unfold V3
  after_reads_simp
  rw [V2_of_ne m d main_arg2 (by decide)]
  exact ixM_eq m d

/-- THE LOOKUP'S RUN: its result, its arguments unchanged, its semaphores at rest. -/
theorem run_lookup [∀ e, Nonempty (Elt F e)] (ρ : Dev nD → PrngReg) (hI : ∀ d j, (I m d j).toNat < 4096) :
    θ_run (Cert.LookupIdeal.defs (F := F)) (Cert.LookupIdeal.threads (F := F)) ⟨m, fun _ => 0, ρ⟩ fun r =>
    (∀ c : Dev nD, r.2.mem (c.tc.loc main_v6) = lookV (X m c) (C m c) (I m c)
      ∧ r.2.mem (c.tc.loc main_arg0) = m (c.tc.loc main_arg0) ∧ r.2.mem (c.tc.loc main_arg1) = m (c.tc.loc main_arg1)
      ∧ r.2.mem (c.tc.loc main_arg2) = m (c.tc.loc main_arg2))
    ∧ r.2.sem = fun _ => 0 := by
  refine θ_run_mono (run_main m ρ (fun d j => by rw [ixM_eq]; exact hI d j)) fun r h => ⟨fun c => ?_, h.2⟩
  have hb : ∀ b : Ref sig .tc, Proc.devRef .tc b ∈ Pipeline.ucRefs τ sig → r.2.mem (c.tc.loc b) = V3 m c (Proc.devRef .tc b) :=
    fun b hb => h.1 c _ hb
  exact ⟨(hb main_v6 (by decide)).trans (V3_v6 m c (hI c)), (hb main_arg0 (by decide)).trans (V3_arg0 m c),
    (hb main_arg1 (by decide)).trans (V3_arg1 m c), (hb main_arg2 (by decide)).trans (V3_arg2 m c)⟩

/-- The reference's result is the lookup. -/
theorem reference_eq (X : FVec F S4x16384x4 .f32) (C : FVec F S4096x4 .f32) (I : IVec S65536 32) (hI : ∀ j, (I j).toNat < 4096) :
    Ref.quantT (F := F) X (Ref.takeT (F := F) C I) = lookV X C I := by
  funext i
  idx_vars i
  have h0 := i0.isLt
  have h1 := i1.isLt
  have hj : (⟨i0.val * 16384 + i1.val, by omega⟩ : Fin 65536) = Fin.ofNat 65536 (i0.val * 16384 + i1.val) :=
    Fin.ext (Nat.mod_eq_of_lt (by omega)).symm
  have hb := hI (ix1 (Fin.ofNat 65536 (i0.val * 16384 + i1.val)))
  have ht := Ref.takeT_apply (F := F) C I (Fin.ofNat 65536 (i0.val * 16384 + i1.val)) i2 _ hb (by simp)
  have hq : Ref.quantT (F := F) X (Ref.takeT (F := F) C I) (ix3 i0 i1 i2)
      = FloatOps.addf (X (ix3 i0 i1 i2)) (FloatOps.subf (Ref.takeT (F := F) C I (ix2 ⟨i0.val * 16384 + i1.val, by omega⟩ i2)) (X (ix3 i0 i1 i2))) := by
    generalize Ref.takeT (F := F) C I = Q
    unfold Ref.quantT
    pointwise
  rw [hq, hj, ht]
  unfold lookV
  refine congrArg (fun a => FloatOps.addf (X (ix3 i0 i1 i2)) (FloatOps.subf (C (ix2 a i2)) (X (ix3 i0 i1 i2)))) (Fin.ext ?_)
  exact (Nat.mod_eq_of_lt hb).symm

end Cert.Proof.Look

end
-- ==== Proof.lean ====
/-
  The certificate's claims. Of the whole kernel: its frame, its reference's frame, and that over extended reals both compute the same three
  results of finite arguments. Of the lookup, its SparseCore call: the frames, and that it computes what its reference does, bit for bit and
  over extended reals.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_finite
public import proofs.«01_k».proof.Proof.Gen.Pre_rows
public import proofs.«01_k».proof.Proof.Gen.LookupIdeal
public import proofs.«01_k».proof.Proof.Gen.LookupIdeal.Skeleton
public import proofs.«01_k».proof.Proof.Gen.Lookup
public import proofs.«01_k».proof.Proof.Gen.LookupReferenceIdeal
public import proofs.«01_k».proof.Proof.Gen.LookupReference
public import proofs.«01_k».proof.Proof.Final
public import proofs.«01_k».proof.Proof.RefValue
public import proofs.«01_k».proof.Proof.Finite
public import proofs.«01_k».proof.Proof.LookFinal
public import proofs.«01_k».proof.Proof.LookRef
public import Idealize.ShloMosaic.Adequacy
public import Idealize.ShloMosaic.Init

@[expose] public section

noncomputable section

namespace Cert.Proof

open Idealize.ShloMosaic Idealize.SL.Sem

/-- The kernel's frame, read off its run. -/
theorem frame_kernel : Cert.quiescent_KernelIdeal := fun m ρ _ =>
  θ_run_mono (Final.run_kernel m ρ) fun _ h => ⟨fun c => (h.1 c).2.2.2, h.2⟩

/-- The reference's frame, read off its run. -/
theorem frame_reference : Cert.quiescent_ReferenceIdeal := fun m ρ _ =>
  θ_run_mono (Ref.run_reference m ρ) fun _ h => ⟨fun c => (h.1 c).2.2.2, h.2⟩

/-- The kernel and the reference compute the same three results of the same finite arguments. -/
theorem algebraic_kernel : Cert.algebraic_KernelIdeal_ReferenceIdeal_pre_finite := by
  intro m ρ m' ρ' hpre hagree
  refine ⟨fun c => Spec.quantV (Final.X m c) (Final.C m c), fun c => Spec.idxV (Final.X m c) (Final.C m c),
    fun c => (fun _ => Spec.lossV (Final.X m c) (Final.C m c)), ?_, ?_⟩
  · exact θ_run_mono (Final.run_kernel m ρ) fun _ h c => h.1 c
  · refine θ_run_mono (Ref.run_reference m' ρ') fun r h c => ?_
    obtain ⟨hX, hC⟩ := Finite.entries _ _ (hpre c)
    obtain ⟨h1, h2, h3, h4⟩ := h.1 c
    rw [(hagree c).1, (hagree c).2] at h1 h2 h3
    exact ⟨h1.trans (Ref.quant_eq _ _), h2.trans (Ref.idx_eq _ _), h3.trans (Ref.loss_eq _ _ hX hC), h4⟩

/-- The lookup's indices, of a launch memory of which the precondition holds, at both instances. -/
theorem rows_ideal (m) (h : Cert.Pre_LookupIdeal m) (d) (j) : (Look.I m d j).toNat < 4096 := Look.rows_lt _ _ _ (h d) j
theorem rows_bits (m) (h : Cert.Pre_Lookup m) (d) (j) : (Look.I (F := Bits) m d j).toNat < 4096 := Look.rows_lt _ _ _ (h d) j

/-- The lookup's frame, at the ideal instance and over bits: one run, for any float values. -/
theorem frame_lookup_ideal : Cert.quiescent_LookupIdeal := fun m ρ hpre =>
  θ_run_mono (Look.run_lookup m ρ (rows_ideal m hpre)) fun _ h => ⟨fun c => (h.1 c).2, h.2⟩

theorem frame_lookup : Cert.quiescent_Lookup := fun m ρ hpre =>
  θ_run_mono (Look.run_lookup (F := Bits) m ρ (rows_bits m hpre)) fun _ h => ⟨fun c => (h.1 c).2, h.2⟩

/-- The frame of the lookup's reference, likewise. -/
theorem frame_lookup_reference_ideal : Cert.quiescent_LookupReferenceIdeal := fun m ρ _ =>
  θ_run_mono (LookRef.run_lookup_reference m ρ) fun _ h => ⟨fun c => (h.1 c).2, h.2⟩

theorem frame_lookup_reference : Cert.quiescent_LookupReference := fun m ρ _ =>
  θ_run_mono (LookRef.run_lookup_reference (F := Bits) m ρ) fun _ h => ⟨fun c => (h.1 c).2, h.2⟩

/-- The lookup and its reference end with the same result, bit for bit. -/
theorem bitexact_lookup : Cert.bitexact_Lookup_LookupReference := by
  intro m ρ m' ρ' hpre hagree
  have hI := rows_bits m hpre
  refine ⟨fun c => Look.lookV (F := Bits) (Look.X m c) (Look.C m c) (Look.I (F := Bits) m c),
    θ_run_mono (Look.run_lookup (F := Bits) m ρ hI) fun _ h c => h.1 c,
    θ_run_mono (LookRef.run_lookup_reference (F := Bits) m' ρ') fun r h c => ?_⟩
  obtain ⟨h1, h2⟩ := h.1 c
  rw [(hagree c).1, (hagree c).2.1, (hagree c).2.2] at h1
  exact ⟨h1.trans (Look.reference_eq (F := Bits) _ _ _ (hI c)), h2⟩

/-- The same over extended reals. -/
theorem algebraic_lookup : Cert.algebraic_LookupIdeal_LookupReferenceIdeal := by
  intro m ρ m' ρ' hpre hagree
  have hI := rows_ideal m hpre
  refine ⟨fun c => Look.lookV (Look.X m c) (Look.C m c) (Look.I m c),
    θ_run_mono (Look.run_lookup m ρ hI) fun _ h c => h.1 c,
    θ_run_mono (LookRef.run_lookup_reference m' ρ') fun r h c => ?_⟩
  obtain ⟨h1, h2⟩ := h.1 c
  rw [(hagree c).1, (hagree c).2.1, (hagree c).2.2] at h1
  exact ⟨h1.trans (Look.reference_eq _ _ _ (hI c)), h2⟩

theorem claim : Cert.Claim := ⟨Cert.KernelIdeal.Gen.facts, Cert.ReferenceIdeal.Gen.facts, Cert.Lookup.Gen.facts, Cert.LookupIdeal.Gen.facts,
  Cert.LookupReferenceIdeal.Gen.facts, Cert.LookupReference.Gen.facts, Cert.Pre_finite.Gen.facts, Cert.Pre_rows.Gen.facts,
  frame_kernel, fun m ρ _ => frame_kernel m ρ trivial, frame_reference, fun m ρ _ => frame_reference m ρ trivial,
  frame_lookup, frame_lookup_ideal, frame_lookup_reference_ideal, fun m ρ _ => frame_lookup_reference_ideal m ρ trivial, frame_lookup_reference,
  algebraic_kernel, trivial, bitexact_lookup, algebraic_lookup⟩

end Cert.Proof

end
